-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DwPair (m : (ℓ : Loc Cert.DwPair.nD Cert.DwPair.τ Cert.DwPair.sig) → Buf (Elt Bits) ℓ) : Prop :=
  True

def Pre_DwPairIdeal (m : (ℓ : Loc Cert.DwPairIdeal.nD Cert.DwPairIdeal.τ Cert.DwPairIdeal.sig) → Buf (Elt Ideal) ℓ) : Prop :=
  True

def Pre_DwPairReferenceIdeal (m : (ℓ : Loc Cert.DwPairReferenceIdeal.nD Cert.DwPairReferenceIdeal.τ Cert.DwPairReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Stream (m : (ℓ : Loc Cert.Stream.nD Cert.Stream.τ Cert.Stream.sig) → Buf (Elt Bits) ℓ) : Prop :=
  True

def Pre_StreamIdeal (m : (ℓ : Loc Cert.StreamIdeal.nD Cert.StreamIdeal.τ Cert.StreamIdeal.sig) → Buf (Elt Ideal) ℓ) : Prop :=
  True

def Pre_StreamIdeal_finite [hPre_finite : Cert.Pre_finite.Facts] (m : (ℓ : Loc Cert.StreamIdeal.nD Cert.StreamIdeal.τ Cert.StreamIdeal.sig) → Buf (Elt Ideal) ℓ) : Prop :=
  ∀ c : Dev Cert.StreamIdeal.nD,
    (Cert.Pre_finite.fn (F := Ideal) (m ((c.tc : Thread Cert.StreamIdeal.nD Cert.StreamIdeal.τ).loc Cert.StreamIdeal.main_arg0)) (m ((c.tc : Thread Cert.StreamIdeal.nD Cert.StreamIdeal.τ).loc Cert.StreamIdeal.main_arg1)) (m ((c.tc : Thread Cert.StreamIdeal.nD Cert.StreamIdeal.τ).loc Cert.StreamIdeal.main_arg2)) (m ((c.tc : Thread Cert.StreamIdeal.nD Cert.StreamIdeal.τ).loc Cert.StreamIdeal.main_arg3)) (m ((c.tc : Thread Cert.StreamIdeal.nD Cert.StreamIdeal.τ).loc Cert.StreamIdeal.main_arg4)) (m ((c.tc : Thread Cert.StreamIdeal.nD Cert.StreamIdeal.τ).loc Cert.StreamIdeal.main_arg5)) (m ((c.tc : Thread Cert.StreamIdeal.nD Cert.StreamIdeal.τ).loc Cert.StreamIdeal.main_arg6)) (m ((c.tc : Thread Cert.StreamIdeal.nD Cert.StreamIdeal.τ).loc Cert.StreamIdeal.main_arg7))) = (fun _ => 1#1)

def Pre_StreamReferenceIdeal (m : (ℓ : Loc Cert.StreamReferenceIdeal.nD Cert.StreamReferenceIdeal.τ Cert.StreamReferenceIdeal.sig) → Buf (Elt Ideal) ℓ) : Prop :=
  True

def Pre_StreamReferenceIdeal_finite [hPre_finite : Cert.Pre_finite.Facts] (m : (ℓ : Loc Cert.StreamReferenceIdeal.nD Cert.StreamReferenceIdeal.τ Cert.StreamReferenceIdeal.sig) → Buf (Elt Ideal) ℓ) : Prop :=
  ∀ c : Dev Cert.StreamReferenceIdeal.nD,
    (Cert.Pre_finite.fn (F := Ideal) (m ((c.tc : Thread Cert.StreamReferenceIdeal.nD Cert.StreamReferenceIdeal.τ).loc Cert.StreamReferenceIdeal.main_arg0)) (m ((c.tc : Thread Cert.StreamReferenceIdeal.nD Cert.StreamReferenceIdeal.τ).loc Cert.StreamReferenceIdeal.main_arg1)) (m ((c.tc : Thread Cert.StreamReferenceIdeal.nD Cert.StreamReferenceIdeal.τ).loc Cert.StreamReferenceIdeal.main_arg2)) (m ((c.tc : Thread Cert.StreamReferenceIdeal.nD Cert.StreamReferenceIdeal.τ).loc Cert.StreamReferenceIdeal.main_arg3)) (m ((c.tc : Thread Cert.StreamReferenceIdeal.nD Cert.StreamReferenceIdeal.τ).loc Cert.StreamReferenceIdeal.main_arg4)) (m ((c.tc : Thread Cert.StreamReferenceIdeal.nD Cert.StreamReferenceIdeal.τ).loc Cert.StreamReferenceIdeal.main_arg5)) (m ((c.tc : Thread Cert.StreamReferenceIdeal.nD Cert.StreamReferenceIdeal.τ).loc Cert.StreamReferenceIdeal.main_arg6)) (m ((c.tc : Thread Cert.StreamReferenceIdeal.nD Cert.StreamReferenceIdeal.τ).loc Cert.StreamReferenceIdeal.main_arg7))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_scores [hPre_finite_scores : Cert.Pre_finite_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_scores [hPre_finite_scores : Cert.Pre_finite_scores.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_scores.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_DwPair [hDwPair : Cert.DwPair.Facts] : Prop :=
  ∀ (m : (ℓ : Loc Cert.DwPair.nD Cert.DwPair.τ Cert.DwPair.sig) → Buf (Elt Bits) ℓ) (g : Dev Cert.DwPair.nD → PrngReg), Pre_DwPair m →
    θ_run (Cert.DwPair.defs (F := Bits)) (onTc (τ := Cert.DwPair.τ) (Cert.DwPair.main (F := Bits))) ⟨m, fun _ => 0, g⟩ (fun r => (∀ c : Dev Cert.DwPair.nD,
      r.2.mem ((c.tc : Thread Cert.DwPair.nD Cert.DwPair.τ).loc Cert.DwPair.main_arg0) = m ((c.tc : Thread Cert.DwPair.nD Cert.DwPair.τ).loc Cert.DwPair.main_arg0)
      ∧ r.2.mem ((c.tc : Thread Cert.DwPair.nD Cert.DwPair.τ).loc Cert.DwPair.main_arg1) = m ((c.tc : Thread Cert.DwPair.nD Cert.DwPair.τ).loc Cert.DwPair.main_arg1))
      ∧ r.2.sem = fun _ => 0)

def quiescent_DwPairIdeal [hDwPairIdeal : Cert.DwPairIdeal.Facts] : Prop :=
  ∀ (m : (ℓ : Loc Cert.DwPairIdeal.nD Cert.DwPairIdeal.τ Cert.DwPairIdeal.sig) → Buf (Elt Ideal) ℓ) (g : Dev Cert.DwPairIdeal.nD → PrngReg), Pre_DwPairIdeal m →
    θ_run (Cert.DwPairIdeal.defs (F := Ideal)) (onTc (τ := Cert.DwPairIdeal.τ) (Cert.DwPairIdeal.main (F := Ideal))) ⟨m, fun _ => 0, g⟩ (fun r => (∀ c : Dev Cert.DwPairIdeal.nD,
      r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
      ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1))
      ∧ r.2.sem = fun _ => 0)

def quiescent_DwPairReferenceIdeal [hDwPairReferenceIdeal : Cert.DwPairReferenceIdeal.Facts] : Prop :=
  ∀ (m : (ℓ : Loc Cert.DwPairReferenceIdeal.nD Cert.DwPairReferenceIdeal.τ Cert.DwPairReferenceIdeal.sig) → Buf (Elt Ideal) ℓ) (g : Dev Cert.DwPairReferenceIdeal.nD → PrngReg), Pre_DwPairReferenceIdeal m →
    θ_run (Cert.DwPairReferenceIdeal.defs (F := Ideal)) (onTc (τ := Cert.DwPairReferenceIdeal.τ) (Cert.DwPairReferenceIdeal.main (F := Ideal))) ⟨m, fun _ => 0, g⟩ (fun r => (∀ c : Dev Cert.DwPairReferenceIdeal.nD,
      r.2.mem ((c.tc : Thread Cert.DwPairReferenceIdeal.nD Cert.DwPairReferenceIdeal.τ).loc Cert.DwPairReferenceIdeal.main_arg0) = m ((c.tc : Thread Cert.DwPairReferenceIdeal.nD Cert.DwPairReferenceIdeal.τ).loc Cert.DwPairReferenceIdeal.main_arg0)
      ∧ r.2.mem ((c.tc : Thread Cert.DwPairReferenceIdeal.nD Cert.DwPairReferenceIdeal.τ).loc Cert.DwPairReferenceIdeal.main_arg1) = m ((c.tc : Thread Cert.DwPairReferenceIdeal.nD Cert.DwPairReferenceIdeal.τ).loc Cert.DwPairReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Stream [hStream : Cert.Stream.Facts] : Prop :=
  ∀ (m : (ℓ : Loc Cert.Stream.nD Cert.Stream.τ Cert.Stream.sig) → Buf (Elt Bits) ℓ) (g : Dev Cert.Stream.nD → PrngReg), Pre_Stream m →
    θ_run (Cert.Stream.defs (F := Bits)) (onTc (τ := Cert.Stream.τ) (Cert.Stream.main (F := Bits))) ⟨m, fun _ => 0, g⟩ (fun r => (∀ c : Dev Cert.Stream.nD,
      r.2.mem ((c.tc : Thread Cert.Stream.nD Cert.Stream.τ).loc Cert.Stream.main_arg0) = m ((c.tc : Thread Cert.Stream.nD Cert.Stream.τ).loc Cert.Stream.main_arg0)
      ∧ r.2.mem ((c.tc : Thread Cert.Stream.nD Cert.Stream.τ).loc Cert.Stream.main_arg1) = m ((c.tc : Thread Cert.Stream.nD Cert.Stream.τ).loc Cert.Stream.main_arg1)
      ∧ r.2.mem ((c.tc : Thread Cert.Stream.nD Cert.Stream.τ).loc Cert.Stream.main_arg2) = m ((c.tc : Thread Cert.Stream.nD Cert.Stream.τ).loc Cert.Stream.main_arg2)
      ∧ r.2.mem ((c.tc : Thread Cert.Stream.nD Cert.Stream.τ).loc Cert.Stream.main_arg3) = m ((c.tc : Thread Cert.Stream.nD Cert.Stream.τ).loc Cert.Stream.main_arg3)
      ∧ r.2.mem ((c.tc : Thread Cert.Stream.nD Cert.Stream.τ).loc Cert.Stream.main_arg4) = m ((c.tc : Thread Cert.Stream.nD Cert.Stream.τ).loc Cert.Stream.main_arg4)
      ∧ r.2.mem ((c.tc : Thread Cert.Stream.nD Cert.Stream.τ).loc Cert.Stream.main_arg5) = m ((c.tc : Thread Cert.Stream.nD Cert.Stream.τ).loc Cert.Stream.main_arg5)
      ∧ r.2.mem ((c.tc : Thread Cert.Stream.nD Cert.Stream.τ).loc Cert.Stream.main_arg6) = m ((c.tc : Thread Cert.Stream.nD Cert.Stream.τ).loc Cert.Stream.main_arg6)
      ∧ r.2.mem ((c.tc : Thread Cert.Stream.nD Cert.Stream.τ).loc Cert.Stream.main_arg7) = m ((c.tc : Thread Cert.Stream.nD Cert.Stream.τ).loc Cert.Stream.main_arg7))
      ∧ r.2.sem = fun _ => 0)

def quiescent_StreamIdeal [hStreamIdeal : Cert.StreamIdeal.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
      ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
      ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
      ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ r.2.sem = fun _ => 0)

def quiescent_StreamIdeal_pre_finite [hStreamIdeal : Cert.StreamIdeal.Facts] [hPre_finite : Cert.Pre_finite.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal_finite m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
      ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
      ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
      ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
      ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
      ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
      ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ r.2.sem = fun _ => 0)

def quiescent_StreamReferenceIdeal [hStreamReferenceIdeal : Cert.StreamReferenceIdeal.Facts] : Prop :=
  ∀ (m : (ℓ : Loc Cert.StreamReferenceIdeal.nD Cert.StreamReferenceIdeal.τ Cert.StreamReferenceIdeal.sig) → Buf (Elt Ideal) ℓ) (g : Dev Cert.StreamReferenceIdeal.nD → PrngReg), Pre_StreamReferenceIdeal m →
    θ_run (Cert.StreamReferenceIdeal.defs (F := Ideal)) (onTc (τ := Cert.StreamReferenceIdeal.τ) (Cert.StreamReferenceIdeal.main (F := Ideal))) ⟨m, fun _ => 0, g⟩ (fun r => (∀ c : Dev Cert.StreamReferenceIdeal.nD,
      r.2.mem ((c.tc : Thread Cert.StreamReferenceIdeal.nD Cert.StreamReferenceIdeal.τ).loc Cert.StreamReferenceIdeal.main_arg0) = m ((c.tc : Thread Cert.StreamReferenceIdeal.nD Cert.StreamReferenceIdeal.τ).loc Cert.StreamReferenceIdeal.main_arg0)
      ∧ r.2.mem ((c.tc : Thread Cert.StreamReferenceIdeal.nD Cert.StreamReferenceIdeal.τ).loc Cert.StreamReferenceIdeal.main_arg1) = m ((c.tc : Thread Cert.StreamReferenceIdeal.nD Cert.StreamReferenceIdeal.τ).loc Cert.StreamReferenceIdeal.main_arg1)
      ∧ r.2.mem ((c.tc : Thread Cert.StreamReferenceIdeal.nD Cert.StreamReferenceIdeal.τ).loc Cert.StreamReferenceIdeal.main_arg2) = m ((c.tc : Thread Cert.StreamReferenceIdeal.nD Cert.StreamReferenceIdeal.τ).loc Cert.StreamReferenceIdeal.main_arg2)
      ∧ r.2.mem ((c.tc : Thread Cert.StreamReferenceIdeal.nD Cert.StreamReferenceIdeal.τ).loc Cert.StreamReferenceIdeal.main_arg3) = m ((c.tc : Thread Cert.StreamReferenceIdeal.nD Cert.StreamReferenceIdeal.τ).loc Cert.StreamReferenceIdeal.main_arg3)
      ∧ r.2.mem ((c.tc : Thread Cert.StreamReferenceIdeal.nD Cert.StreamReferenceIdeal.τ).loc Cert.StreamReferenceIdeal.main_arg4) = m ((c.tc : Thread Cert.StreamReferenceIdeal.nD Cert.StreamReferenceIdeal.τ).loc Cert.StreamReferenceIdeal.main_arg4)
      ∧ r.2.mem ((c.tc : Thread Cert.StreamReferenceIdeal.nD Cert.StreamReferenceIdeal.τ).loc Cert.StreamReferenceIdeal.main_arg5) = m ((c.tc : Thread Cert.StreamReferenceIdeal.nD Cert.StreamReferenceIdeal.τ).loc Cert.StreamReferenceIdeal.main_arg5)
      ∧ r.2.mem ((c.tc : Thread Cert.StreamReferenceIdeal.nD Cert.StreamReferenceIdeal.τ).loc Cert.StreamReferenceIdeal.main_arg6) = m ((c.tc : Thread Cert.StreamReferenceIdeal.nD Cert.StreamReferenceIdeal.τ).loc Cert.StreamReferenceIdeal.main_arg6)
      ∧ r.2.mem ((c.tc : Thread Cert.StreamReferenceIdeal.nD Cert.StreamReferenceIdeal.τ).loc Cert.StreamReferenceIdeal.main_arg7) = m ((c.tc : Thread Cert.StreamReferenceIdeal.nD Cert.StreamReferenceIdeal.τ).loc Cert.StreamReferenceIdeal.main_arg7))
      ∧ r.2.sem = fun _ => 0)

def quiescent_StreamReferenceIdeal_pre_finite [hStreamReferenceIdeal : Cert.StreamReferenceIdeal.Facts] [hPre_finite : Cert.Pre_finite.Facts] : Prop :=
  ∀ (m : (ℓ : Loc Cert.StreamReferenceIdeal.nD Cert.StreamReferenceIdeal.τ Cert.StreamReferenceIdeal.sig) → Buf (Elt Ideal) ℓ) (g : Dev Cert.StreamReferenceIdeal.nD → PrngReg), Pre_StreamReferenceIdeal_finite m →
    θ_run (Cert.StreamReferenceIdeal.defs (F := Ideal)) (onTc (τ := Cert.StreamReferenceIdeal.τ) (Cert.StreamReferenceIdeal.main (F := Ideal))) ⟨m, fun _ => 0, g⟩ (fun r => (∀ c : Dev Cert.StreamReferenceIdeal.nD,
      r.2.mem ((c.tc : Thread Cert.StreamReferenceIdeal.nD Cert.StreamReferenceIdeal.τ).loc Cert.StreamReferenceIdeal.main_arg0) = m ((c.tc : Thread Cert.StreamReferenceIdeal.nD Cert.StreamReferenceIdeal.τ).loc Cert.StreamReferenceIdeal.main_arg0)
      ∧ r.2.mem ((c.tc : Thread Cert.StreamReferenceIdeal.nD Cert.StreamReferenceIdeal.τ).loc Cert.StreamReferenceIdeal.main_arg1) = m ((c.tc : Thread Cert.StreamReferenceIdeal.nD Cert.StreamReferenceIdeal.τ).loc Cert.StreamReferenceIdeal.main_arg1)
      ∧ r.2.mem ((c.tc : Thread Cert.StreamReferenceIdeal.nD Cert.StreamReferenceIdeal.τ).loc Cert.StreamReferenceIdeal.main_arg2) = m ((c.tc : Thread Cert.StreamReferenceIdeal.nD Cert.StreamReferenceIdeal.τ).loc Cert.StreamReferenceIdeal.main_arg2)
      ∧ r.2.mem ((c.tc : Thread Cert.StreamReferenceIdeal.nD Cert.StreamReferenceIdeal.τ).loc Cert.StreamReferenceIdeal.main_arg3) = m ((c.tc : Thread Cert.StreamReferenceIdeal.nD Cert.StreamReferenceIdeal.τ).loc Cert.StreamReferenceIdeal.main_arg3)
      ∧ r.2.mem ((c.tc : Thread Cert.StreamReferenceIdeal.nD Cert.StreamReferenceIdeal.τ).loc Cert.StreamReferenceIdeal.main_arg4) = m ((c.tc : Thread Cert.StreamReferenceIdeal.nD Cert.StreamReferenceIdeal.τ).loc Cert.StreamReferenceIdeal.main_arg4)
      ∧ r.2.mem ((c.tc : Thread Cert.StreamReferenceIdeal.nD Cert.StreamReferenceIdeal.τ).loc Cert.StreamReferenceIdeal.main_arg5) = m ((c.tc : Thread Cert.StreamReferenceIdeal.nD Cert.StreamReferenceIdeal.τ).loc Cert.StreamReferenceIdeal.main_arg5)
      ∧ r.2.mem ((c.tc : Thread Cert.StreamReferenceIdeal.nD Cert.StreamReferenceIdeal.τ).loc Cert.StreamReferenceIdeal.main_arg6) = m ((c.tc : Thread Cert.StreamReferenceIdeal.nD Cert.StreamReferenceIdeal.τ).loc Cert.StreamReferenceIdeal.main_arg6)
      ∧ r.2.mem ((c.tc : Thread Cert.StreamReferenceIdeal.nD Cert.StreamReferenceIdeal.τ).loc Cert.StreamReferenceIdeal.main_arg7) = m ((c.tc : Thread Cert.StreamReferenceIdeal.nD Cert.StreamReferenceIdeal.τ).loc Cert.StreamReferenceIdeal.main_arg7))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_scores [hAttnFwdIdeal : Cert.AttnFwdIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite_scores [hAttnFwdReferenceIdeal : Cert.AttnFwdReferenceIdeal.Facts] [hPre_finite_scores : Cert.Pre_finite_scores.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_scores m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def preserves_Kernel_KernelIdeal : Prop :=
  IdealRules.named_const.Statement Cert.KernelIdeal.κ "slope1" .f32 0x3F3504F3#32 (((Real.sqrt 2)⁻¹ : ℝ) : EReal)
  ∧ IdealRules.named_const.Statement Cert.KernelIdeal.κ "slope3" .f32 0x3EB504F3#32 (((Real.sqrt 8)⁻¹ : ℝ) : EReal)
  ∧ IdealRules.named_const.Statement Cert.KernelIdeal.κ "slope5" .f32 0x3E3504F3#32 (((Real.sqrt 32)⁻¹ : ℝ) : EReal)
  ∧ IdealRules.named_const.Statement Cert.KernelIdeal.κ "slope7" .f32 0x3DB504F3#32 (((Real.sqrt 128)⁻¹ : ℝ) : EReal)
  ∧ IdealRules.named_const.Statement Cert.KernelIdeal.κ "slope9" .f32 0x3D3504F3#32 (((Real.sqrt 512)⁻¹ : ℝ) : EReal)
  ∧ IdealRules.named_const.Statement Cert.KernelIdeal.κ "slope11" .f32 0x3CB504F3#32 (((Real.sqrt 2048)⁻¹ : ℝ) : EReal)
  ∧ IdealRules.named_const.Statement Cert.KernelIdeal.κ "slope13" .f32 0x3C3504F3#32 (((Real.sqrt 8192)⁻¹ : ℝ) : EReal)
  ∧ IdealRules.named_const.Statement Cert.KernelIdeal.κ "slope15" .f32 0x3BB504F3#32 (((Real.sqrt 32768)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v3) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_DwPair_DwPairIdeal : Prop :=
  True

def algebraic_DwPairIdeal_DwPairReferenceIdeal [hDwPairIdeal : Cert.DwPairIdeal.Facts] [hDwPairReferenceIdeal : Cert.DwPairReferenceIdeal.Facts] : Prop :=
  ∀ (m : (ℓ : Loc Cert.DwPairIdeal.nD Cert.DwPairIdeal.τ Cert.DwPairIdeal.sig) → Buf (Elt Ideal) ℓ) (g : Dev Cert.DwPairIdeal.nD → PrngReg)
    (m' : (ℓ : Loc Cert.DwPairReferenceIdeal.nD Cert.DwPairReferenceIdeal.τ Cert.DwPairReferenceIdeal.sig) → Buf (Elt Ideal) ℓ) (g' : Dev Cert.DwPairReferenceIdeal.nD → PrngReg), Pre_DwPairIdeal m →
    (∀ c : Dev Cert.DwPairIdeal.nD,
      m' ((c.tc : Thread Cert.DwPairReferenceIdeal.nD Cert.DwPairReferenceIdeal.τ).loc Cert.DwPairReferenceIdeal.main_arg0) = m ((c.tc : Thread Cert.DwPairIdeal.nD Cert.DwPairIdeal.τ).loc Cert.DwPairIdeal.main_arg0)
      ∧ m' ((c.tc : Thread Cert.DwPairReferenceIdeal.nD Cert.DwPairReferenceIdeal.τ).loc Cert.DwPairReferenceIdeal.main_arg1) = m ((c.tc : Thread Cert.DwPairIdeal.nD Cert.DwPairIdeal.τ).loc Cert.DwPairIdeal.main_arg1)) →
    ∃ (v0 : (c : Dev Cert.DwPairIdeal.nD) → Buf (Elt Ideal) ((c.tc : Thread Cert.DwPairIdeal.nD Cert.DwPairIdeal.τ).loc Cert.DwPairIdeal.main_v2)),
      θ_run (Cert.DwPairIdeal.defs (F := Ideal)) (onTc (τ := Cert.DwPairIdeal.τ) (Cert.DwPairIdeal.main (F := Ideal))) ⟨m, fun _ => 0, g⟩ (fun r => ∀ c : Dev Cert.DwPairIdeal.nD,
          r.2.mem ((c.tc : Thread Cert.DwPairIdeal.nD Cert.DwPairIdeal.τ).loc Cert.DwPairIdeal.main_v2) = v0 c
          ∧ r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
          ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1))
      ∧ θ_run (Cert.DwPairReferenceIdeal.defs (F := Ideal)) (onTc (τ := Cert.DwPairReferenceIdeal.τ) (Cert.DwPairReferenceIdeal.main (F := Ideal))) ⟨m', fun _ => 0, g'⟩ (fun r => ∀ c : Dev Cert.DwPairReferenceIdeal.nD,
          r.2.mem ((c.tc : Thread Cert.DwPairReferenceIdeal.nD Cert.DwPairReferenceIdeal.τ).loc Cert.DwPairReferenceIdeal.main_v3) = v0 c
          ∧ r.2.mem ((c.tc : Thread Cert.DwPairReferenceIdeal.nD Cert.DwPairReferenceIdeal.τ).loc Cert.DwPairReferenceIdeal.main_arg0) = m' ((c.tc : Thread Cert.DwPairReferenceIdeal.nD Cert.DwPairReferenceIdeal.τ).loc Cert.DwPairReferenceIdeal.main_arg0)
          ∧ r.2.mem ((c.tc : Thread Cert.DwPairReferenceIdeal.nD Cert.DwPairReferenceIdeal.τ).loc Cert.DwPairReferenceIdeal.main_arg1) = m' ((c.tc : Thread Cert.DwPairReferenceIdeal.nD Cert.DwPairReferenceIdeal.τ).loc Cert.DwPairReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v6) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v0) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Stream_StreamIdeal : Prop :=
  True

def algebraic_StreamIdeal_StreamReferenceIdeal_pre_finite [hStreamIdeal : Cert.StreamIdeal.Facts] [hStreamReferenceIdeal : Cert.StreamReferenceIdeal.Facts] [hPre_finite : Cert.Pre_finite.Facts] : Prop :=
  ∀ (m : (ℓ : Loc Cert.StreamIdeal.nD Cert.StreamIdeal.τ Cert.StreamIdeal.sig) → Buf (Elt Ideal) ℓ) (g : Dev Cert.StreamIdeal.nD → PrngReg)
    (m' : (ℓ : Loc Cert.StreamReferenceIdeal.nD Cert.StreamReferenceIdeal.τ Cert.StreamReferenceIdeal.sig) → Buf (Elt Ideal) ℓ) (g' : Dev Cert.StreamReferenceIdeal.nD → PrngReg), Pre_StreamIdeal_finite m →
    (∀ c : Dev Cert.StreamIdeal.nD,
      m' ((c.tc : Thread Cert.StreamReferenceIdeal.nD Cert.StreamReferenceIdeal.τ).loc Cert.StreamReferenceIdeal.main_arg0) = m ((c.tc : Thread Cert.StreamIdeal.nD Cert.StreamIdeal.τ).loc Cert.StreamIdeal.main_arg0)
      ∧ m' ((c.tc : Thread Cert.StreamReferenceIdeal.nD Cert.StreamReferenceIdeal.τ).loc Cert.StreamReferenceIdeal.main_arg1) = m ((c.tc : Thread Cert.StreamIdeal.nD Cert.StreamIdeal.τ).loc Cert.StreamIdeal.main_arg1)
      ∧ m' ((c.tc : Thread Cert.StreamReferenceIdeal.nD Cert.StreamReferenceIdeal.τ).loc Cert.StreamReferenceIdeal.main_arg2) = m ((c.tc : Thread Cert.StreamIdeal.nD Cert.StreamIdeal.τ).loc Cert.StreamIdeal.main_arg2)
      ∧ m' ((c.tc : Thread Cert.StreamReferenceIdeal.nD Cert.StreamReferenceIdeal.τ).loc Cert.StreamReferenceIdeal.main_arg3) = m ((c.tc : Thread Cert.StreamIdeal.nD Cert.StreamIdeal.τ).loc Cert.StreamIdeal.main_arg3)
      ∧ m' ((c.tc : Thread Cert.StreamReferenceIdeal.nD Cert.StreamReferenceIdeal.τ).loc Cert.StreamReferenceIdeal.main_arg4) = m ((c.tc : Thread Cert.StreamIdeal.nD Cert.StreamIdeal.τ).loc Cert.StreamIdeal.main_arg4)
      ∧ m' ((c.tc : Thread Cert.StreamReferenceIdeal.nD Cert.StreamReferenceIdeal.τ).loc Cert.StreamReferenceIdeal.main_arg5) = m ((c.tc : Thread Cert.StreamIdeal.nD Cert.StreamIdeal.τ).loc Cert.StreamIdeal.main_arg5)
      ∧ m' ((c.tc : Thread Cert.StreamReferenceIdeal.nD Cert.StreamReferenceIdeal.τ).loc Cert.StreamReferenceIdeal.main_arg6) = m ((c.tc : Thread Cert.StreamIdeal.nD Cert.StreamIdeal.τ).loc Cert.StreamIdeal.main_arg6)
      ∧ m' ((c.tc : Thread Cert.StreamReferenceIdeal.nD Cert.StreamReferenceIdeal.τ).loc Cert.StreamReferenceIdeal.main_arg7) = m ((c.tc : Thread Cert.StreamIdeal.nD Cert.StreamIdeal.τ).loc Cert.StreamIdeal.main_arg7)) →
    ∃ (v0 : (c : Dev Cert.StreamIdeal.nD) → Buf (Elt Ideal) ((c.tc : Thread Cert.StreamIdeal.nD Cert.StreamIdeal.τ).loc Cert.StreamIdeal.main_v65_0)) (v1 : (c : Dev Cert.StreamIdeal.nD) → Buf (Elt Ideal) ((c.tc : Thread Cert.StreamIdeal.nD Cert.StreamIdeal.τ).loc Cert.StreamIdeal.main_v65_1)) (v2 : (c : Dev Cert.StreamIdeal.nD) → Buf (Elt Ideal) ((c.tc : Thread Cert.StreamIdeal.nD Cert.StreamIdeal.τ).loc Cert.StreamIdeal.main_v65_2)),
      θ_run (Cert.StreamIdeal.defs (F := Ideal)) (onTc (τ := Cert.StreamIdeal.τ) (Cert.StreamIdeal.main (F := Ideal))) ⟨m, fun _ => 0, g⟩ (fun r => ∀ c : Dev Cert.StreamIdeal.nD,
          r.2.mem ((c.tc : Thread Cert.StreamIdeal.nD Cert.StreamIdeal.τ).loc Cert.StreamIdeal.main_v65_0) = v0 c
          ∧ r.2.mem ((c.tc : Thread Cert.StreamIdeal.nD Cert.StreamIdeal.τ).loc Cert.StreamIdeal.main_v65_1) = v1 c
          ∧ r.2.mem ((c.tc : Thread Cert.StreamIdeal.nD Cert.StreamIdeal.τ).loc Cert.StreamIdeal.main_v65_2) = v2 c
          ∧ r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
          ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1)
          ∧ r.2.mem ((c.tc : Thread Cert.StreamIdeal.nD Cert.StreamIdeal.τ).loc Cert.StreamIdeal.main_arg2) = m ((c.tc : Thread Cert.StreamIdeal.nD Cert.StreamIdeal.τ).loc Cert.StreamIdeal.main_arg2)
          ∧ r.2.mem ((c.tc : Thread Cert.StreamIdeal.nD Cert.StreamIdeal.τ).loc Cert.StreamIdeal.main_arg3) = m ((c.tc : Thread Cert.StreamIdeal.nD Cert.StreamIdeal.τ).loc Cert.StreamIdeal.main_arg3)
          ∧ r.2.mem ((c.tc : Thread Cert.StreamIdeal.nD Cert.StreamIdeal.τ).loc Cert.StreamIdeal.main_arg4) = m ((c.tc : Thread Cert.StreamIdeal.nD Cert.StreamIdeal.τ).loc Cert.StreamIdeal.main_arg4)
          ∧ r.2.mem ((c.tc : Thread Cert.StreamIdeal.nD Cert.StreamIdeal.τ).loc Cert.StreamIdeal.main_arg5) = m ((c.tc : Thread Cert.StreamIdeal.nD Cert.StreamIdeal.τ).loc Cert.StreamIdeal.main_arg5)
          ∧ r.2.mem ((c.tc : Thread Cert.StreamIdeal.nD Cert.StreamIdeal.τ).loc Cert.StreamIdeal.main_arg6) = m ((c.tc : Thread Cert.StreamIdeal.nD Cert.StreamIdeal.τ).loc Cert.StreamIdeal.main_arg6)
          ∧ r.2.mem ((c.tc : Thread Cert.StreamIdeal.nD Cert.StreamIdeal.τ).loc Cert.StreamIdeal.main_arg7) = m ((c.tc : Thread Cert.StreamIdeal.nD Cert.StreamIdeal.τ).loc Cert.StreamIdeal.main_arg7))
      ∧ θ_run (Cert.StreamReferenceIdeal.defs (F := Ideal)) (onTc (τ := Cert.StreamReferenceIdeal.τ) (Cert.StreamReferenceIdeal.main (F := Ideal))) ⟨m', fun _ => 0, g'⟩ (fun r => ∀ c : Dev Cert.StreamReferenceIdeal.nD,
          r.2.mem ((c.tc : Thread Cert.StreamReferenceIdeal.nD Cert.StreamReferenceIdeal.τ).loc Cert.StreamReferenceIdeal.main_v69) = v0 c
          ∧ r.2.mem ((c.tc : Thread Cert.StreamReferenceIdeal.nD Cert.StreamReferenceIdeal.τ).loc Cert.StreamReferenceIdeal.main_v73) = v1 c
          ∧ r.2.mem ((c.tc : Thread Cert.StreamReferenceIdeal.nD Cert.StreamReferenceIdeal.τ).loc Cert.StreamReferenceIdeal.main_v78) = v2 c
          ∧ r.2.mem ((c.tc : Thread Cert.StreamReferenceIdeal.nD Cert.StreamReferenceIdeal.τ).loc Cert.StreamReferenceIdeal.main_arg0) = m' ((c.tc : Thread Cert.StreamReferenceIdeal.nD Cert.StreamReferenceIdeal.τ).loc Cert.StreamReferenceIdeal.main_arg0)
          ∧ r.2.mem ((c.tc : Thread Cert.StreamReferenceIdeal.nD Cert.StreamReferenceIdeal.τ).loc Cert.StreamReferenceIdeal.main_arg1) = m' ((c.tc : Thread Cert.StreamReferenceIdeal.nD Cert.StreamReferenceIdeal.τ).loc Cert.StreamReferenceIdeal.main_arg1)
          ∧ r.2.mem ((c.tc : Thread Cert.StreamReferenceIdeal.nD Cert.StreamReferenceIdeal.τ).loc Cert.StreamReferenceIdeal.main_arg2) = m' ((c.tc : Thread Cert.StreamReferenceIdeal.nD Cert.StreamReferenceIdeal.τ).loc Cert.StreamReferenceIdeal.main_arg2)
          ∧ r.2.mem ((c.tc : Thread Cert.StreamReferenceIdeal.nD Cert.StreamReferenceIdeal.τ).loc Cert.StreamReferenceIdeal.main_arg3) = m' ((c.tc : Thread Cert.StreamReferenceIdeal.nD Cert.StreamReferenceIdeal.τ).loc Cert.StreamReferenceIdeal.main_arg3)
          ∧ r.2.mem ((c.tc : Thread Cert.StreamReferenceIdeal.nD Cert.StreamReferenceIdeal.τ).loc Cert.StreamReferenceIdeal.main_arg4) = m' ((c.tc : Thread Cert.StreamReferenceIdeal.nD Cert.StreamReferenceIdeal.τ).loc Cert.StreamReferenceIdeal.main_arg4)
          ∧ r.2.mem ((c.tc : Thread Cert.StreamReferenceIdeal.nD Cert.StreamReferenceIdeal.τ).loc Cert.StreamReferenceIdeal.main_arg5) = m' ((c.tc : Thread Cert.StreamReferenceIdeal.nD Cert.StreamReferenceIdeal.τ).loc Cert.StreamReferenceIdeal.main_arg5)
          ∧ r.2.mem ((c.tc : Thread Cert.StreamReferenceIdeal.nD Cert.StreamReferenceIdeal.τ).loc Cert.StreamReferenceIdeal.main_arg6) = m' ((c.tc : Thread Cert.StreamReferenceIdeal.nD Cert.StreamReferenceIdeal.τ).loc Cert.StreamReferenceIdeal.main_arg6)
          ∧ r.2.mem ((c.tc : Thread Cert.StreamReferenceIdeal.nD Cert.StreamReferenceIdeal.τ).loc Cert.StreamReferenceIdeal.main_arg7) = m' ((c.tc : Thread Cert.StreamReferenceIdeal.nD Cert.StreamReferenceIdeal.τ).loc Cert.StreamReferenceIdeal.main_arg7))

def preserves_AttnFwd_AttnFwdIdeal : Prop :=
  IdealRules.named_const.Statement Cert.AttnFwdIdeal.κ "slope1" .f32 0x3F3504F3#32 (((Real.sqrt 2)⁻¹ : ℝ) : EReal)
  ∧ IdealRules.named_const.Statement Cert.AttnFwdIdeal.κ "slope3" .f32 0x3EB504F3#32 (((Real.sqrt 8)⁻¹ : ℝ) : EReal)
  ∧ IdealRules.named_const.Statement Cert.AttnFwdIdeal.κ "slope5" .f32 0x3E3504F3#32 (((Real.sqrt 32)⁻¹ : ℝ) : EReal)
  ∧ IdealRules.named_const.Statement Cert.AttnFwdIdeal.κ "slope7" .f32 0x3DB504F3#32 (((Real.sqrt 128)⁻¹ : ℝ) : EReal)
  ∧ IdealRules.named_const.Statement Cert.AttnFwdIdeal.κ "slope9" .f32 0x3D3504F3#32 (((Real.sqrt 512)⁻¹ : ℝ) : EReal)
  ∧ IdealRules.named_const.Statement Cert.AttnFwdIdeal.κ "slope11" .f32 0x3CB504F3#32 (((Real.sqrt 2048)⁻¹ : ℝ) : EReal)
  ∧ IdealRules.named_const.Statement Cert.AttnFwdIdeal.κ "slope13" .f32 0x3C3504F3#32 (((Real.sqrt 8192)⁻¹ : ℝ) : EReal)
  ∧ IdealRules.named_const.Statement Cert.AttnFwdIdeal.κ "slope15" .f32 0x3BB504F3#32 (((Real.sqrt 32768)⁻¹ : ℝ) : EReal)

def algebraic_AttnFwdIdeal_AttnFwdReferenceIdeal_pre_finite_scores [hAttnFwdIdeal : Cert.AttnFwdIdeal.Facts] [hAttnFwdReferenceIdeal : Cert.AttnFwdReferenceIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_scores m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v13_0)) (v1 : (c : Dev Cert.AttnFwdIdeal.nD) → Buf (Elt Ideal) ((c.tc : Thread Cert.AttnFwdIdeal.nD Cert.AttnFwdIdeal.τ).loc Cert.AttnFwdIdeal.main_v13_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13_0) = v0 c
          ∧ r.2.mem ((c.tc : Thread Cert.AttnFwdIdeal.nD Cert.AttnFwdIdeal.τ).loc Cert.AttnFwdIdeal.main_v13_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v97) = v0 c
          ∧ r.2.mem ((c.tc : Thread Cert.AttnFwdReferenceIdeal.nD Cert.AttnFwdReferenceIdeal.τ).loc Cert.AttnFwdReferenceIdeal.main_v101) = v1 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def Claim : Prop :=
  ∃ (hKernel : Cert.Kernel.Facts) (hKernelIdeal : Cert.KernelIdeal.Facts) (hReferenceIdeal : Cert.ReferenceIdeal.Facts) (hDw : Cert.Dw.Facts) (hDwIdeal : Cert.DwIdeal.Facts) (hDwReferenceIdeal : Cert.DwReferenceIdeal.Facts) (hDwPair : Cert.DwPair.Facts) (hDwPairIdeal : Cert.DwPairIdeal.Facts) (hDwPairReferenceIdeal : Cert.DwPairReferenceIdeal.Facts) (hQkv : Cert.Qkv.Facts) (hQkvIdeal : Cert.QkvIdeal.Facts) (hQkvReferenceIdeal : Cert.QkvReferenceIdeal.Facts) (hGate : Cert.Gate.Facts) (hGateIdeal : Cert.GateIdeal.Facts) (hGateReferenceIdeal : Cert.GateReferenceIdeal.Facts) (hStream : Cert.Stream.Facts) (hStreamIdeal : Cert.StreamIdeal.Facts) (hStreamReferenceIdeal : Cert.StreamReferenceIdeal.Facts) (hAttnFwd : Cert.AttnFwd.Facts) (hAttnFwdIdeal : Cert.AttnFwdIdeal.Facts) (hAttnFwdReferenceIdeal : Cert.AttnFwdReferenceIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Dw (hDw := hDw)
    ∧ quiescent_DwIdeal (hDwIdeal := hDwIdeal)
    ∧ quiescent_DwReferenceIdeal (hDwReferenceIdeal := hDwReferenceIdeal)
    ∧ quiescent_DwPair (hDwPair := hDwPair)
    ∧ quiescent_DwPairIdeal (hDwPairIdeal := hDwPairIdeal)
    ∧ quiescent_DwPairReferenceIdeal (hDwPairReferenceIdeal := hDwPairReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Gate (hGate := hGate)
    ∧ quiescent_GateIdeal (hGateIdeal := hGateIdeal)
    ∧ quiescent_GateReferenceIdeal (hGateReferenceIdeal := hGateReferenceIdeal)
    ∧ quiescent_Stream (hStream := hStream)
    ∧ quiescent_StreamIdeal (hStreamIdeal := hStreamIdeal)
    ∧ quiescent_StreamIdeal_pre_finite (hStreamIdeal := hStreamIdeal) (hPre_finite := hPre_finite)
    ∧ quiescent_StreamReferenceIdeal (hStreamReferenceIdeal := hStreamReferenceIdeal)
    ∧ quiescent_StreamReferenceIdeal_pre_finite (hStreamReferenceIdeal := hStreamReferenceIdeal) (hPre_finite := hPre_finite)
    ∧ quiescent_AttnFwd (hAttnFwd := hAttnFwd)
    ∧ quiescent_AttnFwdIdeal (hAttnFwdIdeal := hAttnFwdIdeal)
    ∧ quiescent_AttnFwdIdeal_pre_finite_scores (hAttnFwdIdeal := hAttnFwdIdeal) (hPre_finite_scores := hPre_finite_scores)
    ∧ quiescent_AttnFwdReferenceIdeal (hAttnFwdReferenceIdeal := hAttnFwdReferenceIdeal)
    ∧ quiescent_AttnFwdReferenceIdeal_pre_finite_scores (hAttnFwdReferenceIdeal := hAttnFwdReferenceIdeal) (hPre_finite_scores := hPre_finite_scores)
    ∧ preserves_Kernel_KernelIdeal
    ∧ algebraic_KernelIdeal_ReferenceIdeal (hKernelIdeal := hKernelIdeal) (hReferenceIdeal := hReferenceIdeal)
    ∧ preserves_Dw_DwIdeal
    ∧ algebraic_DwIdeal_DwReferenceIdeal (hDwIdeal := hDwIdeal) (hDwReferenceIdeal := hDwReferenceIdeal)
    ∧ preserves_DwPair_DwPairIdeal
    ∧ algebraic_DwPairIdeal_DwPairReferenceIdeal (hDwPairIdeal := hDwPairIdeal) (hDwPairReferenceIdeal := hDwPairReferenceIdeal)
    ∧ preserves_Qkv_QkvIdeal
    ∧ algebraic_QkvIdeal_QkvReferenceIdeal (hQkvIdeal := hQkvIdeal) (hQkvReferenceIdeal := hQkvReferenceIdeal)
    ∧ preserves_Gate_GateIdeal
    ∧ algebraic_GateIdeal_GateReferenceIdeal (hGateIdeal := hGateIdeal) (hGateReferenceIdeal := hGateReferenceIdeal)
    ∧ preserves_Stream_StreamIdeal
    ∧ algebraic_StreamIdeal_StreamReferenceIdeal_pre_finite (hStreamIdeal := hStreamIdeal) (hStreamReferenceIdeal := hStreamReferenceIdeal) (hPre_finite := hPre_finite)
    ∧ preserves_AttnFwd_AttnFwdIdeal
    ∧ algebraic_AttnFwdIdeal_AttnFwdReferenceIdeal_pre_finite_scores (hAttnFwdIdeal := hAttnFwdIdeal) (hAttnFwdReferenceIdeal := hAttnFwdReferenceIdeal) (hPre_finite_scores := hPre_finite_scores)
-- ==== Pre_finite.lean ====
abbrev S16384x1024 : Shape := ⟨2, ![16384, 1024]⟩
abbrev S1024 : Shape := ⟨1, ![1024]⟩
abbrev S1024x4096 : Shape := ⟨2, ![1024, 4096]⟩
abbrev S1024x6144 : Shape := ⟨2, ![1024, 6144]⟩
abbrev S16384x4096 : Shape := ⟨2, ![16384, 4096]⟩
abbrev S16384x6144 : Shape := ⟨2, ![16384, 6144]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S16384x6144 : S_.BroadcastsInDim S16384x6144 (![] : Fin 0 → Fin S16384x6144.rank)
  reducesTo_S16384x6144_S_d0_1 : S16384x6144.ReducesTo [0, 1] S_

variable [Facts]

def fn_part1 {F : FTy → Type} [FloatOps F] (main_arg6 : FVec F S16384x4096 .f32) (main_arg7 : FVec F S16384x6144 .f32) (main_v14 : IVec S_ 1) (main_v15 : FVec F S16384x1024 .f32) (main_cst_5 : FVec F S_ .f32) : IVec S_ 1 :=
  let main_v16 : FVec F S16384x1024 .f32 := broadcastInDim S16384x1024 ![] bcast_S_S16384x1024 main_cst_5
  let main_v17 : IVec S16384x1024 1 := cmpf .olt main_v15 main_v16
  let main_c_6 : IVec S_ 1 := constantI S_ 1 1#1
  let main_v18 : IVec S_ 1 := (fun x v => Host.reduce IntOp.andi x v reducesTo_S16384x1024_S_d0_1 h_S_) main_v17 main_c_6
  let main_v19 : IVec S_ 1 := andi main_v14 main_v18
  let main_v20 : FVec F S16384x4096 .f32 := Host.absf main_arg6
  let main_cst_7 : FVec F S_ .f32 := constant S_ .f32 0x7F800000#32
  let main_v21 : FVec F S16384x4096 .f32 := broadcastInDim S16384x4096 ![] bcast_S_S16384x4096 main_cst_7
  let main_v22 : IVec S16384x4096 1 := cmpf .olt main_v20 main_v21
  let main_c_8 : IVec S_ 1 := constantI S_ 1 1#1
  let main_v23 : IVec S_ 1 := (fun x v => Host.reduce IntOp.andi x v reducesTo_S16384x4096_S_d0_1 h_S_) main_v22 main_c_8
  let main_v24 : IVec S_ 1 := andi main_v19 main_v23
  let main_v25 : FVec F S16384x6144 .f32 := Host.absf main_arg7
  let main_cst_9 : FVec F S_ .f32 := constant S_ .f32 0x7F800000#32
  let main_v26 : FVec F S16384x6144 .f32 := broadcastInDim S16384x6144 ![] bcast_S_S16384x6144 main_cst_9
  let main_v27 : IVec S16384x6144 1 := cmpf .olt main_v25 main_v26
  let main_c_10 : IVec S_ 1 := constantI S_ 1 1#1
  let main_v28 : IVec S_ 1 := (fun x v => Host.reduce IntOp.andi x v reducesTo_S16384x6144_S_d0_1 h_S_) main_v27 main_c_10
  let main_v29 : IVec S_ 1 := andi main_v24 main_v28
  main_v29

def fn {F : FTy → Type} [FloatOps F] (main_arg0 : FVec F S16384x1024 .f32) (main_arg1 : FVec F S1024 .f32) (main_arg2 : FVec F S1024 .f32) (main_arg3 : FVec F S1024x4096 .f32) (main_arg4 : FVec F S1024x6144 .f32) (main_arg5 : FVec F S16384x1024 .f32) (main_arg6 : FVec F S16384x4096 .f32) (main_arg7 : FVec F S16384x6144 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_c_0 : IVec S_ 1 := constantI S_ 1 1#1
  let main_v4 : IVec S_ 1 := andi main_c_0 main_v3
  let main_v5 : FVec F S1024x4096 .f32 := Host.absf main_arg3
  let main_cst_1 : FVec F S_ .f32 := constant S_ .f32 0x7F800000#32
  let main_v6 : FVec F S1024x4096 .f32 := broadcastInDim S1024x4096 ![] bcast_S_S1024x4096 main_cst_1
  let main_v7 : IVec S1024x4096 1 := cmpf .olt main_v5 main_v6
  let main_c_2 : IVec S_ 1 := constantI S_ 1 1#1
  let main_v8 : IVec S_ 1 := (fun x v => Host.reduce IntOp.andi x v reducesTo_S1024x4096_S_d0_1 h_S_) main_v7 main_c_2
  let main_v9 : IVec S_ 1 := andi main_v4 main_v8
  let main_v10 : FVec F S1024x6144 .f32 := Host.absf main_arg4
  let main_cst_3 : FVec F S_ .f32 := constant S_ .f32 0x7F800000#32
  let main_v11 : FVec F S1024x6144 .f32 := broadcastInDim S1024x6144 ![] bcast_S_S1024x6144 main_cst_3
  let main_v12 : IVec S1024x6144 1 := cmpf .olt main_v10 main_v11
  let main_c_4 : IVec S_ 1 := constantI S_ 1 1#1
  let main_v13 : IVec S_ 1 := (fun x v => Host.reduce IntOp.andi x v reducesTo_S1024x6144_S_d0_1 h_S_) main_v12 main_c_4
  let main_v14 : IVec S_ 1 := andi main_v9 main_v13
  let main_v15 : FVec F S16384x1024 .f32 := Host.absf main_arg5
  let main_cst_5 : FVec F S_ .f32 := constant S_ .f32 0x7F800000#32
  fn_part1 (F := F) main_arg6 main_arg7 main_v14 main_v15 main_cst_5
-- ==== Pre_finite_scores.lean ====
abbrev S1x16384x16x64 : Shape := ⟨4, ![1, 16384, 16, 64]⟩
abbrev S_ : Shape := ⟨0, ![]⟩

class Facts : Prop where
  bcast_S_S1x16384x16x64 : S_.BroadcastsInDim S1x16384x16x64 (![] : Fin 0 → Fin S1x16384x16x64.rank)
  reducesTo_S1x16384x16x64_S_d0_1_2_3 : S1x16384x16x64.ReducesTo [0, 1, 2, 3] S_
  h_S_ : 0 < S_.numel

variable [Facts]

def fn {F : FTy → Type} [FloatOps F] (main_arg0 : FVec F S1x16384x16x64 .f32) (main_arg1 : FVec F S1x16384x16x64 .f32) (main_arg2 : FVec F S1x16384x16x64 .f32) : IVec S_ 1 :=
  let main_v0 : FVec F S1x16384x16x64 .f32 := Host.absf main_arg0
  let main_cst : FVec F S_ .f32 := constant S_ .f32 0x7F800000#32
  let main_v1 : FVec F S1x16384x16x64 .f32 := broadcastInDim S1x16384x16x64 ![] bcast_S_S1x16384x16x64 main_cst
  let main_v2 : IVec S1x16384x16x64 1 := cmpf .olt main_v0 main_v1
  let main_c : IVec S_ 1 := constantI S_ 1 1#1
  let main_v3 : IVec S_ 1 := (fun x v => Host.reduce IntOp.andi x v reducesTo_S1x16384x16x64_S_d0_1_2_3 h_S_) main_v2 main_c
  let main_v4 : FVec F S1x16384x16x64 .f32 := Host.absf main_arg1
  let main_cst_0 : FVec F S_ .f32 := constant S_ .f32 0x7F800000#32
  let main_v5 : FVec F S1x16384x16x64 .f32 := broadcastInDim S1x16384x16x64 ![] bcast_S_S1x16384x16x64 main_cst_0
  let main_v6 : IVec S1x16384x16x64 1 := cmpf .olt main_v4 main_v5
  let main_c_1 : IVec S_ 1 := constantI S_ 1 1#1
  let main_v7 : IVec S_ 1 := (fun x v => Host.reduce IntOp.andi x v reducesTo_S1x16384x16x64_S_d0_1_2_3 h_S_) main_v6 main_c_1
  let main_v8 : IVec S_ 1 := andi main_v3 main_v7
  main_v8
-- ==== Kernel.lean ====
abbrev S1x16384x16x64 : Shape := ⟨4, ![1, 16384, 16, 64]⟩
abbrev S1x16384x16x1 : Shape := ⟨4, ![1, 16384, 16, 1]⟩
abbrev S_ : Shape := ⟨0, ![]⟩
abbrev S4096x4x1024 : Shape := ⟨3, ![4096, 4, 1024]⟩
abbrev S4x4096x1024 : Shape := ⟨3, ![4, 4096, 1024]⟩
abbrev S16384x1024 : Shape := ⟨2, ![16384, 1024]⟩
abbrev S16384x3072 : Shape := ⟨2, ![16384, 3072]⟩
abbrev S16384x16 : Shape := ⟨2, ![16384, 16]⟩
abbrev S16384x128 : Shape := ⟨2, ![16384, 128]⟩
abbrev S4096x4x128 : Shape := ⟨3, ![4096, 4, 128]⟩
abbrev S4x4096x128 : Shape := ⟨3, ![4, 4096, 128]⟩
abbrev S16384x2048 : Shape := ⟨2, ![16384, 2048]⟩
abbrev S128x1024 : Shape := ⟨2, ![128, 1024]⟩
abbrev S128x128 : Shape := ⟨2, ![128, 128]⟩
abbrev S128x2048 : Shape := ⟨2, ![128, 2048]⟩
abbrev S128x256 : Shape := ⟨2, ![128, 256]⟩
abbrev S256x128 : Shape := ⟨2, ![256, 128]⟩
abbrev S256x256 : Shape := ⟨2, ![256, 256]⟩
abbrev S128x1 : Shape := ⟨2, ![128, 1]⟩

abbrev nBuf : Space → Nat
  | .hbm => 40
  | .vmem => 22
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x16x64, .f32⟩
  | .hbm, ⟨3, _⟩ => ⟨S1x16384x16x64, .f32⟩
  | .hbm, ⟨4, _⟩ => ⟨S1x16384x16x1, .f32⟩
  | .hbm, ⟨5, _⟩ => ⟨S1x16384x16x1, .f32⟩
  | .hbm, ⟨6, _⟩ => ⟨S_, .f32⟩
  | .hbm, ⟨7, _⟩ => ⟨S1x16384x16x64, .f32⟩
  | .hbm, ⟨8, _⟩ => ⟨S1x16384x16x64, .f32⟩
  | .hbm, ⟨9, _⟩ => ⟨S4096x4x1024, .f32⟩
  | .hbm, ⟨10, _⟩ => ⟨S4x4096x1024, .f32⟩
  | .hbm, ⟨11, _⟩ => ⟨S16384x1024, .f32⟩
  | .hbm, ⟨12, _⟩ => ⟨S4096x4x1024, .f32⟩
  | .hbm, ⟨13, _⟩ => ⟨S4x4096x1024, .f32⟩
  | .hbm, ⟨14, _⟩ => ⟨S16384x1024, .f32⟩
  | .hbm, ⟨15, _⟩ => ⟨S4096x4x1024, .f32⟩
  | .hbm, ⟨16, _⟩ => ⟨S4x4096x1024, .f32⟩
  | .hbm, ⟨17, _⟩ => ⟨S16384x1024, .f32⟩
  | .hbm, ⟨18, _⟩ => ⟨S16384x3072, .f32⟩
  | .hbm, ⟨19, _⟩ => ⟨S16384x3072, .bf16⟩
  | .hbm, ⟨20, _⟩ => ⟨S4096x4x1024, .f32⟩
  | .hbm, ⟨21, _⟩ => ⟨S4x4096x1024, .f32⟩
  | .hbm, ⟨22, _⟩ => ⟨S16384x1024, .f32⟩
  | .hbm, ⟨23, _⟩ => ⟨S16384x1024, .bf16⟩
  | .hbm, ⟨24, _⟩ => ⟨S16384x16, .f32⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S4096x4x128, .f32⟩
  | .hbm, ⟨29, _⟩ => ⟨S4x4096x128, .f32⟩
  | .hbm, ⟨30, _⟩ => ⟨S16384x128, .f32⟩
  | .hbm, ⟨31, _⟩ => ⟨S16384x16, .f32⟩
  | .hbm, ⟨32, _⟩ => ⟨S_, .i32⟩
  | .hbm, ⟨33, _⟩ => ⟨S_, .f32⟩
  | .hbm, ⟨34, _⟩ => ⟨S16384x128, .f32⟩
  | .hbm, ⟨35, _⟩ => ⟨S4096x4x128, .f32⟩
  | .hbm, ⟨36, _⟩ => ⟨S4x4096x128, .f32⟩
  | .hbm, ⟨37, _⟩ => ⟨S16384x128, .f32⟩
  | .hbm, ⟨38, _⟩ => ⟨S16384x1024, .bf16⟩
  | .hbm, ⟨39, _⟩ => ⟨S16384x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x1024, .bf16⟩
  | .local _ .vmem, ⟨17, _⟩ => ⟨S128x1024, .bf16⟩
  | .local _ .vmem, ⟨18, _⟩ => ⟨S128x2048, .bf16⟩
  | .local _ .vmem, ⟨19, _⟩ => ⟨S128x2048, .bf16⟩
  | .local _ .vmem, ⟨20, _⟩ => ⟨S128x1024, .f32⟩
  | .local _ .vmem, ⟨21, _⟩ => ⟨S128x1024, .f32⟩
  | _, _ => ⟨S1x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 33], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .eq arg1 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c1_i32 : BitVec 32 := 1#32
  let c0_i32 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== ReferenceIdeal.lean ====
abbrev S1x16384x16x64 : Shape := ⟨4, ![1, 16384, 16, 64]⟩
abbrev S1x16384x16x1 : Shape := ⟨4, ![1, 16384, 16, 1]⟩
abbrev S1x4096x4x16x64 : Shape := ⟨5, ![1, 4096, 4, 16, 64]⟩
abbrev S1x4x4096x16x64 : Shape := ⟨5, ![1, 4, 4096, 16, 64]⟩
abbrev S1x4x32x128x16x64 : Shape := ⟨6, ![1, 4, 32, 128, 16, 64]⟩
abbrev S1x4x1x128x16x64 : Shape := ⟨6, ![1, 4, 1, 128, 16, 64]⟩
abbrev S_ : Shape := ⟨0, ![]⟩
abbrev S1x4x31x128x16x64 : Shape := ⟨6, ![1, 4, 31, 128, 16, 64]⟩
abbrev S1x4x32x256x16x64 : Shape := ⟨6, ![1, 4, 32, 256, 16, 64]⟩
abbrev S1x4x32x16x128x256 : Shape := ⟨6, ![1, 4, 32, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S16 : Shape := ⟨1, ![16]⟩
abbrev S16x1x1 : Shape := ⟨3, ![16, 1, 1]⟩
abbrev S16x128x256 : Shape := ⟨3, ![16, 128, 256]⟩
abbrev S1x1x32x1x128x256 : Shape := ⟨6, ![1, 1, 32, 1, 128, 256]⟩
abbrev S1x1x1x16x128x256 : Shape := ⟨6, ![1, 1, 1, 16, 128, 256]⟩
abbrev S1x4096x4x16x1 : Shape := ⟨5, ![1, 4096, 4, 16, 1]⟩
abbrev S1x4x4096x16x1 : Shape := ⟨5, ![1, 4, 4096, 16, 1]⟩
abbrev S1x4x32x128x16x1 : Shape := ⟨6, ![1, 4, 32, 128, 16, 1]⟩
abbrev S1x4x32x16x128x1 : Shape := ⟨6, ![1, 4, 32, 16, 128, 1]⟩
abbrev S1x4x32x16x64x128 : Shape := ⟨6, ![1, 4, 32, 16, 64, 128]⟩
abbrev S1x4x32x16x128 : Shape := ⟨5, ![1, 4, 32, 16, 128]⟩
abbrev S4x32x16x128 : Shape := ⟨4, ![4, 32, 16, 128]⟩
abbrev S1x4x32x16x64x256 : Shape := ⟨6, ![1, 4, 32, 16, 64, 256]⟩
abbrev S1x4x32x16x256x64 : Shape := ⟨6, ![1, 4, 32, 16, 256, 64]⟩
abbrev S1x4x32x16x128x64 : Shape := ⟨6, ![1, 4, 32, 16, 128, 64]⟩
abbrev S4096x4x1024 : Shape := ⟨3, ![4096, 4, 1024]⟩
abbrev S4x4096x1024 : Shape := ⟨3, ![4, 4096, 1024]⟩
abbrev S16384x1024 : Shape := ⟨2, ![16384, 1024]⟩
abbrev S16384x2048 : Shape := ⟨2, ![16384, 2048]⟩

abbrev nBuf : Space → Nat
  | .hbm => 186
  | .vmem => 0
  | .smem => 0
  | _ => 0

abbrev hbmTy0_0 (i : Nat) : BufTy := match i % 128 with
  | 0 => ⟨S1x16384x16x64, .f32⟩
  | 1 => ⟨S1x16384x16x64, .f32⟩
  | 2 => ⟨S1x16384x16x64, .f32⟩
  | 3 => ⟨S1x16384x16x64, .f32⟩
  | 4 => ⟨S1x16384x16x1, .f32⟩
  | 5 => ⟨S1x16384x16x1, .f32⟩
  | 6 => ⟨S1x4096x4x16x64, .f32⟩
  | 7 => ⟨S1x4x4096x16x64, .f32⟩
  | 8 => ⟨S1x4x32x128x16x64, .f32⟩
  | 9 => ⟨S1x4096x4x16x64, .f32⟩
  | 10 => ⟨S1x4x4096x16x64, .f32⟩
  | 11 => ⟨S1x4x32x128x16x64, .f32⟩
  | 12 => ⟨S1x4x1x128x16x64, .f32⟩
  | 13 => ⟨S_, .f32⟩
  | 14 => ⟨S1x4x1x128x16x64, .f32⟩
  | 15 => ⟨S1x4x31x128x16x64, .f32⟩
  | 16 => ⟨S1x4x32x128x16x64, .f32⟩
  | 17 => ⟨S_, .f32⟩
  | 18 => ⟨S1x4x1x128x16x64, .f32⟩
  | 19 => ⟨S1x4x32x256x16x64, .f32⟩
  | 20 => ⟨S1x4096x4x16x64, .f32⟩
  | 21 => ⟨S1x4x4096x16x64, .f32⟩
  | 22 => ⟨S1x4x32x128x16x64, .f32⟩
  | 23 => ⟨S1x4x1x128x16x64, .f32⟩
  | 24 => ⟨S_, .f32⟩
  | 25 => ⟨S1x4x1x128x16x64, .f32⟩
  | 26 => ⟨S1x4x31x128x16x64, .f32⟩
  | 27 => ⟨S1x4x32x128x16x64, .f32⟩
  | 28 => ⟨S_, .f32⟩
  | 29 => ⟨S1x4x1x128x16x64, .f32⟩
  | 30 => ⟨S1x4x32x256x16x64, .f32⟩
  | 31 => ⟨S1x4x32x16x128x256, .f32⟩
  | 32 => ⟨S_, .f32⟩
  | 33 => ⟨S1x4x32x16x128x256, .f32⟩
  | 34 => ⟨S1x4x32x16x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S32, .i32⟩
  | 53 => ⟨S_, .i32⟩
  | 54 => ⟨S32, .i32⟩
  | 55 => ⟨S32, .i1⟩
  | 56 => ⟨S32x1x1, .i1⟩
  | 57 => ⟨S1x128x256, .i1⟩
  | 58 => ⟨S_, .i32⟩
  | 59 => ⟨S1x256, .i32⟩
  | 60 => ⟨S1x256, .i1⟩
  | 61 => ⟨S1x1x256, .i1⟩
  | 62 => ⟨S32x1x256, .i1⟩
  | 63 => ⟨S32x1x256, .i1⟩
  | 64 => ⟨S32x1x256, .i1⟩
  | 65 => ⟨S32x1x256, .i1⟩
  | 66 => ⟨S32x128x256, .i1⟩
  | 67 => ⟨S32x128x256, .i1⟩
  | 68 => ⟨S32x128x256, .i1⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S16x1x1, .f32⟩
  | 83 => ⟨S16x1x1, .f32⟩
  | 84 => ⟨S_, .i32⟩
  | 85 => ⟨S128x256, .i32⟩
  | 86 => ⟨S128x256, .i32⟩
  | 87 => ⟨S128x256, .f32⟩
  | 88 => ⟨S1x128x256, .f32⟩
  | 89 => ⟨S16x128x256, .f32⟩
  | 90 => ⟨S16x128x256, .f32⟩
  | 91 => ⟨S16x128x256, .f32⟩
  | 92 => ⟨S1x1x32x1x128x256, .i1⟩
  | 93 => ⟨S1x1x1x16x128x256, .f32⟩
  | 94 => ⟨S1x4x32x16x128x256, .f32⟩
  | 95 => ⟨S1x4x32x16x128x256, .f32⟩
  | 96 => ⟨S_, .f32⟩
  | 97 => ⟨S_, .f32⟩
  | 98 => ⟨S1x4x32x16x128x256, .i1⟩
  | 99 => ⟨S1x4x32x16x128x256, .f32⟩
  | 100 => ⟨S1x4x32x16x128x256, .f32⟩
  | 101 => ⟨S_, .f32⟩
  | 102 => ⟨S1x4x32x16x128x256, .f32⟩
  | 103 => ⟨S1x4096x4x16x1, .f32⟩
  | 104 => ⟨S1x4x4096x16x1, .f32⟩
  | 105 => ⟨S1x4x32x128x16x1, .f32⟩
  | 106 => ⟨S1x4x32x16x128x1, .f32⟩
  | 107 => ⟨S1x4x32x16x128x256, .f32⟩
  | 108 => ⟨S1x4x32x16x128x256, .f32⟩
  | 109 => ⟨S1x4x32x16x128x256, .f32⟩
  | 110 => ⟨S1x4x32x16x64x128, .f32⟩
  | 111 => ⟨S1x4x32x128x16x64, .f32⟩
  | 112 => ⟨S1x4x4096x16x64, .f32⟩
  | 113 => ⟨S1x4096x4x16x64, .f32⟩
  | 114 => ⟨S1x16384x16x64, .f32⟩
  | 115 => ⟨S_, .f32⟩
  | 116 => ⟨S1x4x32x16x128, .f32⟩
  | 117 => ⟨S1x4x32x16x128x1, .f32⟩
  | 118 => ⟨S1x4x32x128x16x1, .f32⟩
  | 119 => ⟨S1x4x4096x16x1, .f32⟩
  | 120 => ⟨S1x4096x4x16x1, .f32⟩
  | 121 => ⟨S1x16384x16x1, .f32⟩
  | 122 => ⟨S1x16384x16x1, .f32⟩
  | 123 => ⟨S1x4096x4x16x1, .f32⟩
  | 124 => ⟨S1x4x4096x16x1, .f32⟩
  | 125 => ⟨S1x4x32x128x16x1, .f32⟩
  | 126 => ⟨S1x4x32x16x128x1, .f32⟩
  | 127 => ⟨S_, .f32⟩
  | _ => ⟨S1x16384x16x64, .f32⟩

abbrev hbmTy0_1 (i : Nat) : BufTy := match i % 128 with
  | 0 => ⟨S4x32x16x128, .f32⟩
  | 1 => ⟨S1x4x32x16x128, .f32⟩
  | 2 => ⟨S1x4x32x16x128x256, .f32⟩
  | 3 => ⟨S1x4096x4x16x64, .f32⟩
  | 4 => ⟨S1x4x4096x16x64, .f32⟩
  | 5 => ⟨S1x4x32x128x16x64, .f32⟩
  | 6 => ⟨S1x4x32x16x64x128, .f32⟩
  | 7 => ⟨S1x4x32x16x128x256, .f32⟩
  | 8 => ⟨S1x4x32x16x128x256, .f32⟩
  | 9 => ⟨S1x4x32x16x64x256, .f32⟩
  | 10 => ⟨S1x4x32x256x16x64, .f32⟩
  | 11 => ⟨S1x4x32x16x128x256, .f32⟩
  | 12 => ⟨S_, .f32⟩
  | 13 => ⟨S1x4x32x16x128x256, .f32⟩
  | 14 => ⟨S1x4x32x16x128x256, .f32⟩
  | 15 => ⟨S_, .f32⟩
  | 16 => ⟨S1x4x32x16x128x256, .f32⟩
  | 17 => ⟨S1x4x32x16x128x256, .f32⟩
  | 18 => ⟨S1x4x32x16x256x64, .f32⟩
  | 19 => ⟨S1x4x32x256x16x64, .f32⟩
  | 20 => ⟨S1x4x32x16x128x64, .f32⟩
  | 21 => ⟨S1x4x32x128x16x64, .f32⟩
  | 22 => ⟨S1x4x32x128x16x64, .f32⟩
  | 23 => ⟨S1x4x32x128x16x64, .f32⟩
  | 24 => ⟨S1x4x1x128x16x64, .f32⟩
  | 25 => ⟨S1x4x31x128x16x64, .f32⟩
  | 26 => ⟨S_, .f32⟩
  | 27 => ⟨S1x4x32x128x16x64, .f32⟩
  | 28 => ⟨S1x4x32x128x16x64, .f32⟩
  | 29 => ⟨S1x4x4096x16x64, .f32⟩
  | 30 => ⟨S1x4096x4x16x64, .f32⟩
  | 31 => ⟨S1x16384x16x64, .f32⟩
  | 32 => ⟨S1x4x32x128x16x64, .f32⟩
  | 33 => ⟨S1x4x32x128x16x64, .f32⟩
  | 34 => ⟨S1x4x1x128x16x64, .f32⟩
  | 35 => ⟨S1x4x31x128x16x64, .f32⟩
  | 36 => ⟨S_, .f32⟩
  | 37 => ⟨S1x4x32x128x16x64, .f32⟩
  | 38 => ⟨S1x4x32x128x16x64, .f32⟩
  | 39 => ⟨S1x4x4096x16x64, .f32⟩
  | 40 => ⟨S1x4096x4x16x64, .f32⟩
  | 41 => ⟨S1x16384x16x64, .f32⟩
  | 42 => ⟨S1x4x4096x16x64, .f32⟩
  | 43 => ⟨S1x4096x4x16x64, .f32⟩
  | 44 => ⟨S1x16384x16x64, .f32⟩
  | 45 => ⟨S4096x4x1024, .f32⟩
  | 46 => ⟨S4x4096x1024, .f32⟩
  | 47 => ⟨S16384x1024, .f32⟩
  | 48 => ⟨S16384x1024, .bf16⟩
  | 49 => ⟨S4096x4x1024, .f32⟩
  | 50 => ⟨S4x4096x1024, .f32⟩
  | 51 => ⟨S16384x1024, .f32⟩
  | 52 => ⟨S16384x1024, .bf16⟩
  | 53 => ⟨S4096x4x1024, .f32⟩
  | 54 => ⟨S4x4096x1024, .f32⟩
  | 55 => ⟨S16384x1024, .f32⟩
  | 56 => ⟨S16384x1024, .bf16⟩
  | 57 => ⟨S16384x2048, .bf16⟩
  | _ => ⟨S1x16384x16x64, .f32⟩

abbrev hbmTy (i : Nat) : BufTy := match i / 128 with
  | 0 => hbmTy0_0 i
  | 1 => hbmTy0_1 i
  | _ => ⟨S1x16384x16x64, .f32⟩

abbrev bufTy : (tb : Table) → Fin (tcTables nBuf tb) → BufTy
  | .hbm, ⟨i, _⟩ => hbmTy i
  | _, _ => ⟨S1x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_call0_v0 : Ref sig .tc := ⟨.hbm, 97, rfl⟩
abbrev main_v75_1 : Ref sig .tc := ⟨.hbm, 98, rfl⟩
abbrev main_call0_v2 : Ref sig .tc := ⟨.hbm, 99, rfl⟩
abbrev main_v75_0 : Ref sig .tc := ⟨.hbm, 100, rfl⟩
abbrev main_call0_cst : Ref sig .tc := ⟨.hbm, 101, rfl⟩
abbrev main_v75_2 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_call1_cst : Ref sig .tc := ⟨.hbm, 140, rfl⟩
abbrev main_call1_v0 : Ref sig .tc := ⟨.hbm, 141, rfl⟩
abbrev main_v111 : Ref sig .tc := ⟨.hbm, 142, rfl⟩
abbrev main_cst_16 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_17 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_18 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩

abbrev nD : Nat := 1
abbrev τ : Topo := Topo.v7x

variable {F : FTy → Type} [FloatOps F]
-- ==== Dw.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwPair.lean ====
abbrev S16384x1024 : Shape := ⟨2, ![16384, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwPairReferenceIdeal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S_, .f32⟩
  | .hbm, ⟨3, _⟩ => ⟨S1024x2048, .f32⟩
  | .hbm, ⟨4, _⟩ => ⟨S16384x2048, .f32⟩
  | .hbm, ⟨5, _⟩ => ⟨S2048x1024, .f32⟩
  | .hbm, ⟨6, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv.lean ====
abbrev S16384x1024 : Shape := ⟨2, ![16384, 1024]⟩
abbrev S1024x1024 : Shape := ⟨2, ![1024, 1024]⟩
abbrev S1024x3072 : Shape := ⟨2, ![1024, 3072]⟩
abbrev S16384x3072 : Shape := ⟨2, ![16384, 3072]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S16384x1024, .bf16⟩
  | .hbm, ⟨7, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S16384x1024 : Shape := ⟨2, ![16384, 1024]⟩
abbrev S1024x1024 : Shape := ⟨2, ![1024, 1024]⟩
abbrev S_ : Shape := ⟨0, ![]⟩
abbrev S16384x3072 : Shape := ⟨2, ![16384, 3072]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x3072, .f32⟩
  | .hbm, ⟨11, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Gate.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Stream.lean ====
abbrev S16384x1024 : Shape := ⟨2, ![16384, 1024]⟩
abbrev S1024 : Shape := ⟨1, ![1024]⟩
abbrev S1024x4096 : Shape := ⟨2, ![1024, 4096]⟩
abbrev S1024x6144 : Shape := ⟨2, ![1024, 6144]⟩
abbrev S16384x4096 : Shape := ⟨2, ![16384, 4096]⟩
abbrev S16384x6144 : Shape := ⟨2, ![16384, 6144]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1024x1024 : Shape := ⟨2, ![1024, 1024]⟩
abbrev S1024x3072 : Shape := ⟨2, ![1024, 3072]⟩
abbrev S4096x4x1024 : Shape := ⟨3, ![4096, 4, 1024]⟩
abbrev S4x4096x1024 : Shape := ⟨3, ![4, 4096, 1024]⟩
abbrev S4096x4x2048 : Shape := ⟨3, ![4096, 4, 2048]⟩
abbrev S4x4096x2048 : Shape := ⟨3, ![4, 4096, 2048]⟩
abbrev S1024x16x1024 : Shape := ⟨3, ![1024, 16, 1024]⟩
abbrev S16x1024x1024 : Shape := ⟨3, ![16, 1024, 1024]⟩
abbrev S1024x16x2048 : Shape := ⟨3, ![1024, 16, 2048]⟩
abbrev S16x1024x2048 : Shape := ⟨3, ![16, 1024, 2048]⟩
abbrev S8x1024 : Shape := ⟨2, ![8, 1024]⟩
abbrev S256x1024 : Shape := ⟨2, ![256, 1024]⟩
abbrev S256x2048 : Shape := ⟨2, ![256, 2048]⟩
abbrev S4x64x1024 : Shape := ⟨3, ![4, 64, 1024]⟩
abbrev S4x64x2048 : Shape := ⟨3, ![4, 64, 2048]⟩
abbrev S16x16x1024 : Shape := ⟨3, ![16, 16, 1024]⟩
abbrev S16x16x2048 : Shape := ⟨3, ![16, 16, 2048]⟩
abbrev S256x1 : Shape := ⟨2, ![256, 1]⟩
abbrev S8x256x128 : Shape := ⟨3, ![8, 256, 128]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S256 : Shape := ⟨1, ![256]⟩

abbrev nBuf : Space → Nat
  | .hbm => 81
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1024x6144, .f32⟩
  | .hbm, ⟨5, _⟩ => ⟨S16384x1024, .f32⟩
  | .hbm, ⟨6, _⟩ => ⟨S16384x4096, .f32⟩
  | .hbm, ⟨7, _⟩ => ⟨S16384x6144, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S16384x1024, .f32⟩
  | .hbm, ⟨35, _⟩ => ⟨S16384x1024, .f32⟩
  | .hbm, ⟨36, _⟩ => ⟨S16384x2048, .f32⟩
  | .hbm, ⟨37, _⟩ => ⟨S16384x2048, .bf16⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x3072, .f32⟩
  | .hbm, ⟨42, _⟩ => ⟨S1024x3072, .bf16⟩
  | .hbm, ⟨43, _⟩ => ⟨S16384x1024, .f32⟩
  | .hbm, ⟨44, _⟩ => ⟨S16384x1024, .bf16⟩
  | .hbm, ⟨45, _⟩ => ⟨S16384x1024, .f32⟩
  | .hbm, ⟨46, _⟩ => ⟨S16384x1024, .f32⟩
  | .hbm, ⟨47, _⟩ => ⟨S16384x2048, .f32⟩
  | .hbm, ⟨48, _⟩ => ⟨S16384x2048, .bf16⟩
  | .hbm, ⟨49, _⟩ => ⟨S4096x4x1024, .bf16⟩
  | .hbm, ⟨50, _⟩ => ⟨S4x4096x1024, .bf16⟩
  | .hbm, ⟨51, _⟩ => ⟨S4096x4x2048, .bf16⟩
  | .hbm, ⟨52, _⟩ => ⟨S4x4096x2048, .bf16⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x3072, .f32⟩
  | .hbm, ⟨57, _⟩ => ⟨S1024x3072, .bf16⟩
  | .hbm, ⟨58, _⟩ => ⟨S16384x1024, .f32⟩
  | .hbm, ⟨59, _⟩ => ⟨S16384x1024, .bf16⟩
  | .hbm, ⟨60, _⟩ => ⟨S16384x1024, .f32⟩
  | .hbm, ⟨61, _⟩ => ⟨S16384x1024, .f32⟩
  | .hbm, ⟨62, _⟩ => ⟨S16384x2048, .f32⟩
  | .hbm, ⟨63, _⟩ => ⟨S16384x2048, .bf16⟩
  | .hbm, ⟨64, _⟩ => ⟨S1024x16x1024, .bf16⟩
  | .hbm, ⟨65, _⟩ => ⟨S16x1024x1024, .bf16⟩
  | .hbm, ⟨66, _⟩ => ⟨S1024x16x2048, .bf16⟩
  | .hbm, ⟨67, _⟩ => ⟨S16x1024x2048, .bf16⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x3072, .f32⟩
  | .hbm, ⟨72, _⟩ => ⟨S1024x3072, .bf16⟩
  | .hbm, ⟨73, _⟩ => ⟨S16384x1024, .f32⟩
  | .hbm, ⟨74, _⟩ => ⟨S16384x1024, .bf16⟩
  | .hbm, ⟨75, _⟩ => ⟨S1024x1024, .f32⟩
  | .hbm, ⟨76, _⟩ => ⟨S1024x1024, .bf16⟩
  | .hbm, ⟨77, _⟩ => ⟨S1x1024, .f32⟩
  | .hbm, ⟨78, _⟩ => ⟨S16384x1024, .f32⟩
  | .hbm, ⟨79, _⟩ => ⟨S16384x1024, .bf16⟩
  | .hbm, ⟨80, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S4x64x1024, .bf16⟩
  | .local _ .vmem, ⟨9, _⟩ => ⟨S4x64x1024, .bf16⟩
  | .local _ .vmem, ⟨10, _⟩ => ⟨S4x64x2048, .bf16⟩
  | .local _ .vmem, ⟨11, _⟩ => ⟨S4x64x2048, .bf16⟩
  | .local _ .vmem, ⟨12, _⟩ => ⟨S16x16x1024, .bf16⟩
  | .local _ .vmem, ⟨13, _⟩ => ⟨S16x16x1024, .bf16⟩
  | .local _ .vmem, ⟨14, _⟩ => ⟨S16x16x2048, .bf16⟩
  | .local _ .vmem, ⟨15, _⟩ => ⟨S16x16x2048, .bf16⟩
  | .local _ .vmem, ⟨16, _⟩ => ⟨S256x1024, .f32⟩
  | .local _ .vmem, ⟨17, _⟩ => ⟨S256x1024, .f32⟩
  | .local _ .vmem, ⟨18, _⟩ => ⟨S256x1, .f32⟩
  | .local _ .vmem, ⟨19, _⟩ => ⟨S256x1, .f32⟩
  | .local _ .vmem, ⟨20, _⟩ => ⟨S1024x1024, .bf16⟩
  | .local _ .vmem, ⟨21, _⟩ => ⟨S1024x3072, .bf16⟩
  | .local _ .vmem, ⟨22, _⟩ => ⟨S1024x3072, .bf16⟩
  | .local _ .vmem, ⟨23, _⟩ => ⟨S1024x3072, .bf16⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S8x1024, .f32⟩
  | .local _ .vmem, ⟨30, _⟩ => ⟨S8x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65_0 : Ref sig .tc := ⟨.hbm, 78, rfl⟩
abbrev main_v65_1 : Ref sig .tc := ⟨.hbm, 79, rfl⟩
abbrev main_v65_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x3072 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== StreamReferenceIdeal.lean ====
abbrev S16384x1024 : Shape := ⟨2, ![16384, 1024]⟩
abbrev S1024 : Shape := ⟨1, ![1024]⟩
abbrev S1024x4096 : Shape := ⟨2, ![1024, 4096]⟩
abbrev S1024x6144 : Shape := ⟨2, ![1024, 6144]⟩
abbrev S16384x4096 : Shape := ⟨2, ![16384, 4096]⟩
abbrev S16384x6144 : Shape := ⟨2, ![16384, 6144]⟩
abbrev S_ : Shape := ⟨0, ![]⟩
abbrev S1x1024 : Shape := ⟨2, ![1, 1024]⟩
abbrev S16384 : Shape := ⟨1, ![16384]⟩
abbrev S16384x1 : Shape := ⟨2, ![16384, 1]⟩
abbrev S3x1024 : Shape := ⟨2, ![3, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1024x6144, .f32⟩
  | .hbm, ⟨5, _⟩ => ⟨S16384x1024, .f32⟩
  | .hbm, ⟨6, _⟩ => ⟨S16384x4096, .f32⟩
  | .hbm, ⟨7, _⟩ => ⟨S16384x6144, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S16384x6144, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S_, .f32⟩
  | .hbm, ⟨101, _⟩ => ⟨S1024, .f32⟩
  | .hbm, ⟨102, _⟩ => ⟨S16384x1024, .bf16⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S3x1024, .f32⟩
  | .hbm, ⟨107, _⟩ => ⟨S_, .i32⟩
  | .hbm, ⟨108, _⟩ => ⟨S_, .f32⟩
  | .hbm, ⟨109, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c : Ref sig .tc := ⟨.hbm, 107, rfl⟩
abbrev main_call0_v0 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== AttnFwd.lean ====
abbrev S1x16384x16x64 : Shape := ⟨4, ![1, 16384, 16, 64]⟩
abbrev S_ : Shape := ⟨0, ![]⟩
abbrev S4096x4x1024 : Shape := ⟨3, ![4096, 4, 1024]⟩
abbrev S4x4096x1024 : Shape := ⟨3, ![4, 4096, 1024]⟩
abbrev S16384x1024 : Shape := ⟨2, ![16384, 1024]⟩
abbrev S16384x3072 : Shape := ⟨2, ![16384, 3072]⟩
abbrev S16384x128 : Shape := ⟨2, ![16384, 128]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 19
  | .vmem => 14
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x16x64, .f32⟩
  | .hbm, ⟨3, _⟩ => ⟨S_, .f32⟩
  | .hbm, ⟨4, _⟩ => ⟨S1x16384x16x64, .f32⟩
  | .hbm, ⟨5, _⟩ => ⟨S1x16384x16x64, .f32⟩
  | .hbm, ⟨6, _⟩ => ⟨S4096x4x1024, .f32⟩
  | .hbm, ⟨7, _⟩ => ⟨S4x4096x1024, .f32⟩
  | .hbm, ⟨8, _⟩ => ⟨S16384x1024, .f32⟩
  | .hbm, ⟨9, _⟩ => ⟨S4096x4x1024, .f32⟩
  | .hbm, ⟨10, _⟩ => ⟨S4x4096x1024, .f32⟩
  | .hbm, ⟨11, _⟩ => ⟨S16384x1024, .f32⟩
  | .hbm, ⟨12, _⟩ => ⟨S4096x4x1024, .f32⟩
  | .hbm, ⟨13, _⟩ => ⟨S4x4096x1024, .f32⟩
  | .hbm, ⟨14, _⟩ => ⟨S16384x1024, .f32⟩
  | .hbm, ⟨15, _⟩ => ⟨S16384x3072, .f32⟩
  | .hbm, ⟨16, _⟩ => ⟨S16384x3072, .bf16⟩
  | .hbm, ⟨17, _⟩ => ⟨S16384x1024, .f32⟩
  | .hbm, ⟨18, _⟩ => ⟨S16384x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S1x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== AttnFwdReferenceIdeal.lean ====
abbrev S1x16384x16x64 : Shape := ⟨4, ![1, 16384, 16, 64]⟩
abbrev S1x4096x4x16x64 : Shape := ⟨5, ![1, 4096, 4, 16, 64]⟩
abbrev S1x4x4096x16x64 : Shape := ⟨5, ![1, 4, 4096, 16, 64]⟩
abbrev S1x4x32x128x16x64 : Shape := ⟨6, ![1, 4, 32, 128, 16, 64]⟩
abbrev S1x4x1x128x16x64 : Shape := ⟨6, ![1, 4, 1, 128, 16, 64]⟩
abbrev S_ : Shape := ⟨0, ![]⟩
abbrev S1x4x31x128x16x64 : Shape := ⟨6, ![1, 4, 31, 128, 16, 64]⟩
abbrev S1x4x32x256x16x64 : Shape := ⟨6, ![1, 4, 32, 256, 16, 64]⟩
abbrev S1x4x32x16x128x256 : Shape := ⟨6, ![1, 4, 32, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S16 : Shape := ⟨1, ![16]⟩
abbrev S16x1x1 : Shape := ⟨3, ![16, 1, 1]⟩
abbrev S16x128x256 : Shape := ⟨3, ![16, 128, 256]⟩
abbrev S1x1x32x1x128x256 : Shape := ⟨6, ![1, 1, 32, 1, 128, 256]⟩
abbrev S1x1x1x16x128x256 : Shape := ⟨6, ![1, 1, 1, 16, 128, 256]⟩
abbrev S1x4x32x16x128 : Shape := ⟨5, ![1, 4, 32, 16, 128]⟩
abbrev S1x4x32x16x128x1 : Shape := ⟨6, ![1, 4, 32, 16, 128, 1]⟩
abbrev S1x4x32x16x64x128 : Shape := ⟨6, ![1, 4, 32, 16, 64, 128]⟩
abbrev S1x4x32x128x16 : Shape := ⟨5, ![1, 4, 32, 128, 16]⟩
abbrev S1x4x4096x16 : Shape := ⟨4, ![1, 4, 4096, 16]⟩
abbrev S1x4096x4x16 : Shape := ⟨4, ![1, 4096, 4, 16]⟩
abbrev S1x16384x16 : Shape := ⟨3, ![1, 16384, 16]⟩
abbrev S4096x4x1024 : Shape := ⟨3, ![4096, 4, 1024]⟩
abbrev S4x4096x1024 : Shape := ⟨3, ![4, 4096, 1024]⟩
abbrev S16384x1024 : Shape := ⟨2, ![16384, 1024]⟩
abbrev S4096x4x16 : Shape := ⟨3, ![4096, 4, 16]⟩
abbrev S4x4096x16 : Shape := ⟨3, ![4, 4096, 16]⟩
abbrev S16384x16 : Shape := ⟨2, ![16384, 16]⟩
abbrev S16384x128 : Shape := ⟨2, ![16384, 128]⟩

abbrev nBuf : Space → Nat
  | .hbm => 126
  | .vmem => 0
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x16x64, .f32⟩
  | .hbm, ⟨3, _⟩ => ⟨S1x4096x4x16x64, .f32⟩
  | .hbm, ⟨4, _⟩ => ⟨S1x4x4096x16x64, .f32⟩
  | .hbm, ⟨5, _⟩ => ⟨S1x4x32x128x16x64, .f32⟩
  | .hbm, ⟨6, _⟩ => ⟨S1x4096x4x16x64, .f32⟩
  | .hbm, ⟨7, _⟩ => ⟨S1x4x4096x16x64, .f32⟩
  | .hbm, ⟨8, _⟩ => ⟨S1x4x32x128x16x64, .f32⟩
  | .hbm, ⟨9, _⟩ => ⟨S1x4x1x128x16x64, .f32⟩
  | .hbm, ⟨10, _⟩ => ⟨S_, .f32⟩
  | .hbm, ⟨11, _⟩ => ⟨S1x4x1x128x16x64, .f32⟩
  | .hbm, ⟨12, _⟩ => ⟨S1x4x31x128x16x64, .f32⟩
  | .hbm, ⟨13, _⟩ => ⟨S1x4x32x128x16x64, .f32⟩
  | .hbm, ⟨14, _⟩ => ⟨S1x4x32x256x16x64, .f32⟩
  | .hbm, ⟨15, _⟩ => ⟨S1x4096x4x16x64, .f32⟩
  | .hbm, ⟨16, _⟩ => ⟨S1x4x4096x16x64, .f32⟩
  | .hbm, ⟨17, _⟩ => ⟨S1x4x32x128x16x64, .f32⟩
  | .hbm, ⟨18, _⟩ => ⟨S1x4x1x128x16x64, .f32⟩
  | .hbm, ⟨19, _⟩ => ⟨S_, .f32⟩
  | .hbm, ⟨20, _⟩ => ⟨S1x4x1x128x16x64, .f32⟩
  | .hbm, ⟨21, _⟩ => ⟨S1x4x31x128x16x64, .f32⟩
  | .hbm, ⟨22, _⟩ => ⟨S1x4x32x128x16x64, .f32⟩
  | .hbm, ⟨23, _⟩ => ⟨S1x4x32x256x16x64, .f32⟩
  | .hbm, ⟨24, _⟩ => ⟨S1x4x32x16x128x256, .f32⟩
  | .hbm, ⟨25, _⟩ => ⟨S_, .f32⟩
  | .hbm, ⟨26, _⟩ => ⟨S1x4x32x16x128x256, .f32⟩
  | .hbm, ⟨27, _⟩ => ⟨S1x4x32x16x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i1⟩
  | .hbm, ⟨49, _⟩ => ⟨S32x1x1, .i1⟩
  | .hbm, ⟨50, _⟩ => ⟨S1x128x256, .i1⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x1x256, .i1⟩
  | .hbm, ⟨55, _⟩ => ⟨S32x1x256, .i1⟩
  | .hbm, ⟨56, _⟩ => ⟨S32x1x256, .i1⟩
  | .hbm, ⟨57, _⟩ => ⟨S32x1x256, .i1⟩
  | .hbm, ⟨58, _⟩ => ⟨S32x1x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16x1x1, .f32⟩
  | .hbm, ⟨76, _⟩ => ⟨S16x1x1, .f32⟩
  | .hbm, ⟨77, _⟩ => ⟨S_, .i32⟩
  | .hbm, ⟨78, _⟩ => ⟨S128x256, .i32⟩
  | .hbm, ⟨79, _⟩ => ⟨S128x256, .i32⟩
  | .hbm, ⟨80, _⟩ => ⟨S128x256, .f32⟩
  | .hbm, ⟨81, _⟩ => ⟨S1x128x256, .f32⟩
  | .hbm, ⟨82, _⟩ => ⟨S16x128x256, .f32⟩
  | .hbm, ⟨83, _⟩ => ⟨S16x128x256, .f32⟩
  | .hbm, ⟨84, _⟩ => ⟨S16x128x256, .f32⟩
  | .hbm, ⟨85, _⟩ => ⟨S1x1x32x1x128x256, .i1⟩
  | .hbm, ⟨86, _⟩ => ⟨S1x1x1x16x128x256, .f32⟩
  | .hbm, ⟨87, _⟩ => ⟨S1x4x32x16x128x256, .f32⟩
  | .hbm, ⟨88, _⟩ => ⟨S1x4x32x16x128x256, .f32⟩
  | .hbm, ⟨89, _⟩ => ⟨S_, .f32⟩
  | .hbm, ⟨90, _⟩ => ⟨S_, .f32⟩
  | .hbm, ⟨91, _⟩ => ⟨S1x4x32x16x128x256, .i1⟩
  | .hbm, ⟨92, _⟩ => ⟨S1x4x32x16x128x256, .f32⟩
  | .hbm, ⟨93, _⟩ => ⟨S1x4x32x16x128x256, .f32⟩
  | .hbm, ⟨94, _⟩ => ⟨S_, .f32⟩
  | .hbm, ⟨95, _⟩ => ⟨S1x4x32x16x128, .f32⟩
  | .hbm, ⟨96, _⟩ => ⟨S1x4x32x16x128x1, .f32⟩
  | .hbm, ⟨97, _⟩ => ⟨S1x4x32x16x128x256, .f32⟩
  | .hbm, ⟨98, _⟩ => ⟨S1x4x32x16x128x256, .f32⟩
  | .hbm, ⟨99, _⟩ => ⟨S1x4x32x16x128x256, .f32⟩
  | .hbm, ⟨100, _⟩ => ⟨S_, .f32⟩
  | .hbm, ⟨101, _⟩ => ⟨S1x4x32x16x128, .f32⟩
  | .hbm, ⟨102, _⟩ => ⟨S1x4x32x16x128x1, .f32⟩
  | .hbm, ⟨103, _⟩ => ⟨S1x4x32x16x128x256, .f32⟩
  | .hbm, ⟨104, _⟩ => ⟨S1x4x32x16x128x256, .f32⟩
  | .hbm, ⟨105, _⟩ => ⟨S1x4x32x16x64x128, .f32⟩
  | .hbm, ⟨106, _⟩ => ⟨S1x4x32x128x16x64, .f32⟩
  | .hbm, ⟨107, _⟩ => ⟨S1x4x32x16x128x1, .f32⟩
  | .hbm, ⟨108, _⟩ => ⟨S1x4x32x16x128x1, .f32⟩
  | .hbm, ⟨109, _⟩ => ⟨S1x4x32x16x128, .f32⟩
  | .hbm, ⟨110, _⟩ => ⟨S1x4x4096x16x64, .f32⟩
  | .hbm, ⟨111, _⟩ => ⟨S1x4096x4x16x64, .f32⟩
  | .hbm, ⟨112, _⟩ => ⟨S1x16384x16x64, .f32⟩
  | .hbm, ⟨113, _⟩ => ⟨S1x4x32x128x16, .f32⟩
  | .hbm, ⟨114, _⟩ => ⟨S1x4x4096x16, .f32⟩
  | .hbm, ⟨115, _⟩ => ⟨S1x4096x4x16, .f32⟩
  | .hbm, ⟨116, _⟩ => ⟨S1x16384x16, .f32⟩
  | .hbm, ⟨117, _⟩ => ⟨S4096x4x1024, .f32⟩
  | .hbm, ⟨118, _⟩ => ⟨S4x4096x1024, .f32⟩
  | .hbm, ⟨119, _⟩ => ⟨S16384x1024, .f32⟩
  | .hbm, ⟨120, _⟩ => ⟨S4096x4x16, .f32⟩
  | .hbm, ⟨121, _⟩ => ⟨S4x4096x16, .f32⟩
  | .hbm, ⟨122, _⟩ => ⟨S16384x16, .f32⟩
  | .hbm, ⟨123, _⟩ => ⟨S_, .i32⟩
  | .hbm, ⟨124, _⟩ => ⟨S_, .f32⟩
  | .hbm, ⟨125, _⟩ => ⟨S16384x128, .f32⟩
  | _, _ => ⟨S1x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_13 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_14 : Ref sig .tc := ⟨.hbm, 123, rfl⟩
abbrev main_call1_v0 : Ref sig .tc := ⟨.hbm, 124, rfl⟩
abbrev main_v101 : Ref sig .tc := ⟨.hbm, 125, rfl⟩

abbrev nD : Nat := 1
abbrev τ : Topo := Topo.v7x

variable {F : FTy → Type} [FloatOps F]
-- ==== Proof.Attn.Cases.lean ====
/- The three cases of the body's branch conditions over the grid, and the names of what the body is called with. The
   second grid axis counts the 32 blocks of a residue class and one step more: block 0 clears the carries (case A),
   blocks 1 … 31 add to them (case B), and the extra step writes the last block's carries out (case C). -/
module

public import proofs.«01_k».proof.Proof.Gen.KernelIdeal.Frame
public import proofs.«01_k».proof.Proof.Gen.KernelIdeal.Skeleton

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body clears its carries. -/
abbrev first (i : grid0.Coords) : Prop :=
  (Scalar.cmpi .ne (Scalar.extui (Scalar.cmpi .eq (BitVec.ofNat 32 (i 1).val) 0#32)) 0#32) = 1#1
/-- The body computes a block's gradients. -/
abbrev inner (i : grid0.Coords) : Prop := k0_cond2 i = 1#1
/-- The body writes its carries out. -/
abbrev last (i : grid0.Coords) : Prop := k0_cond3 i = 1#1

theorem coord0 (t : Fin cfg0.N) : (grid0.coords t 0).val = t.val / 33 % 4 :=
  Pipeline.Grid.coords_val t 0 (by decide) rfl

theorem coord1 (t : Fin cfg0.N) : (grid0.coords t 1).val = t.val % 33 := by
  have h : (grid0.coords t 1).val = t.val / 1 % 33 := Pipeline.Grid.coords_val t 1 (by decide) rfl
  rwa [Nat.div_one] at h

theorem first_iff : ∀ t : Fin cfg0.N, first (grid0.coords t) ↔ t.val % 33 = 0 :=
  (by decide +kernel : ∀ t : Fin grid0.N, first (grid0.coords t) ↔ t.val % 33 = 0)

theorem inner_iff : ∀ t : Fin cfg0.N, inner (grid0.coords t) ↔ t.val % 33 ≤ 31 :=
  (by decide +kernel : ∀ t : Fin grid0.N, inner (grid0.coords t) ↔ t.val % 33 ≤ 31)

theorem last_iff : ∀ t : Fin cfg0.N, last (grid0.coords t) ↔ t.val % 33 = 32 :=
  (by decide +kernel : ∀ t : Fin grid0.N, last (grid0.coords t) ↔ t.val % 33 = 32)

/-- The carries of the key and value gradients. -/
abbrev ckM : Memref sig .tc .vmem S128x1024 .f32 := Memref.whole cc0_scratch0
abbrev cvM : Memref sig .tc .vmem S128x1024 .f32 := Memref.whole cc0_scratch1

/-- The launch's invariant with the carries as memrefs owned at some contents. -/
theorem launch_inv (c : Dev nD) :
    (Pipeline.ΦA spec0 c : sProp 𝕄)
      = iprop(iprop((∃ d, owns (c : Thread nD τ) ckM fullShare d) ∗ (∃ d, owns (c : Thread nD τ) cvM fullShare d))
          ∗ (∃ r, prngReg c r)) := by
  unfold Pipeline.ΦA; rw [scopedRest0_eq]; simp only [ckM, cvM, owns_whole]; try rfl

end Cert.KernelIdeal.Attn

end
-- ==== Proof.Attn.Tile.lean ====
module

public import proofs.«01_k».proof.Proof.Attn.Cases
public import Idealize.ShloMosaic.Lib.ValueIdxCore

@[expose] public section

noncomputable section

/-! The values one step of the kernel leaves, pair of heads by pair of heads. -/

namespace Cert.KernelIdeal.Attn

open Cert.KernelIdeal Cert.KernelIdeal.Gen
open Idealize.ShloMosaic Idealize.ShloMosaic.TcCoe Idealize.ShloMosaic.ValueIdx Idealize.SL.Sem

variable {F : FTy → Type} [FloatOps F] [Named F]

/-- What a pair of heads is computed from: the slopes, the biases of the distances, the blocks of the queries, of the results'
    gradients, of the keys and values of the block before and of this one, and the columns of the two statistics. -/
structure Pair (F : FTy → Type) where
  σa : F .f32
  σb : F .f32
  bias : FVec F S128x256 .f32
  q : Vec F S128x128 .bf16
  g : Vec F S128x128 .bf16
  kp : Vec F S128x128 .bf16
  kc : Vec F S128x128 .bf16
  vp : Vec F S128x128 .bf16
  vc : Vec F S128x128 .bf16
  la : Vec F S128x1 .f32
  lb : Vec F S128x1 .f32
  da : Vec F S128x1 .f32
  db : Vec F S128x1 .f32

/-- The lanes of the pair's first head, and of its second. -/
def lanesA : IVec S128x128 1 := k0_pay7
def lanesB : IVec S128x128 1 := xori lanesA (constantI S128x128 1 1#1)
/-- The same over two blocks' rows. -/
def lanes2 : IVec S256x128 1 := k0_pay8

def zeros : FVec F S128x128 .bf16 := broadcast S128x128 (Scalar.ofBits .bf16 0x0000#16)

def flat (x : Vec F S128x128 .bf16) : FVec F S128x128 .bf16 := shapeCast S128x128 x shapeCasts_S128x128_S128x128

/-- Two blocks, one above the other. -/
def stack (x y : Vec F S128x128 .bf16) : FVec F S256x128 .bf16 :=
  concatenate S256x128 0 [⟨S128x128, flat x⟩, ⟨S128x128, flat y⟩] concatenates_S128x128_S128x128_S256x128_d0

/-- A column spread over the keys. -/
def spread (x : Vec F S128x1 .f32) : FVec F S128x256 .f32 :=
  broadcastTo S128x256 (shapeCast S128x1 x shapeCasts_S128x1_S128x1) broadcasts_S128x1_S128x256

def rowsDot (x : FVec F S128x128 .bf16) (y : FVec F S256x128 .bf16) : FVec F S128x256 .f32 :=
  matmul dot_S128x128_S256x128_S128x256_1_1_0_0_n_n none x y (constant S128x256 .f32 0x00000000#32)

/-- The weights of the keys under one head. -/
def weights (σ : F .f32) (keep : IVec S128x128 1) (l : Vec F S128x1 .f32) (P : Pair F) : FVec F S128x256 .f32 :=
  exp (subf (addf (rowsDot (select keep (flat P.q) (zeros (F := F))) (stack P.kp P.kc)) (mulf (broadcast S128x256 σ) P.bias)) (spread l))

/-- The gradients of the scores under one head. -/
def scoreGrads (σ : F .f32) (keep : IVec S128x128 1) (l d : Vec F S128x1 .f32) (P : Pair F) : FVec F S128x256 .bf16 :=
  truncf .bf16 (mulf (weights σ keep l P)
    (subf (rowsDot (select keep (flat P.g) (zeros (F := F))) (stack P.vp P.vc)) (spread d))) bitsLt_bf16_f32

def headQ (σ : F .f32) (keep : IVec S128x128 1) (l d : Vec F S128x1 .f32) (P : Pair F) : FVec F S128x128 .f32 :=
  matmul dot_S128x256_S256x128_S128x128_1_0_0_1_n_n none (scoreGrads σ keep l d P) (stack P.kp P.kc) (constant S128x128 .f32 0x00000000#32)

/-- The queries and the results' gradients, as the two blocks on a diagonal. -/
def diag (P : Pair F) : FVec F S256x256 .bf16 :=
  concatenate S256x256 0
    [⟨S128x256, concatenate S128x256 1 [⟨S128x128, flat P.q⟩, ⟨S128x128, zeros (F := F)⟩] concatenates_S128x128_S128x128_S128x256_d1⟩,
     ⟨S128x256, concatenate S128x256 1 [⟨S128x128, zeros (F := F)⟩, ⟨S128x128, flat P.g⟩] concatenates_S128x128_S128x128_S128x256_d1⟩]
    concatenates_S128x256_S128x256_S256x256_d0

/-- The key gradients (left) and the value gradients (right) under one head. -/
def headKV (σ : F .f32) (keep : IVec S128x128 1) (l d : Vec F S128x1 .f32) (P : Pair F) : FVec F S256x256 .f32 :=
  matmul dot_S256x256_S256x256_S256x256_0_0_1_1_n_n none
    (concatenate S256x256 0 [⟨S128x256, scoreGrads σ keep l d P⟩, ⟨S128x256, truncf .bf16 (weights σ keep l P) bitsLt_bf16_f32⟩]
      concatenates_S128x256_S128x256_S256x256_d0)
    (diag P) (constant S256x256 .f32 0x00000000#32)

def pairQ (P : Pair F) : FVec F S128x128 .bf16 :=
  truncf .bf16 (mulf (select lanesA (headQ P.σa lanesA P.la P.da P) (headQ P.σb lanesB P.lb P.db P))
    (broadcast S128x128 (Scalar.ofBits .f32 0x3E000000#32))) bitsLt_bf16_f32

def pairK (P : Pair F) : FVec F S256x128 .f32 :=
  select lanes2 (extractStridedSlice S256x128 ![0, 0] (headKV P.σa lanesA P.la P.da P) slices_S256x256_o0_0_S256x128)
    (extractStridedSlice S256x128 ![0, 0] (headKV P.σb lanesB P.lb P.db P) slices_S256x256_o0_0_S256x128)

def pairV (P : Pair F) : FVec F S256x128 .f32 :=
  select lanes2 (extractStridedSlice S256x128 ![0, 128] (headKV P.σa lanesA P.la P.da P) slices_S256x256_o0_128_S256x128)
    (extractStridedSlice S256x128 ![0, 128] (headKV P.σb lanesB P.lb P.db P) slices_S256x256_o0_128_S256x128)

/-- The upper block added to a carry: a block of gradients that is complete. -/
def done (c : Vec F S128x128 .f32) (x : FVec F S256x128 .f32) : FVec F S128x128 .bf16 :=
  truncf .bf16 (addf c (extractStridedSlice S128x128 ![0, 0] x slices_S256x128_o0_0_S128x128)) bitsLt_bf16_f32

/-- The lower block: the carry to the next step. -/
def carry (x : FVec F S256x128 .f32) : FVec F S128x128 .f32 :=
  shapeCast S128x128 (extractStridedSlice S128x128 ![128, 0] x slices_S256x128_o128_0_S128x128) shapeCasts_S128x128_S128x128

def slopeA : Fin 8 → F .f32 := ![Named.named κ "slope1" 0x3F3504F3#32, Named.named κ "slope3" 0x3EB504F3#32,
  Named.named κ "slope5" 0x3E3504F3#32, Named.named κ "slope7" 0x3DB504F3#32, Named.named κ "slope9" 0x3D3504F3#32,
  Named.named κ "slope11" 0x3CB504F3#32, Named.named κ "slope13" 0x3C3504F3#32, Named.named κ "slope15" 0x3BB504F3#32]

def slopeB : Fin 8 → F .f32 := ![Scalar.ofBits .f32 0x3F000000#32, Scalar.ofBits .f32 0x3E800000#32,
  Scalar.ofBits .f32 0x3E000000#32, Scalar.ofBits .f32 0x3D800000#32, Scalar.ofBits .f32 0x3D000000#32,
  Scalar.ofBits .f32 0x3C800000#32, Scalar.ofBits .f32 0x3C000000#32, Scalar.ofBits .f32 0x3B800000#32]

/-- The columns of a pair of heads. -/
def cols {e : EltTy} (x : Vec F S128x1024 e) (hp : Fin 8) : Vec F S128x128 e :=
  fun j => x (ix2 (j 0) ⟨128 * hp.val + (j 1).val, by have := (j 1).isLt; have : (j 1).val < 128 := this; omega⟩)

/-- One column of a statistic. -/
def col (x : Vec F S128x128 .f32) (h : Fin 16) : Vec F S128x1 .f32 :=
  fun j => x (ix2 (j 0) ⟨h.val, by omega⟩)

abbrev headA (hp : Fin 8) : Fin 16 := ⟨2 * hp.val, by omega⟩
abbrev headB (hp : Fin 8) : Fin 16 := ⟨2 * hp.val + 1, by omega⟩

/-- A pair of heads' operands out of the step's blocks. -/
def pairOf (n : BitVec 32) (x0 x1 x2 x3 x4 x5 : Vec F S128x1024 .bf16) (x6 x7 : Vec F S128x128 .f32) (hp : Fin 8) : Pair F where
  σa := slopeA hp
  σb := slopeB hp
  bias := k0_pay6 (F := F) n
  q := cols x0 hp
  g := cols x5 hp
  kp := cols x1 hp
  kc := cols x2 hp
  vp := cols x3 hp
  vc := cols x4 hp
  la := col x6 (headA hp)
  lb := col x6 (headB hp)
  da := col x7 (headA hp)
  db := col x7 (headB hp)

/-- Eight pairs' tiles side by side. -/
def slab {e : EltTy} (T : Fin 8 → Vec F S128x128 e) : Vec F S128x1024 e :=
  fun y => T ⟨(y 1).val / 128, by have : (y 1).val < 1024 := (y 1).isLt; omega⟩
    (ix2 (y 0) ⟨(y 1).val % 128, Nat.mod_lt _ (by norm_num)⟩)

/-- Two slabs side by side. -/
def slab2 {e : EltTy} (T U : Fin 8 → Vec F S128x128 e) : Vec F S128x2048 e :=
  fun y => if h : (y 1).val < 1024 then slab T (ix2 (y 0) ⟨(y 1).val, h⟩)
    else slab U (ix2 (y 0) ⟨(y 1).val - 1024, by have : (y 1).val < 2048 := (y 1).isLt; omega⟩)

end Cert.KernelIdeal.Attn

end
-- ==== Proof.Attn.Stores.lean ====
module

public import proofs.«01_k».proof.Proof.Attn.Tile
public import Idealize.ShloMosaic.Lib.Pipeline.ReadBack
public import Idealize.ShloMosaic.Lib.Pipeline.ValueKit.Tiles

@[expose] public section

noncomputable section

/-! What the stores of the eight pairs' tiles leave, and what the loads of the pairs' columns read. -/

namespace Cert.KernelIdeal.Attn

open Cert.KernelIdeal Cert.KernelIdeal.Gen
open Idealize.ShloMosaic Idealize.ShloMosaic.TcCoe Idealize.ShloMosaic.ValueIdx Idealize.SL.Sem

variable {F : FTy → Type} [FloatOps F] [Named F]

/-- The stores of the eight pairs' tiles, the last one first. -/
def tiles {e : EltTy} (T : Fin 8 → Vec F S128x128 e) : List (View.Piece (Elt F) S128x1024 e) :=
  [⟨Rect.unit ![0, 896] S128x128.size inb_S128x1024_S128x128_0_896, T 7⟩,
   ⟨Rect.unit ![0, 768] S128x128.size inb_S128x1024_S128x128_0_768, T 6⟩,
   ⟨Rect.unit ![0, 640] S128x128.size inb_S128x1024_S128x128_0_640, T 5⟩,
   ⟨Rect.unit ![0, 512] S128x128.size inb_S128x1024_S128x128_0_512, T 4⟩,
   ⟨Rect.unit ![0, 384] S128x128.size inb_S128x1024_S128x128_0_384, T 3⟩,
   ⟨Rect.unit ![0, 256] S128x128.size inb_S128x1024_S128x128_0_256, T 2⟩,
   ⟨Rect.unit ![0, 128] S128x128.size inb_S128x1024_S128x128_0_128, T 1⟩,
   ⟨Rect.unit ![0, 0] S128x128.size inb_S128x1024_S128x128_0_0, T 0⟩]

/-- The stores of the key gradients' and the value gradients' tiles, in turn, the last one first. -/
def tiles2 {e : EltTy} (T U : Fin 8 → Vec F S128x128 e) : List (View.Piece (Elt F) S128x2048 e) :=
  [⟨Rect.unit ![0, 1920] S128x128.size inb_S128x2048_S128x128_0_1920, U 7⟩,
   ⟨Rect.unit ![0, 896] S128x128.size inb_S128x2048_S128x128_0_896, T 7⟩,
   ⟨Rect.unit ![0, 1792] S128x128.size inb_S128x2048_S128x128_0_1792, U 6⟩,
   ⟨Rect.unit ![0, 768] S128x128.size inb_S128x2048_S128x128_0_768, T 6⟩,
   ⟨Rect.unit ![0, 1664] S128x128.size inb_S128x2048_S128x128_0_1664, U 5⟩,
   ⟨Rect.unit ![0, 640] S128x128.size inb_S128x2048_S128x128_0_640, T 5⟩,
   ⟨Rect.unit ![0, 1536] S128x128.size inb_S128x2048_S128x128_0_1536, U 4⟩,
   ⟨Rect.unit ![0, 512] S128x128.size inb_S128x2048_S128x128_0_512, T 4⟩,
   ⟨Rect.unit ![0, 1408] S128x128.size inb_S128x2048_S128x128_0_1408, U 3⟩,
   ⟨Rect.unit ![0, 384] S128x128.size inb_S128x2048_S128x128_0_384, T 3⟩,
   ⟨Rect.unit ![0, 1280] S128x128.size inb_S128x2048_S128x128_0_1280, U 2⟩,
   ⟨Rect.unit ![0, 256] S128x128.size inb_S128x2048_S128x128_0_256, T 2⟩,
   ⟨Rect.unit ![0, 1152] S128x128.size inb_S128x2048_S128x128_0_1152, U 1⟩,
   ⟨Rect.unit ![0, 128] S128x128.size inb_S128x2048_S128x128_0_128, T 1⟩,
   ⟨Rect.unit ![0, 1024] S128x128.size inb_S128x2048_S128x128_0_1024, U 0⟩,
   ⟨Rect.unit ![0, 0] S128x128.size inb_S128x2048_S128x128_0_0, T 0⟩]

theorem emb_row {A B off : ℕ} (inb : ∀ a, (![0, off] : Fin 2 → ℕ) a + S128x128.size a ≤ (⟨2, ![A, B]⟩ : Shape).size a) (x : S128x128.Idx) :
    ((Rect.unit (s := ⟨2, ![A, B]⟩) ![0, off] S128x128.size inb).emb x 0).val = 0 + (x 0).val :=
  Rect.idx_unit_val (s := ⟨2, ![A, B]⟩) ![0, off] S128x128.size inb x 0

theorem emb_col {A B off : ℕ} (inb : ∀ a, (![0, off] : Fin 2 → ℕ) a + S128x128.size a ≤ (⟨2, ![A, B]⟩ : Shape).size a) (x : S128x128.Idx) :
    ((Rect.unit (s := ⟨2, ![A, B]⟩) ![0, off] S128x128.size inb).emb x 1).val = off + (x 1).val :=
  Rect.idx_unit_val (s := ⟨2, ![A, B]⟩) ![0, off] S128x128.size inb x 1

theorem slab_emb {e : EltTy} (T : Fin 8 → Vec F S128x128 e) (hp : Fin 8) (off : ℕ) (h : off = 128 * hp.val)
    (inb : ∀ a, (![0, off] : Fin 2 → ℕ) a + S128x128.size a ≤ S128x1024.size a) (x : S128x128.Idx) :
    T hp x = slab T ((Rect.unit (s := S128x1024) ![0, off] S128x128.size inb).emb x) := by
  subst h
  have h1 : (x 1).val < 128 := (x 1).isLt
  have e1 : ((Rect.unit (s := S128x1024) ![0, 128 * hp.val] S128x128.size inb).emb x 1).val = 128 * hp.val + (x 1).val :=
    emb_col inb x
  have e0 : ((Rect.unit (s := S128x1024) ![0, 128 * hp.val] S128x128.size inb).emb x 0).val = 0 + (x 0).val :=
    emb_row inb x
  unfold slab
  have hq : (⟨((Rect.unit (s := S128x1024) ![0, 128 * hp.val] S128x128.size inb).emb x 1).val / 128, by rw [e1]; omega⟩ : Fin 8) = hp :=
    Fin.ext (by show _ / 128 = _; rw [e1]; omega)
  rw [show T hp x = T hp (ix2 (x 0) (x 1)) from congrArg _ (eq_ix2 x)]
  congr 1
  · exact hq.symm
  · congr 1
    · exact Fin.ext (by rw [e0]; omega)
    · exact Fin.ext (by show _ = _ % 128; rw [e1]; omega)

theorem slab2_emb_left {e : EltTy} (T U : Fin 8 → Vec F S128x128 e) (hp : Fin 8) (off : ℕ) (h : off = 128 * hp.val)
    (inb : ∀ a, (![0, off] : Fin 2 → ℕ) a + S128x128.size a ≤ S128x2048.size a) (x : S128x128.Idx) :
    T hp x = slab2 T U ((Rect.unit (s := S128x2048) ![0, off] S128x128.size inb).emb x) := by
  have h1 : (x 1).val < 128 := (x 1).isLt
  have e1 : ((Rect.unit (s := S128x2048) ![0, off] S128x128.size inb).emb x 1).val = off + (x 1).val := emb_col inb x
  have inb' : ∀ a, (![0, off] : Fin 2 → ℕ) a + S128x128.size a ≤ S128x1024.size a :=
    Fin.forall_fin_two.mpr ⟨le_refl _, by show off + 128 ≤ 1024; omega⟩
  rw [slab_emb T hp off h inb' x]
  unfold slab2
  rw [dif_pos (by rw [e1]; omega)]
  exact congrArg _ (eq_ix2 _)

theorem slab2_emb_right {e : EltTy} (T U : Fin 8 → Vec F S128x128 e) (hp : Fin 8) (off : ℕ) (h : off = 1024 + 128 * hp.val)
    (inb : ∀ a, (![0, off] : Fin 2 → ℕ) a + S128x128.size a ≤ S128x2048.size a) (x : S128x128.Idx) :
    U hp x = slab2 T U ((Rect.unit (s := S128x2048) ![0, off] S128x128.size inb).emb x) := by
  have h1 : (x 1).val < 128 := (x 1).isLt
  have e0 : ((Rect.unit (s := S128x2048) ![0, off] S128x128.size inb).emb x 0).val = 0 + (x 0).val := emb_row inb x
  have e1 : ((Rect.unit (s := S128x2048) ![0, off] S128x128.size inb).emb x 1).val = off + (x 1).val := emb_col inb x
  have inb' : ∀ a, (![0, 128 * hp.val] : Fin 2 → ℕ) a + S128x128.size a ≤ S128x1024.size a :=
    Fin.forall_fin_two.mpr ⟨le_refl _, by show 128 * hp.val + 128 ≤ 1024; omega⟩
  have f0 : ((Rect.unit (s := S128x1024) ![0, 128 * hp.val] S128x128.size inb').emb x 0).val = 0 + (x 0).val := emb_row inb' x
  have f1 : ((Rect.unit (s := S128x1024) ![0, 128 * hp.val] S128x128.size inb').emb x 1).val = 128 * hp.val + (x 1).val :=
    emb_col inb' x
  rw [slab_emb U hp _ rfl inb' x]
  unfold slab2
  rw [dif_neg (by rw [e1]; omega)]
  refine congrArg _ ((eq_ix2 _).trans ?_)
  congr 1
  · exact Fin.ext (by show _ = _ - 1024; rw [f1, e1]; omega)

theorem tiles_of {e : EltTy} (T : Fin 8 → Vec F S128x128 e) : View.PiecesOf (slab T) (tiles T) :=
  ⟨slab_emb T 7 896 rfl inb_S128x1024_S128x128_0_896,
   slab_emb T 6 768 rfl inb_S128x1024_S128x128_0_768,
   slab_emb T 5 640 rfl inb_S128x1024_S128x128_0_640,
   slab_emb T 4 512 rfl inb_S128x1024_S128x128_0_512,
   slab_emb T 3 384 rfl inb_S128x1024_S128x128_0_384,
   slab_emb T 2 256 rfl inb_S128x1024_S128x128_0_256,
   slab_emb T 1 128 rfl inb_S128x1024_S128x128_0_128,
   slab_emb T 0 0 rfl inb_S128x1024_S128x128_0_0, trivial⟩

theorem tiles2_of {e : EltTy} (T U : Fin 8 → Vec F S128x128 e) : View.PiecesOf (slab2 T U) (tiles2 T U) :=
  ⟨slab2_emb_right T U 7 1920 rfl inb_S128x2048_S128x128_0_1920, slab2_emb_left T U 7 896 rfl inb_S128x2048_S128x128_0_896,
   slab2_emb_right T U 6 1792 rfl inb_S128x2048_S128x128_0_1792, slab2_emb_left T U 6 768 rfl inb_S128x2048_S128x128_0_768,
   slab2_emb_right T U 5 1664 rfl inb_S128x2048_S128x128_0_1664, slab2_emb_left T U 5 640 rfl inb_S128x2048_S128x128_0_640,
   slab2_emb_right T U 4 1536 rfl inb_S128x2048_S128x128_0_1536, slab2_emb_left T U 4 512 rfl inb_S128x2048_S128x128_0_512,
   slab2_emb_right T U 3 1408 rfl inb_S128x2048_S128x128_0_1408, slab2_emb_left T U 3 384 rfl inb_S128x2048_S128x128_0_384,
   slab2_emb_right T U 2 1280 rfl inb_S128x2048_S128x128_0_1280, slab2_emb_left T U 2 256 rfl inb_S128x2048_S128x128_0_256,
   slab2_emb_right T U 1 1152 rfl inb_S128x2048_S128x128_0_1152, slab2_emb_left T U 1 128 rfl inb_S128x2048_S128x128_0_128,
   slab2_emb_right T U 0 1024 rfl inb_S128x2048_S128x128_0_1024, slab2_emb_left T U 0 0 rfl inb_S128x2048_S128x128_0_0, trivial⟩

theorem tiles_cover {e : EltTy} (T : Fin 8 → Vec F S128x128 e) (y : S128x1024.Idx) : ∃ p ∈ tiles T, y ∈ p.1.set :=
  View.cover_of_tiledL (tiles T) S128x128.size (by sl_kernel_rfl) y

theorem tiles2_cover {e : EltTy} (T U : Fin 8 → Vec F S128x128 e) (y : S128x2048.Idx) : ∃ p ∈ tiles2 T U, y ∈ p.1.set :=
  View.cover_of_tiledL (tiles2 T U) S128x128.size (by sl_kernel_rfl) y

variable {κ : Kind} {sp : Space}

theorem read_tiles {e : EltTy} (v : View sig κ sp S128x1024 e) (f : v.ty.Contents (Elt F)) (T : Fin 8 → Vec F S128x128 e) :
    v.read (Elt F) (v.writes (Elt F) f (tiles T)) = slab T := by
  rw [View.read_writes_eq_canon v f _ (tiles_cover T)]
  exact funext fun y => View.canon_apply_of_pieces (slab T) _ (tiles_of T).mem y (tiles_cover T y)

theorem read_tiles2 {e : EltTy} (v : View sig κ sp S128x2048 e) (f : v.ty.Contents (Elt F)) (T U : Fin 8 → Vec F S128x128 e) :
    v.read (Elt F) (v.writes (Elt F) f (tiles2 T U)) = slab2 T U := by
  rw [View.read_writes_eq_canon v f _ (tiles2_cover T U)]
  exact funext fun y => View.canon_apply_of_pieces (slab2 T U) _ (tiles2_of T U).mem y (tiles2_cover T U y)

theorem load_cols {e : EltTy} {a : Memref sig κ sp S128x1024 e} (w : a.IsWhole) (x : Vec F S128x1024 e) (hp : Fin 8)
    (inb : ∀ d, (![0, 128 * hp.val] : Fin 2 → ℕ) d + S128x128.size d ≤ S128x1024.size d) :
    View.readAt (Elt F) a.view (Rect.unit (s := S128x1024) ![0, 128 * hp.val] S128x128.size inb).toLoadRect (w.unread x) = cols x hp := by
  funext j
  rw [View.readAt_eq_ld, w.read_unread]
  exact View.ld_unit_apply_of x _ _ inb j _ (Fin.forall_fin_two.mpr ⟨(Nat.zero_add _).symm, rfl⟩)

theorem load_col {a : Memref sig κ sp S128x128 .f32} (w : a.IsWhole) (x : Vec F S128x128 .f32) (h : Fin 16)
    (inb : ∀ d, (![0, h.val] : Fin 2 → ℕ) d + S128x1.size d ≤ S128x128.size d) :
    View.readAt (Elt F) a.view (Rect.unit (s := S128x128) ![0, h.val] S128x1.size inb).toLoadRect (w.unread x) = col x h := by
  funext j
  rw [View.readAt_eq_ld, w.read_unread]
  have hj : (j 1).val = 0 := Nat.lt_one_iff.mp (j 1).isLt
  exact View.ld_unit_apply_of x _ _ inb j _ (Fin.forall_fin_two.mpr ⟨(Nat.zero_add _).symm, by show h.val = h.val + (j 1).val; omega⟩)

end Cert.KernelIdeal.Attn

end
-- ==== Proof.Attn.Work.lean ====
module

public import proofs.«01_k».proof.Proof.Attn.Stores

@[expose] public section

set_option maxRecDepth 16384

noncomputable section

/-! The middle part of the kernel's body, which computes a block's gradients: what it leaves. -/

namespace Cert.KernelIdeal.Attn

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The middle part of the body. -/
def work (i : grid0.Coords)
    (a0 : Memref sig .tc .vmem S128x1024 .bf16) (w0 : a0.IsWhole) (a1 : Memref sig .tc .vmem S128x1024 .bf16) (w1 : a1.IsWhole)
    (a2 : Memref sig .tc .vmem S128x1024 .bf16) (w2 : a2.IsWhole) (a3 : Memref sig .tc .vmem S128x1024 .bf16) (w3 : a3.IsWhole)
    (a4 : Memref sig .tc .vmem S128x1024 .bf16) (w4 : a4.IsWhole) (a5 : Memref sig .tc .vmem S128x1024 .bf16) (w5 : a5.IsWhole)
    (a6 : Memref sig .tc .vmem S128x128 .f32) (w6 : a6.IsWhole) (a7 : Memref sig .tc .vmem S128x128 .f32) (w7 : a7.IsWhole)
    (a8 : Memref sig .tc .vmem S128x1024 .bf16) (w8 : a8.IsWhole) (a9 : Memref sig .tc .vmem S128x2048 .bf16) (w9 : a9.IsWhole)
    (a10 : Memref sig .tc .vmem S128x1024 .f32) (w10 : a10.IsWhole) (a11 : Memref sig .tc .vmem S128x1024 .f32) (w11 : a11.IsWhole) :
    Prog (TpuEff nD τ sig (Elt F) Λ₀ .tc) PUnit := do
  let x : FVec F S256x128 .f32 ← k0_part20 i a0 w0 a1 w1 a2 w2 a3 w3 a4 w4 a5 w5 a6 w6 a7 w7 a8 w8 a9 w9 a10 w10 a11 w11 (BitVec.ofNat 32 (i 1).val)
  let _ : Vec F S128x128 .f32 ← Prog.lift (.load a11 (Rect.unit (s := S128x1024) ![0, 896] S128x128.size inb_S128x1024_S128x128_0_896).toLoadRect
    (View.loadsAt_vmem h_S128x128))
  Prog.lift (.store a11 (Rect.unit (s := S128x1024) ![0, 896] S128x128.size inb_S128x1024_S128x128_0_896) (k0_pay3 x) Finset.univ
    (View.stores_vmem_bits_univ h_S128x128 rfl) (.inl rfl))
  pure ⟨⟩

theorem cols_inb (hp : Fin 8) : ∀ d, (![0, 128 * hp.val] : Fin 2 → ℕ) d + S128x128.size d ≤ S128x1024.size d :=
  Fin.forall_fin_two.mpr ⟨le_refl _, by show 128 * hp.val + 128 ≤ 1024; omega⟩

theorem col_inb (h : Fin 16) : ∀ d, (![0, h.val] : Fin 2 → ℕ) d + S128x1.size d ≤ S128x128.size d :=
  Fin.forall_fin_two.mpr ⟨le_refl _, by show h.val + 1 ≤ 128; omega⟩

/-- A pair of heads' operands as the body's loads read them. -/
def rawPair (n : BitVec 32)
    {a0 a1 a2 a3 a4 a5 : Memref sig .tc .vmem S128x1024 .bf16} {a6 a7 : Memref sig .tc .vmem S128x128 .f32}
    (w0 : a0.IsWhole) (w1 : a1.IsWhole) (w2 : a2.IsWhole) (w3 : a3.IsWhole) (w4 : a4.IsWhole) (w5 : a5.IsWhole) (w6 : a6.IsWhole)
    (w7 : a7.IsWhole) (x0 x1 x2 x3 x4 x5 : Vec F S128x1024 .bf16) (x6 x7 : Vec F S128x128 .f32) (hp : Fin 8) : Pair F where
  σa := slopeA hp
  σb := slopeB hp
  bias := k0_pay6 (F := F) n
  q := View.readAt (Elt F) a0.view (Rect.unit (s := S128x1024) ![0, 128 * hp.val] S128x128.size (cols_inb hp)).toLoadRect (w0.unread x0)
  g := View.readAt (Elt F) a5.view (Rect.unit (s := S128x1024) ![0, 128 * hp.val] S128x128.size (cols_inb hp)).toLoadRect (w5.unread x5)
  kp := View.readAt (Elt F) a1.view (Rect.unit (s := S128x1024) ![0, 128 * hp.val] S128x128.size (cols_inb hp)).toLoadRect (w1.unread x1)
  kc := View.readAt (Elt F) a2.view (Rect.unit (s := S128x1024) ![0, 128 * hp.val] S128x128.size (cols_inb hp)).toLoadRect (w2.unread x2)
  vp := View.readAt (Elt F) a3.view (Rect.unit (s := S128x1024) ![0, 128 * hp.val] S128x128.size (cols_inb hp)).toLoadRect (w3.unread x3)
  vc := View.readAt (Elt F) a4.view (Rect.unit (s := S128x1024) ![0, 128 * hp.val] S128x128.size (cols_inb hp)).toLoadRect (w4.unread x4)
  la := View.readAt (Elt F) a6.view (Rect.unit (s := S128x128) ![0, (headA hp).val] S128x1.size (col_inb (headA hp))).toLoadRect (w6.unread x6)
  lb := View.readAt (Elt F) a6.view (Rect.unit (s := S128x128) ![0, (headB hp).val] S128x1.size (col_inb (headB hp))).toLoadRect (w6.unread x6)
  da := View.readAt (Elt F) a7.view (Rect.unit (s := S128x128) ![0, (headA hp).val] S128x1.size (col_inb (headA hp))).toLoadRect (w7.unread x7)
  db := View.readAt (Elt F) a7.view (Rect.unit (s := S128x128) ![0, (headB hp).val] S128x1.size (col_inb (headB hp))).toLoadRect (w7.unread x7)

theorem rawPair_eq (n : BitVec 32)
    {a0 a1 a2 a3 a4 a5 : Memref sig .tc .vmem S128x1024 .bf16} {a6 a7 : Memref sig .tc .vmem S128x128 .f32}
    (w0 : a0.IsWhole) (w1 : a1.IsWhole) (w2 : a2.IsWhole) (w3 : a3.IsWhole) (w4 : a4.IsWhole) (w5 : a5.IsWhole) (w6 : a6.IsWhole)
    (w7 : a7.IsWhole) (x0 x1 x2 x3 x4 x5 : Vec F S128x1024 .bf16) (x6 x7 : Vec F S128x128 .f32) (hp : Fin 8) :
    rawPair n w0 w1 w2 w3 w4 w5 w6 w7 x0 x1 x2 x3 x4 x5 x6 x7 hp = pairOf n x0 x1 x2 x3 x4 x5 x6 x7 hp := by
  unfold rawPair pairOf
  rw [load_cols w0 x0 hp, load_cols w5 x5 hp, load_cols w1 x1 hp, load_cols w2 x2 hp, load_cols w3 x3 hp, load_cols w4 x4 hp,
    load_col w6 x6 (headA hp), load_col w6 x6 (headB hp), load_col w7 x7 (headA hp), load_col w7 x7 (headB hp)]

set_option maxHeartbeats 2000000 in
theorem work_run (c : Dev nD) (i : grid0.Coords)
    (a0 : Memref sig .tc .vmem S128x1024 .bf16) (w0 : a0.IsWhole) (a1 : Memref sig .tc .vmem S128x1024 .bf16) (w1 : a1.IsWhole)
    (a2 : Memref sig .tc .vmem S128x1024 .bf16) (w2 : a2.IsWhole) (a3 : Memref sig .tc .vmem S128x1024 .bf16) (w3 : a3.IsWhole)
    (a4 : Memref sig .tc .vmem S128x1024 .bf16) (w4 : a4.IsWhole) (a5 : Memref sig .tc .vmem S128x1024 .bf16) (w5 : a5.IsWhole)
    (a6 : Memref sig .tc .vmem S128x128 .f32) (w6 : a6.IsWhole) (a7 : Memref sig .tc .vmem S128x128 .f32) (w7 : a7.IsWhole)
    (a8 : Memref sig .tc .vmem S128x1024 .bf16) (w8 : a8.IsWhole) (a9 : Memref sig .tc .vmem S128x2048 .bf16) (w9 : a9.IsWhole)
    (a10 : Memref sig .tc .vmem S128x1024 .f32) (w10 : a10.IsWhole) (a11 : Memref sig .tc .vmem S128x1024 .f32) (w11 : a11.IsWhole)
    (x0 x1 x2 x3 x4 x5 : Vec F S128x1024 .bf16) (x6 x7 : Vec F S128x128 .f32) (s0 s1 : Vec F S128x1024 .f32)
    (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ owns (c : Thread nD τ) a10 fullShare s0 ∗ owns (c : Thread nD τ) a11 fullShare s1
        ∗ ((owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
          ∗ owns (c : Thread nD τ) a8 fullShare (slab fun hp => pairQ (pairOf (BitVec.ofNat 32 (i 1).val) x0 x1 x2 x3 x4 x5 x6 x7 hp))
          ∗ owns (c : Thread nD τ) a9 fullShare (slab2 (fun hp => done (cols s0 hp) (pairK (pairOf (BitVec.ofNat 32 (i 1).val) x0 x1 x2 x3 x4 x5 x6 x7 hp)))
              fun hp => done (cols s1 hp) (pairV (pairOf (BitVec.ofNat 32 (i 1).val) x0 x1 x2 x3 x4 x5 x6 x7 hp)))
          ∗ owns (c : Thread nD τ) a10 fullShare (slab fun hp => carry (pairK (pairOf (BitVec.ofNat 32 (i 1).val) x0 x1 x2 x3 x4 x5 x6 x7 hp)))
          ∗ owns (c : Thread nD τ) a11 fullShare (slab fun hp => carry (pairV (pairOf (BitVec.ofNat 32 (i 1).val) x0 x1 x2 x3 x4 x5 x6 x7 hp)))) -∗ K ⟨⟩))
      ⊢ wp frame (wpE (defs₀ (F := F)) Variants.none c none) E
          (work i a0 w0 a1 w1 a2 w2 a3 w3 a4 w4 a5 w5 a6 w6 a7 w7 a8 w8 a9 w9 a10 w10 a11 w11) K := by
  unfold work
  simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, HK⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7
  obtain rfl := w10.eq_unread hfs0; obtain rfl := w11.eq_unread hfs1
  sl_exec
  sl_step
  iapply HK
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    rotate_left
    · iexact H8
    · ipureintro
      refine Eq.trans ?_ ((read_tiles a8.view f8 fun hp => pairQ (rawPair (BitVec.ofNat 32 (i 1).val) w0 w1 w2 w3 w4 w5 w6 w7 x0 x1 x2 x3 x4 x5 x6 x7 hp)).trans (by simp only [rawPair_eq]))
      sl_kernel_rfl
  isplitl [H9]
  · iexists _; isplitr
    rotate_left
    · iexact H9
    · ipureintro
      refine Eq.trans ?_ ((read_tiles2 a9.view f9
        (fun hp => done (View.readAt (Elt F) a10.view (Rect.unit (s := S128x1024) ![0, 128 * hp.val] S128x128.size (cols_inb hp)).toLoadRect (w10.unread s0)) (pairK (rawPair (BitVec.ofNat 32 (i 1).val) w0 w1 w2 w3 w4 w5 w6 w7 x0 x1 x2 x3 x4 x5 x6 x7 hp)))
        (fun hp => done (View.readAt (Elt F) a11.view (Rect.unit (s := S128x1024) ![0, 128 * hp.val] S128x128.size (cols_inb hp)).toLoadRect (w11.unread s1)) (pairV (rawPair (BitVec.ofNat 32 (i 1).val) w0 w1 w2 w3 w4 w5 w6 w7 x0 x1 x2 x3 x4 x5 x6 x7 hp)))).trans (congrArg₂ slab2 (funext fun hp => by rw [rawPair_eq, load_cols w10 s0 hp]) (funext fun hp => by rw [rawPair_eq, load_cols w11 s1 hp])))
      sl_kernel_rfl
  isplitl [HS0]
  · iexists _; isplitr
    rotate_left
    · iexact HS0
    · ipureintro
      refine Eq.trans ?_ ((read_tiles a10.view (w10.unread s0) fun hp => carry (pairK (rawPair (BitVec.ofNat 32 (i 1).val) w0 w1 w2 w3 w4 w5 w6 w7 x0 x1 x2 x3 x4 x5 x6 x7 hp))).trans (by simp only [rawPair_eq]))
      sl_kernel_rfl
  · iexists _; isplitr
    rotate_left
    · iexact HS1
    · ipureintro
      refine Eq.trans ?_ ((read_tiles a11.view (w11.unread s1) fun hp => carry (pairV (rawPair (BitVec.ofNat 32 (i 1).val) w0 w1 w2 w3 w4 w5 w6 w7 x0 x1 x2 x3 x4 x5 x6 x7 hp))).trans (by simp only [rawPair_eq]))
      sl_kernel_rfl

end Cert.KernelIdeal.Attn

end
-- ==== Proof.Attn.Body.lean ====
/- The body at each of its three cases, with what it leaves named: at block 0 the carries are cleared first, at the
   blocks after it they are as the block before left them, and the extra step writes them out. -/
module

public import proofs.«01_k».proof.Proof.Attn.Work

@[expose] public section

set_option maxRecDepth 65536

noncomputable section

namespace Cert.KernelIdeal.Attn

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The clearing of the carries. -/
def clear (a10 : Memref sig .tc .vmem S128x1024 .f32) (a11 : Memref sig .tc .vmem S128x1024 .f32) :
    Prog (TpuEff nD τ sig (Elt F) Λ₀ .tc) PUnit := do
  let _ : Vec F S128x1024 .f32 ← Prog.lift (.load a10 (Rect.unit (s := S128x1024) ![0, 0] S128x1024.size inb_S128x1024_S128x1024_0_0).toLoadRect (View.loadsAt_vmem h_S128x1024))
  Prog.lift (.store a10 (Rect.unit (s := S128x1024) ![0, 0] S128x1024.size inb_S128x1024_S128x1024_0_0) (k0_pay1 (F := F)) Finset.univ (View.stores_vmem_bits_univ h_S128x1024 rfl) (.inl rfl))
  let _ : Vec F S128x1024 .f32 ← Prog.lift (.load a11 (Rect.unit (s := S128x1024) ![0, 0] S128x1024.size inb_S128x1024_S128x1024_0_0).toLoadRect (View.loadsAt_vmem h_S128x1024))
  Prog.lift (.store a11 (Rect.unit (s := S128x1024) ![0, 0] S128x1024.size inb_S128x1024_S128x1024_0_0) (k0_pay2 (F := F)) Finset.univ (View.stores_vmem_bits_univ h_S128x1024 rfl) (.inl rfl))
  pure ⟨⟩

/-- The writing out of the carries. -/
def emit (a9 : Memref sig .tc .vmem S128x2048 .bf16) (w9 : a9.IsWhole) (a10 : Memref sig .tc .vmem S128x1024 .f32)
    (a11 : Memref sig .tc .vmem S128x1024 .f32) : Prog (TpuEff nD τ sig (Elt F) Λ₀ .tc) PUnit := do
  let u : Vec F S128x1024 .f32 ← Prog.lift (.load a10 (Rect.unit (s := S128x1024) ![0, 0] S128x1024.size inb_S128x1024_S128x1024_0_0).toLoadRect (View.loadsAt_vmem h_S128x1024))
  let _ : Vec F S128x1024 .bf16 ← Prog.lift (.load a9 (Rect.unit (s := S128x2048) ![0, 0] S128x1024.size inb_S128x2048_S128x1024_0_0).toLoadRect (View.loadsAt_vmem h_S128x1024))
  Prog.lift (.store a9 (Rect.unit (s := S128x2048) ![0, 0] S128x1024.size inb_S128x2048_S128x1024_0_0) (k0_pay4 u) Finset.univ (View.stores_vmem h_S128x1024 (w9.storeExact_slice rfl _ packedbf16_S128x2048_S128x1024_0_0) (fun _ => rfl)) (.inl rfl))
  let v : Vec F S128x1024 .f32 ← Prog.lift (.load a11 (Rect.unit (s := S128x1024) ![0, 0] S128x1024.size inb_S128x1024_S128x1024_0_0).toLoadRect (View.loadsAt_vmem h_S128x1024))
  let _ : Vec F S128x1024 .bf16 ← Prog.lift (.load a9 (Rect.unit (s := S128x2048) ![0, 1024] S128x1024.size inb_S128x2048_S128x1024_0_1024).toLoadRect (View.loadsAt_vmem h_S128x1024))
  Prog.lift (.store a9 (Rect.unit (s := S128x2048) ![0, 1024] S128x1024.size inb_S128x2048_S128x1024_0_1024) (k0_pay5 v) Finset.univ (View.stores_vmem h_S128x1024 (w9.storeExact_slice rfl _ packedbf16_S128x2048_S128x1024_0_1024) (fun _ => rfl)) (.inl rfl))
  pure ⟨⟩

/-- Both halves of an output block. -/
def halves (u v : Vec F S128x1024 .f32) : Vec F S128x2048 .bf16 := fun y =>
  if h : (y 1).val < 1024 then k0_pay4 u (ix2 (y 0) ⟨(y 1).val, h⟩)
  else k0_pay5 v (ix2 (y 0) ⟨(y 1).val - 1024, by have := (y 1).isLt; change (y 1).val < 2048 at this; omega⟩)

theorem wide_emb_val {B off : ℕ} (inb : ∀ a, (![0, off] : Fin 2 → ℕ) a + S128x1024.size a ≤ (⟨2, ![128, B]⟩ : Shape).size a) (x : S128x1024.Idx) :
    ((Rect.unit (s := ⟨2, ![128, B]⟩) ![0, off] S128x1024.size inb).emb x 0).val = 0 + (x 0).val
      ∧ ((Rect.unit (s := ⟨2, ![128, B]⟩) ![0, off] S128x1024.size inb).emb x 1).val = off + (x 1).val :=
  ⟨Rect.idx_unit_val (s := ⟨2, ![128, B]⟩) ![0, off] S128x1024.size inb x 0, Rect.idx_unit_val (s := ⟨2, ![128, B]⟩) ![0, off] S128x1024.size inb x 1⟩

theorem whole_emb (inb : ∀ a, (![0, 0] : Fin 2 → ℕ) a + S128x1024.size a ≤ S128x1024.size a) (x : S128x1024.Idx) :
    (Rect.unit (s := S128x1024) ![0, 0] S128x1024.size inb).emb x = x := by
  obtain ⟨e0, e1⟩ := wide_emb_val inb x
  rw [eq_ix2 ((Rect.unit (s := S128x1024) ![0, 0] S128x1024.size inb).emb x)]
  refine Eq.trans ?_ (eq_ix2 x).symm
  congr 1
  · exact Fin.ext (e0.trans (Nat.zero_add _))
  · exact Fin.ext (e1.trans (Nat.zero_add _))

/-- A block just stored whole reads as what was stored. -/
theorem read_whole {κ : Kind} {sp : Space} {e : EltTy} (v : View sig κ sp S128x1024 e) (f : v.ty.Contents (Elt F)) (x : Vec F S128x1024 e) :
    v.read (Elt F) (v.writes (Elt F) f [⟨Rect.unit (s := S128x1024) ![0, 0] S128x1024.size inb_S128x1024_S128x1024_0_0, x⟩]) = x := by
  have hc : ∀ y : S128x1024.Idx, ∃ p ∈ [(⟨Rect.unit (s := S128x1024) ![0, 0] S128x1024.size inb_S128x1024_S128x1024_0_0, x⟩ : View.Piece (Elt F) S128x1024 e)], y ∈ p.1.set :=
    View.cover_of_tiledL _ S128x1024.size (by sl_kernel_rfl)
  rw [View.read_writes_eq_canon v f _ hc]
  have hp : View.PiecesOf x [(⟨Rect.unit (s := S128x1024) ![0, 0] S128x1024.size inb_S128x1024_S128x1024_0_0, x⟩ : View.Piece (Elt F) S128x1024 e)] :=
    ⟨fun z => congrArg x (whole_emb inb_S128x1024_S128x1024_0_0 z).symm, trivial⟩
  exact funext fun y => View.canon_apply_of_pieces x _ hp.mem y (hc y)

theorem load_whole {κ : Kind} {sp : Space} {e : EltTy} {a : Memref sig κ sp S128x1024 e} (w : a.IsWhole) (x : Vec F S128x1024 e) :
    View.readAt (Elt F) a.view (Rect.unit (s := S128x1024) ![0, 0] S128x1024.size inb_S128x1024_S128x1024_0_0).toLoadRect (w.unread x) = x := by
  funext j
  rw [View.readAt_eq_ld, w.read_unread]
  exact View.ld_unit_apply_of x _ _ inb_S128x1024_S128x1024_0_0 j _ (Fin.forall_fin_two.mpr ⟨(Nat.zero_add _).symm, (Nat.zero_add _).symm⟩)

/-- The two halves of an output block, stored one after the other. -/
theorem read_halves {κ : Kind} {sp : Space} (v : View sig κ sp S128x2048 .bf16) (f : v.ty.Contents (Elt F)) (s t : Vec F S128x1024 .f32) :
    v.read (Elt F) (v.writes (Elt F) f [⟨Rect.unit (s := S128x2048) ![0, 1024] S128x1024.size inb_S128x2048_S128x1024_0_1024, k0_pay5 t⟩,
      ⟨Rect.unit (s := S128x2048) ![0, 0] S128x1024.size inb_S128x2048_S128x1024_0_0, k0_pay4 s⟩]) = halves s t := by
  have hc : ∀ y : S128x2048.Idx, ∃ p ∈ [(⟨Rect.unit (s := S128x2048) ![0, 1024] S128x1024.size inb_S128x2048_S128x1024_0_1024, k0_pay5 t⟩ : View.Piece (Elt F) S128x2048 .bf16),
      ⟨Rect.unit (s := S128x2048) ![0, 0] S128x1024.size inb_S128x2048_S128x1024_0_0, k0_pay4 s⟩], y ∈ p.1.set :=
    View.cover_of_tiledL _ S128x1024.size (by sl_kernel_rfl)
  rw [View.read_writes_eq_canon v f _ hc]
  suffices hp : View.PiecesOf (halves s t) [(⟨Rect.unit (s := S128x2048) ![0, 1024] S128x1024.size inb_S128x2048_S128x1024_0_1024, k0_pay5 t⟩ : View.Piece (Elt F) S128x2048 .bf16),
      ⟨Rect.unit (s := S128x2048) ![0, 0] S128x1024.size inb_S128x2048_S128x1024_0_0, k0_pay4 s⟩] from
    funext fun y => View.canon_apply_of_pieces (halves s t) _ hp.mem y (hc y)
  refine ⟨fun z => ?_, fun z => ?_, trivial⟩
  · obtain ⟨e0, e1⟩ := wide_emb_val inb_S128x2048_S128x1024_0_1024 z
    unfold halves
    rw [dif_neg (by erw [e1]; omega)]
    refine congrArg (k0_pay5 t) ((eq_ix2 z).trans ?_)
    congr 1
    · exact Fin.ext (by erw [e0]; omega)
    · exact Fin.ext (by show _ = _ - 1024; erw [e1]; omega)
  · obtain ⟨e0, e1⟩ := wide_emb_val inb_S128x2048_S128x1024_0_0 z
    have hz : (z 1).val < 1024 := (z 1).isLt
    unfold halves
    rw [dif_pos (by erw [e1]; omega)]
    refine congrArg (k0_pay4 s) ((eq_ix2 z).trans ?_)
    congr 1
    · exact Fin.ext (by erw [e0]; omega)
    · exact Fin.ext (by show _ = _; erw [e1]; omega)

section runs

variable (c : Dev nD) (i : grid0.Coords)
    (a0 : Memref sig .tc .vmem S128x1024 .bf16) (w0 : a0.IsWhole) (a1 : Memref sig .tc .vmem S128x1024 .bf16) (w1 : a1.IsWhole)
    (a2 : Memref sig .tc .vmem S128x1024 .bf16) (w2 : a2.IsWhole) (a3 : Memref sig .tc .vmem S128x1024 .bf16) (w3 : a3.IsWhole)
    (a4 : Memref sig .tc .vmem S128x1024 .bf16) (w4 : a4.IsWhole) (a5 : Memref sig .tc .vmem S128x1024 .bf16) (w5 : a5.IsWhole)
    (a6 : Memref sig .tc .vmem S128x128 .f32) (w6 : a6.IsWhole) (a7 : Memref sig .tc .vmem S128x128 .f32) (w7 : a7.IsWhole)
    (a8 : Memref sig .tc .vmem S128x1024 .bf16) (w8 : a8.IsWhole) (a9 : Memref sig .tc .vmem S128x2048 .bf16) (w9 : a9.IsWhole)
    (a10 : Memref sig .tc .vmem S128x1024 .f32) (w10 : a10.IsWhole) (a11 : Memref sig .tc .vmem S128x1024 .f32) (w11 : a11.IsWhole)

theorem body_first (hf : first i) (hi : inner i) (hl : ¬last i) :
    cc0_attn_bwd_g1 (F := F) i a0 w0 a1 w1 a2 w2 a3 w3 a4 w4 a5 w5 a6 w6 a7 w7 a8 w8 a9 w9 a10 w10 a11 w11
      = (clear a10 a11 >>= fun _ => work i a0 w0 a1 w1 a2 w2 a3 w3 a4 w4 a5 w5 a6 w6 a7 w7 a8 w8 a9 w9 a10 w10 a11 w11) := by
  rw [cc0_attn_bwd_g1_eq_skeleton]; unfold cc0_attn_bwd_g1_skel
  simp only [dif_pos hf, dif_pos hi, dif_neg hl]
  rfl

theorem body_inner (hf : ¬first i) (hi : inner i) (hl : ¬last i) :
    cc0_attn_bwd_g1 (F := F) i a0 w0 a1 w1 a2 w2 a3 w3 a4 w4 a5 w5 a6 w6 a7 w7 a8 w8 a9 w9 a10 w10 a11 w11
      = work i a0 w0 a1 w1 a2 w2 a3 w3 a4 w4 a5 w5 a6 w6 a7 w7 a8 w8 a9 w9 a10 w10 a11 w11 := by
  rw [cc0_attn_bwd_g1_eq_skeleton]; unfold cc0_attn_bwd_g1_skel
  simp only [dif_neg hf, dif_pos hi, dif_neg hl]
  rfl

theorem body_last (hf : ¬first i) (hi : ¬inner i) (hl : last i) :
    cc0_attn_bwd_g1 (F := F) i a0 w0 a1 w1 a2 w2 a3 w3 a4 w4 a5 w5 a6 w6 a7 w7 a8 w8 a9 w9 a10 w10 a11 w11
      = emit a9 w9 a10 a11 := by
  rw [cc0_attn_bwd_g1_eq_skeleton]; unfold cc0_attn_bwd_g1_skel
  simp only [dif_neg hf, dif_neg hi, dif_pos hl]
  rfl

theorem clear_run (E : Set ℕ) (K : PUnit → sProp 𝕄) :
    iprop((∃ d, owns (c : Thread nD τ) a10 fullShare d) ∗ (∃ d, owns (c : Thread nD τ) a11 fullShare d)
        ∗ ((owns (c : Thread nD τ) a10 fullShare (k0_pay1 (F := F)) ∗ owns (c : Thread nD τ) a11 fullShare (k0_pay2 (F := F))) -∗ K ⟨⟩))
      ⊢ wp frame (wpE (defs₀ (F := F)) Variants.none c none) E (clear a10 a11) K := by
  unfold clear owns
  iintro ⟨⟨%d0, %f0, -, H0⟩, ⟨%d1, %f1, -, H1⟩, HK⟩
  sl_exec
  sl_step
  iapply HK
  isplitl [H0]
  · iexists _; isplitr
    rotate_left
    · iexact H0
    · ipureintro
      exact read_whole a10.view f0 _
  · iexists _; isplitr
    rotate_left
    · iexact H1
    · ipureintro
      exact read_whole a11.view f1 _

include w10 w11 in
theorem emit_run (s0 s1 : Vec F S128x1024 .f32) (E : Set ℕ) (K : PUnit → sProp 𝕄) :
    iprop((∃ d, owns (c : Thread nD τ) a9 fullShare d) ∗ owns (c : Thread nD τ) a10 fullShare s0 ∗ owns (c : Thread nD τ) a11 fullShare s1
        ∗ ((owns (c : Thread nD τ) a9 fullShare (halves s0 s1) ∗ owns (c : Thread nD τ) a10 fullShare s0
          ∗ owns (c : Thread nD τ) a11 fullShare s1) -∗ K ⟨⟩))
      ⊢ wp frame (wpE (defs₀ (F := F)) Variants.none c none) E (emit a9 w9 a10 a11) K := by
  unfold emit owns
  iintro ⟨⟨%d9, %f9, -, H9⟩, ⟨%f0, %hf0, H0⟩, ⟨%f1, %hf1, H1⟩, HK⟩
  obtain rfl := w10.eq_unread hf0; obtain rfl := w11.eq_unread hf1
  sl_exec
  sl_step
  iapply HK
  isplitl [H9]
  · iexists _; isplitr
    rotate_left
    · iexact H9
    · ipureintro
      rw [load_whole w10 s0, load_whole w11 s1]; exact read_halves a9.view f9 s0 s1
  isplitl [H0]
  · iexists _; isplitr; · ipureintro; exact hf0
    iexact H0
  iexists _; isplitr; · ipureintro; exact hf1
  iexact H1

/-- What the body leaves: the query gradients, the finished key and value gradients, and the two carries. -/
abbrev dqOf (n : ℕ) (x0 x1 x2 x3 x4 x5 : Vec F S128x1024 .bf16) (x6 x7 : Vec F S128x128 .f32) : Vec F S128x1024 .bf16 :=
  slab fun hp => pairQ (pairOf (BitVec.ofNat 32 n) x0 x1 x2 x3 x4 x5 x6 x7 hp)
abbrev dkvOf (n : ℕ) (x0 x1 x2 x3 x4 x5 : Vec F S128x1024 .bf16) (x6 x7 : Vec F S128x128 .f32) (s0 s1 : Vec F S128x1024 .f32) : Vec F S128x2048 .bf16 :=
  slab2 (fun hp => done (cols s0 hp) (pairK (pairOf (BitVec.ofNat 32 n) x0 x1 x2 x3 x4 x5 x6 x7 hp)))
    fun hp => done (cols s1 hp) (pairV (pairOf (BitVec.ofNat 32 n) x0 x1 x2 x3 x4 x5 x6 x7 hp))
abbrev ckOf (n : ℕ) (x0 x1 x2 x3 x4 x5 : Vec F S128x1024 .bf16) (x6 x7 : Vec F S128x128 .f32) : Vec F S128x1024 .f32 :=
  slab fun hp => carry (pairK (pairOf (BitVec.ofNat 32 n) x0 x1 x2 x3 x4 x5 x6 x7 hp))
abbrev cvOf (n : ℕ) (x0 x1 x2 x3 x4 x5 : Vec F S128x1024 .bf16) (x6 x7 : Vec F S128x128 .f32) : Vec F S128x1024 .f32 :=
  slab fun hp => carry (pairV (pairOf (BitVec.ofNat 32 n) x0 x1 x2 x3 x4 x5 x6 x7 hp))

end runs

end Cert.KernelIdeal.Attn

end
-- ==== Proof.Attn.Frame.lean ====
/- The run of the whole call: what each point of the grid leaves in the output blocks and in the carries, and the frame
   that follows. The extra step of a residue class stores nothing to the query gradients: their block, the last one, is
   written back there as the step before left it. -/
module

public import proofs.«01_k».proof.Proof.Attn.Body
public import proofs.«01_k».proof.Proof.Gen.KernelIdeal.Points

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## What each point leaves -/

/-- The point before. -/
def back (t : Fin cfg0.N) : Fin cfg0.N := ⟨t.val - 1, by omega⟩

/-- A block's query gradients and the carries it leaves, from the blocks staged at its point. -/
def dqAt (t : Fin cfg0.N) : Vec F S128x1024 .bf16 :=
  dqOf (grid0.coords t 1).val (iblk m c 0 t) (iblk m c 1 t) (iblk m c 2 t) (iblk m c 3 t) (iblk m c 4 t) (iblk m c 5 t) (iblk m c 6 t) (iblk m c 7 t)
def ckAt (t : Fin cfg0.N) : Vec F S128x1024 .f32 :=
  ckOf (grid0.coords t 1).val (iblk m c 0 t) (iblk m c 1 t) (iblk m c 2 t) (iblk m c 3 t) (iblk m c 4 t) (iblk m c 5 t) (iblk m c 6 t) (iblk m c 7 t)
def cvAt (t : Fin cfg0.N) : Vec F S128x1024 .f32 :=
  cvOf (grid0.coords t 1).val (iblk m c 0 t) (iblk m c 1 t) (iblk m c 2 t) (iblk m c 3 t) (iblk m c 4 t) (iblk m c 5 t) (iblk m c 6 t) (iblk m c 7 t)

/-- The carries a point adds to. -/
def ckIn (t : Fin cfg0.N) : Vec F S128x1024 .f32 := if t.val % 33 = 0 then k0_pay1 else ckAt m c (back t)
def cvIn (t : Fin cfg0.N) : Vec F S128x1024 .f32 := if t.val % 33 = 0 then k0_pay2 else cvAt m c (back t)

/-- The carries after a point. -/
def ckOut (t : Fin cfg0.N) : Vec F S128x1024 .f32 := if t.val % 33 ≤ 31 then ckAt m c t else ckIn m c t
def cvOut (t : Fin cfg0.N) : Vec F S128x1024 .f32 := if t.val % 33 ≤ 31 then cvAt m c t else cvIn m c t

/-- The output blocks after a point. -/
def dqOut (t : Fin cfg0.N) : Vec F S128x1024 .bf16 := if t.val % 33 ≤ 31 then dqAt m c t else dqAt m c (back t)
def dkvOut (t : Fin cfg0.N) : Vec F S128x2048 .bf16 :=
  if t.val % 33 ≤ 31 then
    dkvOf (grid0.coords t 1).val (iblk m c 0 t) (iblk m c 1 t) (iblk m c 2 t) (iblk m c 3 t) (iblk m c 4 t) (iblk m c 5 t) (iblk m c 6 t) (iblk m c 7 t)
      (ckIn m c t) (cvIn m c t)
  else halves (ckIn m c t) (cvIn m c t)

/-- The carries before position `n`, with the generator's register. -/
def inv : (n : ℕ) → n ≤ cfg0.N → sProp 𝕄
  | 0, _ => Pipeline.ΦA spec0 c
  | n + 1, hn => iprop(iprop(owns (c : Thread nD τ) ckM fullShare (ckOut m c ⟨n, hn⟩) ∗ owns (c : Thread nD τ) cvM fullShare (cvOut m c ⟨n, hn⟩)) ∗ (∃ r, prngReg c r))

theorem inv_any (n : ℕ) (h : n ≤ cfg0.N) : (inv m c n h : sProp 𝕄) ⊢ Pipeline.ΦA spec0 c := by
  cases n with
  | zero => exact Idealize.SL.BI.Entails.refl _
  | succ n =>
    unfold inv; rw [launch_inv]
    iintro ⟨⟨H0, H1⟩, Hg⟩
    isplitl [H0 H1]
    · isplitl [H0]
      · iexists _; iexact H0
      iexists _; iexact H1
    iexact Hg

theorem inv_mid (t : Fin cfg0.N) (h0 : ¬t.val % 33 = 0) :
    (inv m c t.val (Nat.le_of_lt t.isLt) : sProp 𝕄)
      = iprop(iprop(owns (c : Thread nD τ) ckM fullShare (ckIn m c t) ∗ owns (c : Thread nD τ) cvM fullShare (cvIn m c t)) ∗ (∃ r, prngReg c r)) := by
  obtain ⟨n, hn⟩ := t
  cases n with
  | zero => exact absurd rfl h0
  | succ n =>
    have h0' : ¬(n + 1) % 33 = 0 := h0
    have h1 : n % 33 ≤ 31 := by omega
    unfold inv ckOut cvOut ckIn cvIn
    simp only [if_pos h1, if_neg h0']
    rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut m c t
    | ⟨9, _⟩ => dkvOut m c t
  Φ t := inv m c t.val (Nat.le_of_lt_succ t.isLt)
  q w := Pipeline.shareOf spec0 w
  owed _ := 0

theorem A_eq (w : Fin cfg0.W) : (dats m 0 c).A w = V m c (Pipeline.arrRef spec0 w) := by
  dsimp only [dats]

theorem inv_start (t : Fin cfg0.N) : (dats m 0 c).Φ t.castSucc = inv m c t.val (Nat.le_of_lt t.isLt) := by
  dsimp only [dats]; exact Pipeline.Dat.Φ_castSucc (inv m c) t

theorem after_8 (t : Fin cfg0.N) : (dats m 0 c).after 8 t = dqOut m c t := by dsimp only [dats]
theorem after_9 (t : Fin cfg0.N) : (dats m 0 c).after 9 t = dkvOut m c t := by dsimp only [dats]

theorem live_8 : ∀ t : Fin cfg0.N, t.val % 33 ≤ 31 → cfg0.idle 8 (grid0.coords t) = false := by decide +kernel
theorem idle_8 : ∀ t : Fin cfg0.N, t.val % 33 = 32 → cfg0.idle 8 (grid0.coords t) = true ∧ (cfg0.win 8).flush t = true ∧ (cfg0.win 8).flush (back t) = false := by
  decide +kernel
theorem live_9 : ∀ t : Fin cfg0.N, cfg0.idle 9 (grid0.coords t) = false := by decide +kernel

/-- The query gradients' buffer at the extra step holds the last block's. -/
theorem before_8 (t : Fin cfg0.N) (h2 : t.val % 33 = 32) (d) : (dats m 0 c).before 8 t d = dqOut m c t := by
  have hb : (back t).val % 33 ≤ 31 := by show (t.val - 1) % 33 ≤ 31; omega
  rw [(dats m 0 c).before_of_pos 8 t (by omega) rfl d]
  rw [show (⟨t.val - 1, Nat.lt_of_le_of_lt (Nat.sub_le _ _) t.isLt⟩ : Fin cfg0.N) = back t from rfl]
  rw [(idle_8 t h2).2.2, if_neg Bool.false_ne_true]
  unfold Dat.left; rw [show cfg0.idle 8 (cfg0.grid.coords (back t)) = false from live_8 (back t) hb]
  show (dats m 0 c).after 8 (back t) = _
  rw [after_8]; unfold dqOut; rw [if_pos hb, if_neg (by omega)]

theorem leaves_8 (t : Fin cfg0.N) : (dats m 0 c).leavesExact 8 t = owns (c : Thread nD τ) (st0_8 t) fullShare (dqOut m c t) := by
  by_cases h1 : t.val % 33 ≤ 31
  · unfold Dat.leavesExact; rw [live_8 t h1, after_8]
  · unfold Dat.leavesExact; rw [(idle_8 t (by omega)).1, (idle_8 t (by omega)).2.1, after_8]

theorem leaves_9 (t : Fin cfg0.N) : (dats m 0 c).leavesExact 9 t = owns (c : Thread nD τ) (st0_9 t) fullShare (dkvOut m c t) := by
  unfold Dat.leavesExact; rw [live_9 t, after_9]

/-! ## The body at a point -/

def pre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def post (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t ∗ (dats m 0 c).leavesExact 9 t)

set_option maxHeartbeats 2000000 in
theorem sound (t : Fin cfg0.N) :
    pre m c t ⊢ wp frame (wpE (defs₀ (F := F)) Variants.none c none) Set.univ (bodyAt0 t) (fun _ => post m c t) := by
  unfold pre post bodyAt0
  rw [leaves_8, leaves_9]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [show (dats m 0 c).leavesExact 6 t = owns (c : Thread nD τ) (st0_6 t) fullShare (iblk m c 6 t) from rfl]
  rw [show (dats m 0 c).leavesExact 7 t = owns (c : Thread nD τ) (st0_7 t) fullShare (iblk m c 7 t) from rfl]
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t,
    before0_6_of m (dats m 0 c) (A_eq m c 6) (fun _ => rfl) t, before0_7_of m (dats m 0 c) (A_eq m c 7) (fun _ => rfl) t]
  rw [show (dats m 0 c).owesAt () t.succ = (dats m 0 c).owesAt () t.castSucc from rfl, inv_start m c t]
  rw [show (dats m 0 c).Φ t.succ = iprop(iprop(owns (c : Thread nD τ) ckM fullShare (ckOut m c t) ∗ owns (c : Thread nD τ) cvM fullShare (cvOut m c t)) ∗ (∃ r, prngReg c r)) from rfl]
  by_cases h1 : t.val % 33 ≤ 31
  · unfold dqOut dkvOut ckOut cvOut
    simp only [if_pos h1]
    by_cases h0 : t.val % 33 = 0
    · rw [body_first _ _ _ _ _ _ _ _ _ _ _ _ _ _ _ _ _ _ _ _ _ _ _ _ _ ((first_iff t).mpr h0) ((inner_iff t).mpr h1) (fun h => by have := (last_iff t).mp h; omega), wp_bind]
      refine Idealize.SL.BI.BIBase.Entails.trans (Idealize.SL.BI.Laws.sep_mono_left (inv_any m c _ _)) ?_
      rw [launch_inv]
      unfold ckIn cvIn; simp only [if_pos h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (clear_run c _ _ _ _)
      isplitl [HS0]; · iexact HS0
      isplitl [HS1]; · iexact HS1
      iintro ⟨HS0, HS1⟩
      iapply (work_run c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) k0_pay1 k0_pay2 _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [body_inner _ _ _ _ _ _ _ _ _ _ _ _ _ _ _ _ _ _ _ _ _ _ _ _ _ (fun h => h0 ((first_iff t).mp h)) ((inner_iff t).mpr h1) (fun h => by have := (last_iff t).mp h; omega)]
      rw [inv_mid m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (work_run c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (ckIn m c t) (cvIn m c t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have h2 : t.val % 33 = 32 := by omega
    have h0 : ¬t.val % 33 = 0 := by omega
    rw [body_last _ _ _ _ _ _ _ _ _ _ _ _ _ _ _ _ _ _ _ _ _ _ _ _ _ (fun h => h0 ((first_iff t).mp h)) (fun h => h1 ((inner_iff t).mp h)) ((last_iff t).mpr h2)]
    rw [inv_mid m c t h0]
    simp only [before_8 m c t h2]
    unfold dkvOut ckOut cvOut
    simp only [if_neg h1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (emit_run c _ _ _ (Memref.isWhole_whole _) _ (Memref.isWhole_whole _) (ckIn m c t) (cvIn m c t) _ _)
    isplitl [H9]; · iexists _; iexact H9
    isplitl [HS0]; · iexact HS0
    isplitl [HS1]; · iexact HS1
    iintro ⟨H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (sound m c t) rfl .rfl fun _ => .rfl

theorem hin : Pipeline.ΦA spec0 c ⊢ (dats m 0 c).Φ 0 := by
  rw [show (dats m 0 c).Φ 0 = Pipeline.ΦA spec0 c from rfl]

theorem hout : (dats m 0 c).Φ (Fin.last cfg0.N) ⊢ Pipeline.ΦA spec0 c := by
  rw [show (dats m 0 c).Φ (Fin.last cfg0.N) = inv m c cfg0.N (le_refl _) from rfl]; exact inv_any m c _ _

set_option backward.isDefEq.respectTransparency.types false in
/-- From any memory the call ends with its arrays as the proof data say and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

end Cert.KernelIdeal.Attn

end
-- ==== Proof.Attn.Math.lean ====
module

public import Idealize.ShloMosaic.Lib.Pointwise

@[expose] public section

noncomputable section

/-! One head's gradients over one block of queries and the 256 keys it may attend, as sums of extended reals. -/

namespace Cert.AttnGrad

open Idealize.ShloMosaic

/-- Key `j` of the 256 lies within the window of query `i`, and is no row before the first block. -/
def Valid (n : ℕ) (i : Fin 128) (j : Fin 256) : Prop :=
  j.val ≤ i.val + 128 ∧ i.val ≤ j.val ∧ (0 < n ∨ 128 ≤ j.val)

instance (n : ℕ) (i : Fin 128) (j : Fin 256) : Decidable (Valid n i j) := by unfold Valid; infer_instance

/-- The score's scale. -/
def eighth : EReal := ((1 / 8 : ℝ) : EReal)

/-- A head's operands: the block's number, the slope, the scaled queries, the results' gradients, the keys, the values and
    the two statistics. -/
@[ext] structure Head where
  n : ℕ
  σ : ℝ
  Q : Fin 128 → Fin 64 → EReal
  G : Fin 128 → Fin 64 → EReal
  K : Fin 256 → Fin 64 → EReal
  V : Fin 256 → Fin 64 → EReal
  L : Fin 128 → EReal
  D : Fin 128 → EReal

namespace Head

variable (T : Head)

/-- How far a key lies behind a query, in steps of the dilation. -/
def dist (i : Fin 128) (j : Fin 256) : ℝ := (i.val : ℝ) + 128 - (j.val : ℝ)

def prob (i : Fin 128) (j : Fin 256) : EReal :=
  if Valid T.n i j then Ideal.exp ((∑ e, T.Q i e * T.K j e) + ((-(T.σ * (4 * dist i j)) : ℝ) : EReal) - T.L i) else 0

def grad (i : Fin 128) (j : Fin 256) : EReal := T.prob i j * ((∑ e, T.G i e * T.V j e) - T.D i)

def gradQ (i : Fin 128) (e : Fin 64) : EReal := (∑ j, T.grad i j * T.K j e) * eighth
def gradK (j : Fin 256) (e : Fin 64) : EReal := ∑ i, T.grad i j * T.Q i e
def gradV (j : Fin 256) (e : Fin 64) : EReal := ∑ i, T.prob i j * T.G i e

end Head

theorem sum_mul_eighth {ι : Type} (s : Finset ι) (f : ι → EReal) : (∑ k ∈ s, f k) * eighth = ∑ k ∈ s, f k * eighth := by
  classical
  induction s using Finset.induction_on with
  | empty => simp
  | insert a s ha ih =>
    rw [Finset.sum_insert ha, Finset.sum_insert ha, ← ih]
    exact EReal.right_distrib_of_nonneg_of_ne_top (EReal.coe_nonneg.2 (by norm_num))
      (EReal.coe_ne_top _) _ _

/-- Two heads that agree but on keys and values out of the window have the same gradients. -/
theorem Head.congr (T U : Head) (hn : T.n = U.n) (hσ : T.σ = U.σ) (hQ : T.Q = U.Q) (hG : T.G = U.G) (hL : T.L = U.L) (hD : T.D = U.D)
    (hK : ∀ j : Fin 256, (0 < T.n ∨ 128 ≤ j.val) → T.K j = U.K j) (hV : ∀ j : Fin 256, (0 < T.n ∨ 128 ≤ j.val) → T.V j = U.V j) :
    T.gradQ = U.gradQ ∧ T.gradK = U.gradK ∧ T.gradV = U.gradV := by
  have hp : ∀ i j, T.prob i j = U.prob i j := by
    intro i j
    unfold Head.prob
    rw [← hn]
    split
    · rename_i h
      rw [hσ, hQ, hL, hK j h.2.2]
    · rfl
  have hz : ∀ i j, ¬ Valid T.n i j → T.prob i j = 0 := fun i j h => by unfold Head.prob; rw [if_neg h]
  have hg : ∀ i j, T.grad i j = U.grad i j := by
    intro i j
    unfold Head.grad
    by_cases h : Valid T.n i j
    · rw [hp, hG, hD, hV j h.2.2]
    · rw [← hp, hz i j h, zero_mul, zero_mul]
  refine ⟨?_, ?_, ?_⟩
  · funext i e
    unfold Head.gradQ
    congr 1
    refine Finset.sum_congr rfl fun j _ => ?_
    by_cases h : Valid T.n i j
    · rw [hg, hK j h.2.2]
    · rw [← hg]; unfold Head.grad; rw [hz i j h, zero_mul, zero_mul, zero_mul]
  · funext j e
    unfold Head.gradK
    simp only [hg, hQ]
  · funext j e
    unfold Head.gradV
    simp only [hp, hG]

end Cert.AttnGrad

end
-- ==== Proof.Attn.TileValue.lean ====
module

public import proofs.«01_k».proof.Proof.Attn.Tile
public import proofs.«01_k».proof.Proof.Attn.Math

@[expose] public section

set_option maxRecDepth 16384

noncomputable section

/-! A pair of heads' tiles, read element by element. -/

namespace Cert.KernelIdeal.Attn

open Cert.KernelIdeal Cert.KernelIdeal.Gen Cert.AttnGrad
open Idealize.ShloMosaic

/-- The lane of a head's feature. -/
abbrev lane (a : Fin 2) (e : Fin 64) : Fin 128 := ⟨64 * a.val + e.val, by omega⟩

/-- A lane mask that keeps the lanes of head `a`. -/
def Keeps {m : ℕ} (keep : IVec ⟨2, ![m, 128]⟩ 1) (a : Fin 2) : Prop :=
  ∀ (i : Fin m) (x : Fin 128), keep (ix2 i x) = BitVec.ofBool (decide (x.val / 64 = a.val))

theorem lanesA_keeps : Keeps lanesA 0 := by
  intro i x
  pointwise [lanesA, k0_pay7]
  revert x; decide

theorem lanesB_keeps : Keeps lanesB 1 := by
  intro i x
  pointwise [lanesA, lanesB, k0_pay7]
  revert x; decide

theorem lanes2_keeps : Keeps lanes2 0 := by
  intro i x
  pointwise [lanes2, k0_pay8]
  revert x; decide

theorem sum_lanes {m : ℕ} {keep : IVec ⟨2, ![m, 128]⟩ 1} {a : Fin 2} (hk : Keeps keep a) (i : Fin m) (f : Fin 128 → EReal) :
    ∑ x, Scalar.select (keep (ix2 i x)) (f x) 0 = ∑ e, f (lane a e) := by
  have h : ∀ x, Scalar.select (keep (ix2 i x)) (f x) 0 = if x.val / 64 = a.val then f x else 0 := by
    intro x
    rw [hk i x]
    by_cases hx : x.val / 64 = a.val <;> simp [hx, Scalar.select]
  rw [Finset.sum_congr rfl fun x _ => h x, Fin.sum_univ_two_halves 64 64 rfl]
  have ha : a.val = 0 ∨ a.val = 1 := by omega
  rcases ha with ha | ha
  · have h0 : ∀ k : Fin 64, k.val / 64 = 0 := fun k => by omega
    have h1 : ∀ k : Fin 64, ¬ (64 + k.val) / 64 = 0 := fun k => by omega
    simp only [lane, ha, h0, h1, if_true, if_false, Finset.sum_const_zero, add_zero, mul_zero, zero_add]
  · have h0 : ∀ k : Fin 64, ¬ k.val / 64 = 1 := fun k => by omega
    have h1 : ∀ k : Fin 64, (64 + k.val) / 64 = 1 := fun k => by omega
    simp only [lane, ha, h0, h1, if_true, if_false, Finset.sum_const_zero, zero_add, mul_one]

/-- The head `a` of a pair. -/
def headOf (P : Pair Ideal) (n : ℕ) (s : ℝ) (l d : Vec Ideal S128x1 .f32) (a : Fin 2) : Head where
  n := n
  σ := s
  Q i e := P.q (ix2 i (lane a e))
  G i e := P.g (ix2 i (lane a e))
  K j e := if h : j.val < 128 then P.kp (ix2 ⟨j.val, h⟩ (lane a e)) else P.kc (ix2 ⟨j.val - 128, by omega⟩ (lane a e))
  V j e := if h : j.val < 128 then P.vp (ix2 ⟨j.val, h⟩ (lane a e)) else P.vc (ix2 ⟨j.val - 128, by omega⟩ (lane a e))
  L i := l (ix2 i 0)
  D i := d (ix2 i 0)

/-- The biases before a head's slope: the distance times the dilation, and nothing out of the window. -/
def Biases (P : Pair Ideal) (n : ℕ) : Prop :=
  ∀ i j, P.bias (ix2 i j) = if Valid n i j then ((-(4 * Head.dist i j) : ℝ) : EReal) else ⊥

section Head

variable {P : Pair Ideal} {n : ℕ} {s : ℝ} {σ : Ideal .f32} {keep : IVec S128x128 1} {a : Fin 2} {l d : Vec Ideal S128x1 .f32}

theorem weights_apply (hb : Biases P n) (hσ : σ = (s : EReal)) (hs : 0 < s) (hk : Keeps keep a) (i : Fin 128) (j : Fin 256) :
    weights σ keep l P (ix2 i j) = (headOf P n s l d a).prob i j := by
  pointwise [weights, rowsDot, stack, flat, zeros, spread]
  rw [sum_lanes hk i (fun x => P.q (ix2 i x) * if h : j.val < 128 then P.kp (ix2 ⟨j.val, h⟩ x) else P.kc (ix2 ⟨j.val - 128, by omega⟩ x)),
    hb i j, hσ]
  unfold Head.prob
  show _ = if Valid n i j then _ else _
  by_cases h : Valid n i j
  · rw [if_pos h, if_pos h, ← EReal.coe_mul, mul_neg]
    rfl
  · rw [if_neg h, if_neg h, EReal.coe_mul_bot_of_pos hs, EReal.add_bot, EReal.bot_sub]
    first | done | rfl

theorem scoreGrads_apply (hb : Biases P n) (hσ : σ = (s : EReal)) (hs : 0 < s) (hk : Keeps keep a) (i : Fin 128) (j : Fin 256) :
    scoreGrads σ keep l d P (ix2 i j) = (headOf P n s l d a).grad i j := by
  pointwise [scoreGrads, rowsDot, stack, flat, zeros, spread]
  rw [sum_lanes hk i (fun x => P.g (ix2 i x) * if h : j.val < 128 then P.vp (ix2 ⟨j.val, h⟩ x) else P.vc (ix2 ⟨j.val - 128, by omega⟩ x)),
    weights_apply (d := d) hb hσ hs hk]
  rfl

theorem headQ_apply (hb : Biases P n) (hσ : σ = (s : EReal)) (hs : 0 < s) (hk : Keeps keep a) (i : Fin 128) (e : Fin 64) :
    headQ σ keep l d P (ix2 i (lane a e)) * eighth = (headOf P n s l d a).gradQ i e := by
  pointwise [headQ, stack, flat]
  simp only [scoreGrads_apply hb hσ hs hk]
  unfold Head.gradQ
  rw [Fin.sum_univ_two_halves 128 128 rfl (fun j => (headOf P n s l d a).grad i j * (headOf P n s l d a).K j e)]
  congr 2

theorem headKV_left (hb : Biases P n) (hσ : σ = (s : EReal)) (hs : 0 < s) (hk : Keeps keep a) (j : Fin 256) (e : Fin 64) :
    headKV σ keep l d P (ix2 j ⟨64 * a.val + e.val, by omega⟩) = (headOf P n s l d a).gradK j e := by
  pointwise [headKV, diag, stack, flat, zeros]
  have h : 64 * a.val + e.val < 128 := by omega
  simp only [dif_pos h, mul_zero, Finset.sum_const_zero, add_zero]
  exact Finset.sum_congr rfl fun i _ => by rw [scoreGrads_apply hb hσ hs hk]; rfl

theorem headKV_right (hb : Biases P n) (hσ : σ = (s : EReal)) (hs : 0 < s) (hk : Keeps keep a) (j : Fin 256) (e : Fin 64) :
    headKV σ keep l d P (ix2 j ⟨128 + (64 * a.val + e.val), by omega⟩) = (headOf P n s l d a).gradV j e := by
  pointwise [headKV, diag, stack, flat, zeros]
  have h : ¬ 128 + (64 * a.val + e.val) < 128 := by omega
  simp only [dif_neg h, mul_zero, Finset.sum_const_zero, zero_add]
  refine Finset.sum_congr rfl fun i _ => ?_
  rw [weights_apply (d := d) hb hσ hs hk]
  refine congrArg _ (congrArg (fun x => P.g (ix2 i x)) (Fin.ext ?_))
  simp

end Head

/-- The pair's heads `0` and `1`, of slopes `s`. -/
def heads (P : Pair Ideal) (n : ℕ) (s : Fin 2 → ℝ) (a : Fin 2) : Head :=
  headOf P n (s a) (![P.la, P.lb] a) (![P.da, P.db] a) a

section Pair

variable {P : Pair Ideal} {n : ℕ} {s : Fin 2 → ℝ}

/-- What the values of a pair's tiles are read under. -/
structure Reads (P : Pair Ideal) (n : ℕ) (s : Fin 2 → ℝ) : Prop where
  bias : Biases P n
  slopeA : P.σa = (s 0 : EReal)
  slopeB : P.σb = (s 1 : EReal)
  pos : ∀ a, 0 < s a

theorem select_lane {m : ℕ} {keep : IVec ⟨2, ![m, 128]⟩ 1} (hk : Keeps keep 0) (i : Fin m) (a : Fin 2) (e : Fin 64) (x y z : EReal)
    (h0 : a = 0 → x = z) (h1 : a = 1 → y = z) : Scalar.select (keep (ix2 i (lane a e))) x y = z := by
  rw [hk]
  have ha : a = 0 ∨ a = 1 := by omega
  rcases ha with rfl | rfl
  · rw [show (lane 0 e).val / 64 = (0 : Fin 2).val from by show (64 * 0 + e.val) / 64 = 0; omega, decide_eq_true rfl]
    exact h0 rfl
  · rw [decide_eq_false (by show ¬ (64 * 1 + e.val) / 64 = 0; omega)]
    exact h1 rfl

theorem eighth_bits : Ideal.ofBits .f32 0x3E000000#32 = eighth := by
  unfold eighth
  simp [Ideal.ofBits, Ideal.ieee, -EReal.coe_mul]
  norm_num

theorem pairQ_apply (h : Reads P n s) (i : Fin 128) (a : Fin 2) (e : Fin 64) :
    pairQ P (ix2 i (lane a e)) = (heads P n s a).gradQ i e := by
  pointwise [pairQ]
  rw [eighth_bits]
  have ha : a = 0 ∨ a = 1 := by omega
  rcases ha with rfl | rfl
  · rw [select_lane lanesA_keeps i 0 e _ _ _ (fun _ => rfl) (fun h => absurd h (by decide))]
    exact headQ_apply h.bias h.slopeA (h.pos 0) lanesA_keeps i e
  · rw [select_lane lanesA_keeps i 1 e _ _ _ (fun h => absurd h (by decide)) (fun _ => rfl)]
    exact headQ_apply h.bias h.slopeB (h.pos 1) lanesB_keeps i e

theorem pairK_apply (h : Reads P n s) (j : Fin 256) (a : Fin 2) (e : Fin 64) :
    pairK P (ix2 j (lane a e)) = (heads P n s a).gradK j e := by
  pointwise [pairK]
  refine select_lane lanes2_keeps j a e _ _ _ ?_ ?_
  · rintro rfl
    exact headKV_left h.bias h.slopeA (h.pos 0) lanesA_keeps j e
  · rintro rfl
    exact headKV_left h.bias h.slopeB (h.pos 1) lanesB_keeps j e

theorem pairV_apply (h : Reads P n s) (j : Fin 256) (a : Fin 2) (e : Fin 64) :
    pairV P (ix2 j (lane a e)) = (heads P n s a).gradV j e := by
  pointwise [pairV]
  refine select_lane lanes2_keeps j a e _ _ _ ?_ ?_
  · rintro rfl
    exact headKV_right h.bias h.slopeA (h.pos 0) lanesA_keeps j e
  · rintro rfl
    exact headKV_right h.bias h.slopeB (h.pos 1) lanesB_keeps j e

end Pair

end Cert.KernelIdeal.Attn

end
-- ==== Proof.Attn.Args.lean ====
module

public import proofs.«01_k».proof.Proof.Attn.Math

@[expose] public section

noncomputable section

/-! The gradients of the dilated attention of one group of heads, out of the six arguments, in the order of the residue
    classes: row `4096 r + 128 n + i` is row `i` of block `n` of residue class `r`, that is, token `4 (128 n + i) + r`. -/

namespace Cert.AttnGrad

open Idealize.ShloMosaic

/-- The token of row `i` of block `n` of residue class `r`. -/
def token (r : Fin 4) (n : Fin 32) (i : Fin 128) : Fin 16384 := ⟨(n.val * 128 + i.val) * 4 + r.val, by omega⟩

/-- The token of key `j` of the 256 of block `n` (with no block before, the first 128 are masked). -/
def keyToken (r : Fin 4) (n : Fin 32) (j : Fin 256) : Fin 16384 := ⟨(n.val * 128 + j.val - 128) * 4 + r.val, by omega⟩

/-- The slope of a head's bias. -/
def slope (h : Fin 16) : ℝ := (2 : ℝ) ^ (-((h.val : ℝ) + 1) / 2)

theorem slope_pos (h : Fin 16) : 0 < slope h := by unfold slope; positivity

structure Args where
  q : Fin 16384 → Fin 16 → Fin 64 → EReal
  k : Fin 16384 → Fin 16 → Fin 64 → EReal
  v : Fin 16384 → Fin 16 → Fin 64 → EReal
  g : Fin 16384 → Fin 16 → Fin 64 → EReal
  l : Fin 16384 → Fin 16 → EReal
  d : Fin 16384 → Fin 16 → EReal

namespace Args

variable (A : Args)

/-- Head `h` over block `n` of residue class `r`. -/
def head (r : Fin 4) (n : Fin 32) (h : Fin 16) : Head where
  n := n.val
  σ := slope h
  Q i e := A.q (token r n i) h e * eighth
  G i e := A.g (token r n i) h e
  K j e := A.k (keyToken r n j) h e
  V j e := A.v (keyToken r n j) h e
  L i := A.l (token r n i) h
  D i := A.d (token r n i) h

def dq (r : Fin 4) (n : Fin 32) (i : Fin 128) (h : Fin 16) (e : Fin 64) : EReal := (A.head r n h).gradQ i e

/-- A key's gradient from its own block's queries and from the next block's. -/
def dk (r : Fin 4) (n : Fin 32) (i : Fin 128) (h : Fin 16) (e : Fin 64) : EReal :=
  (A.head r n h).gradK ⟨128 + i.val, by omega⟩ e
    + if hn : n.val + 1 < 32 then (A.head r ⟨n.val + 1, hn⟩ h).gradK ⟨i.val, by omega⟩ e else 0

def dv (r : Fin 4) (n : Fin 32) (i : Fin 128) (h : Fin 16) (e : Fin 64) : EReal :=
  (A.head r n h).gradV ⟨128 + i.val, by omega⟩ e
    + if hn : n.val + 1 < 32 then (A.head r ⟨n.val + 1, hn⟩ h).gradV ⟨i.val, by omega⟩ e else 0

end Args

/-- A function of class, block, row, head and feature as one of rows and columns. -/
def byRow (f : Fin 4 → Fin 32 → Fin 128 → Fin 16 → Fin 64 → EReal) (R : Fin 16384) (x : Fin 1024) : EReal :=
  f ⟨R.val / 4096, by omega⟩ ⟨R.val % 4096 / 128, by omega⟩ ⟨R.val % 128, by omega⟩ ⟨x.val / 64, by omega⟩ ⟨x.val % 64, by omega⟩

/-- The query gradients, row by row. -/
def Args.outQ (A : Args) : FVec Ideal ⟨2, ![16384, 1024]⟩ .bf16 := fun y => byRow A.dq (y 0) (y 1)

/-- The key gradients, and to their right the value gradients. -/
def Args.outKV (A : Args) : FVec Ideal ⟨2, ![16384, 2048]⟩ .bf16 := fun y =>
  if h : (y 1).val < 1024 then byRow A.dk (y 0) ⟨(y 1).val, h⟩
  else byRow A.dv (y 0) ⟨(y 1).val - 1024, by have : (y 1).val < 2048 := (y 1).isLt; omega⟩

end Cert.AttnGrad

end
-- ==== Proof.Attn.Inputs.lean ====
module

public import proofs.«01_k».proof.Proof.Attn.Frame
public import proofs.«01_k».proof.Proof.Attn.TileValue
public import proofs.«01_k».proof.Proof.Attn.Args
public import Idealize.ShloMosaic.Lib.StableHlo.ReadAt

@[expose] public section

set_option maxRecDepth 16384

noncomputable section

/-! The arrays the launch is given, out of the arguments. -/

namespace Cert.KernelIdeal.Attn

open Cert.KernelIdeal Cert.KernelIdeal.Gen Cert.AttnGrad
open Idealize.ShloMosaic Idealize.ShloMosaic.TcCoe

variable (m : (ℓ : Loc nD τ sig) → Buf (Elt Ideal) ℓ) (c : Dev nD)

/-- The arguments, token by token. -/
def argsOf : Args where
  q t h e := m (c, Proc.tc.devRef main_arg0) (ix4 0 t h e)
  k t h e := m (c, Proc.tc.devRef main_arg1) (ix4 0 t h e)
  v t h e := m (c, Proc.tc.devRef main_arg2) (ix4 0 t h e)
  g t h e := m (c, Proc.tc.devRef main_arg3) (ix4 0 t h e)
  l t h := m (c, Proc.tc.devRef main_arg4) (ix4 0 t h 0)
  d t h := m (c, Proc.tc.devRef main_arg5) (ix4 0 t h 0)

/-- The token of a row of the residue classes' order. -/
def rowToken (R : Fin 16384) : Fin 16384 := ⟨R.val % 4096 * 4 + R.val / 4096, by omega⟩

def headIx (x : Fin 1024) : Fin 16 := ⟨x.val / 64, by omega⟩
def laneIx (x : Fin 1024) : Fin 64 := ⟨x.val % 64, by omega⟩

theorem q_at (R : Fin 16384) (x : Fin 1024) (X : FVec Ideal S16384x3072 .bf16) (hX : V m c main_v12 = X) :
    X (ix2 R ⟨x.val, by omega⟩) = (argsOf m c).q (rowToken R) (headIx x) (laneIx x) * eighth := by
  rw [← hX, ← eighth_bits]
  unfold V
  simp only [hostOps0, hostOps0_1, hostOps0_2, hostOps0_3, hostOps0_4, List.flatten_cons, List.flatten_nil, List.append_nil, List.cons_append,
      List.nil_append]
  after_reads_at
  simp only [StableHlo.upto, List.take_succ_cons, List.take_zero]
  after_reads_at
  rfl

theorem k_at (R : Fin 16384) (x : Fin 1024) (X : FVec Ideal S16384x3072 .bf16) (hX : V m c main_v12 = X) :
    X (ix2 R ⟨1024 + x.val, by omega⟩) = (argsOf m c).k (rowToken R) (headIx x) (laneIx x) := by
  rw [← hX]
  unfold V
  simp only [hostOps0, hostOps0_1, hostOps0_2, hostOps0_3, hostOps0_4, List.flatten_cons, List.flatten_nil, List.append_nil, List.cons_append,
      List.nil_append]
  after_reads_at
  simp only [StableHlo.upto, List.take_succ_cons, List.take_zero]
  after_reads_at
  rfl

theorem v_at (R : Fin 16384) (x : Fin 1024) (X : FVec Ideal S16384x3072 .bf16) (hX : V m c main_v12 = X) :
    X (ix2 R ⟨2048 + x.val, by omega⟩) = (argsOf m c).v (rowToken R) (headIx x) (laneIx x) := by
  rw [← hX]
  unfold V
  simp only [hostOps0, hostOps0_1, hostOps0_2, hostOps0_3, hostOps0_4, List.flatten_cons, List.flatten_nil, List.append_nil, List.cons_append,
      List.nil_append]
  after_reads_at
  rw [dif_neg (by omega), dif_neg (by omega)]
  simp only [StableHlo.upto, List.take_succ_cons, List.take_zero]
  after_reads_at
  unfold argsOf rowToken headIx laneIx
  congr 2
  · apply Fin.ext; show (2048 + x.val - 1024 - 1024) / 64 = x.val / 64; congr 1; omega
  · apply Fin.ext; show (2048 + x.val - 1024 - 1024) % 64 = x.val % 64; congr 1; omega

theorem g_at (R : Fin 16384) (x : Fin 1024) (X : FVec Ideal S16384x1024 .bf16) (hX : V m c main_v16 = X) :
    X (ix2 R x) = (argsOf m c).g (rowToken R) (headIx x) (laneIx x) := by
  rw [← hX]
  unfold V
  simp only [hostOps0, hostOps0_1, hostOps0_2, hostOps0_3, hostOps0_4, List.flatten_cons, List.flatten_nil, List.append_nil, List.cons_append,
      List.nil_append]
  after_reads_at
  rfl

theorem l_at (R : Fin 16384) (x : Fin 16) (X : FVec Ideal S16384x128 .f32) (hX : V m c main_v21 = X) :
    X (ix2 R ⟨x.val, by omega⟩) = (argsOf m c).l (rowToken R) x := by
  rw [← hX]
  unfold V
  simp only [hostOps0, hostOps0_1, hostOps0_2, hostOps0_3, hostOps0_4, List.flatten_cons, List.flatten_nil, List.append_nil, List.cons_append,
      List.nil_append]
  after_reads_at
  rw [dif_pos (by omega)]
  rfl

theorem d_at (R : Fin 16384) (x : Fin 16) (X : FVec Ideal S16384x128 .f32) (hX : V m c main_v26 = X) :
    X (ix2 R ⟨x.val, by omega⟩) = (argsOf m c).d (rowToken R) x := by
  rw [← hX]
  unfold V
  simp only [hostOps0, hostOps0_1, hostOps0_2, hostOps0_3, hostOps0_4, List.flatten_cons, List.flatten_nil, List.append_nil, List.cons_append,
      List.nil_append]
  after_reads_at
  rw [dif_pos (by omega)]
  rfl

end Cert.KernelIdeal.Attn

end
-- ==== Proof.Attn.Blocks.lean ====
module

public import proofs.«01_k».proof.Proof.Attn.Inputs
public import Idealize.ShloMosaic.Lib.Pipeline.ValueKit

@[expose] public section

set_option maxRecDepth 16384

noncomputable section

/-! The blocks staged at a point of the grid, out of the arguments. -/

namespace Cert.KernelIdeal.Attn

open Cert.KernelIdeal Cert.KernelIdeal.Gen Cert.AttnGrad
open Idealize.ShloMosaic Idealize.ShloMosaic.TcCoe

variable (m : (ℓ : Loc nD τ sig) → Buf (Elt Ideal) ℓ) (c : Dev nD)

/-- The point of block `n` of residue class `r`. -/
def point (r : Fin 4) (n : Fin 32) : Fin cfg0.N := ⟨r.val * 33 + n.val, by show _ < 132; omega⟩

theorem index_cur : ∀ (r : Fin 4) (n : Fin 32),
    win0_0.index (point r n) = ![r.val * 32 + n.val, 0] ∧ win0_2.index (point r n) = ![r.val * 32 + n.val, 1]
    ∧ win0_4.index (point r n) = ![r.val * 32 + n.val, 2] ∧ win0_5.index (point r n) = ![r.val * 32 + n.val, 0]
    ∧ win0_6.index (point r n) = ![r.val * 32 + n.val, 0] ∧ win0_7.index (point r n) = ![r.val * 32 + n.val, 0] := by
  decide +kernel

theorem index_prev : ∀ (r : Fin 4) (n : Fin 32),
    win0_1.index (point r n) = ![r.val * 32 + (n.val - 1), 1] ∧ win0_3.index (point r n) = ![r.val * 32 + (n.val - 1), 2] := by
  decide +kernel

variable (r : Fin 4) (n : Fin 32) (i : Fin 128)

/-- The row of the residue classes' order. -/
def rowOf (r : Fin 4) (n : Fin 32) (i : Fin 128) : Fin 16384 := ⟨(r.val * 32 + n.val) * 128 + i.val, by omega⟩

theorem rowToken_rowOf : rowToken (rowOf r n i) = token r n i := by
  apply Fin.ext; show ((r.val * 32 + n.val) * 128 + i.val) % 4096 * 4 + ((r.val * 32 + n.val) * 128 + i.val) / 4096 = (n.val * 128 + i.val) * 4 + r.val
  omega

theorem block_q (x : Fin 1024) : iblk m c 0 (point r n) (ix2 i x) = (argsOf m c).q (token r n i) (headIx x) (laneIx x) * eighth := by
  rw [← rowToken_rowOf, ← q_at m c _ x _ rfl]
  have e := (index_cur r n).1
  blk_ext [iblk, e, rowOf]

theorem block_k (x : Fin 1024) : iblk m c 2 (point r n) (ix2 i x) = (argsOf m c).k (token r n i) (headIx x) (laneIx x) := by
  rw [← rowToken_rowOf, ← k_at m c _ x _ rfl]
  have e := (index_cur r n).2.1
  blk_ext [iblk, e, rowOf]

theorem block_v (x : Fin 1024) : iblk m c 4 (point r n) (ix2 i x) = (argsOf m c).v (token r n i) (headIx x) (laneIx x) := by
  rw [← rowToken_rowOf, ← v_at m c _ x _ rfl]
  have e := (index_cur r n).2.2.1
  blk_ext [iblk, e, rowOf]

theorem block_g (x : Fin 1024) : iblk m c 5 (point r n) (ix2 i x) = (argsOf m c).g (token r n i) (headIx x) (laneIx x) := by
  rw [← rowToken_rowOf, ← g_at m c _ x _ rfl]
  have e := (index_cur r n).2.2.2.1
  blk_ext [iblk, e, rowOf]

theorem block_l (h : Fin 16) : iblk m c 6 (point r n) (ix2 i ⟨h.val, by omega⟩) = (argsOf m c).l (token r n i) h := by
  rw [← rowToken_rowOf, ← l_at m c _ h _ rfl]
  have e := (index_cur r n).2.2.2.2.1
  blk_ext [iblk, e, rowOf]

theorem block_d (h : Fin 16) : iblk m c 7 (point r n) (ix2 i ⟨h.val, by omega⟩) = (argsOf m c).d (token r n i) h := by
  rw [← rowToken_rowOf, ← d_at m c _ h _ rfl]
  have e := (index_cur r n).2.2.2.2.2
  blk_ext [iblk, e, rowOf]

theorem keyToken_cur (j : Fin 128) : keyToken r n ⟨128 + j.val, by omega⟩ = token r n j := by
  apply Fin.ext; show (n.val * 128 + (128 + j.val) - 128) * 4 + r.val = (n.val * 128 + j.val) * 4 + r.val
  omega

theorem keyToken_prev (hn : 0 < n.val) (j : Fin 128) : keyToken r n ⟨j.val, by omega⟩ = token r ⟨n.val - 1, by omega⟩ j := by
  apply Fin.ext; show (n.val * 128 + j.val - 128) * 4 + r.val = ((n.val - 1) * 128 + j.val) * 4 + r.val
  omega

theorem block_kp (hn : 0 < n.val) (x : Fin 1024) :
    iblk m c 1 (point r n) (ix2 i x) = (argsOf m c).k (keyToken r n ⟨i.val, by omega⟩) (headIx x) (laneIx x) := by
  rw [keyToken_prev r n hn, ← rowToken_rowOf, ← k_at m c _ x _ rfl]
  have e := (index_prev r n).1
  blk_ext [iblk, e, rowOf]

theorem block_vp (hn : 0 < n.val) (x : Fin 1024) :
    iblk m c 3 (point r n) (ix2 i x) = (argsOf m c).v (keyToken r n ⟨i.val, by omega⟩) (headIx x) (laneIx x) := by
  rw [keyToken_prev r n hn, ← rowToken_rowOf, ← v_at m c _ x _ rfl]
  have e := (index_prev r n).2
  blk_ext [iblk, e, rowOf]

end Cert.KernelIdeal.Attn

end
-- ==== Proof.Attn.Slopes.lean ====
module

public import proofs.«01_k».proof.Proof.Attn.Tile
public import proofs.«01_k».proof.Proof.Attn.Args

@[expose] public section

set_option maxRecDepth 16384

noncomputable section

/-! The slopes of the heads' biases. -/

namespace Cert.KernelIdeal.Attn

open Cert.KernelIdeal Cert.KernelIdeal.Gen
open Cert.AttnGrad hiding slope
open Idealize.ShloMosaic

/-- An odd power of the root of one half is the reciprocal of the root of a power of two. -/
theorem slope_even (j : ℕ) (h : Fin 16) (hh : h.val = 2 * j) (s : ℝ) (hs : s = 2 ^ (2 * j + 1)) : AttnGrad.slope h = (Real.sqrt s)⁻¹ := by
  unfold AttnGrad.slope
  rw [hs, Real.sqrt_eq_rpow, ← Real.rpow_natCast, ← Real.rpow_mul (by norm_num), ← Real.rpow_neg (by norm_num), hh]
  congr 1; push_cast; ring

theorem slope_odd (j : ℕ) (h : Fin 16) (hh : h.val = 2 * j + 1) : AttnGrad.slope h = (2 ^ (j + 1))⁻¹ := by
  unfold AttnGrad.slope
  rw [← Real.rpow_natCast, ← Real.rpow_neg (by norm_num), hh]
  congr 1; push_cast; ring

theorem slopeA_eq (hp : Fin 8) : slopeA (F := Ideal) hp = (AttnGrad.slope (headA hp) : EReal) := by
  have key : ∀ (s : ℝ), s = 2 ^ (2 * hp.val + 1) → (((Real.sqrt s)⁻¹ : ℝ) : EReal) = (AttnGrad.slope (headA hp) : EReal) := fun s hs => by
    rw [slope_even hp.val (headA hp) rfl s hs]
  fin_cases hp
  · exact key 2 (by norm_num)
  · exact key 8 (by norm_num)
  · exact key 32 (by norm_num)
  · exact key 128 (by norm_num)
  · exact key 512 (by norm_num)
  · exact key 2048 (by norm_num)
  · exact key 8192 (by norm_num)
  · exact key 32768 (by norm_num)

theorem slopeB_eq (hp : Fin 8) : slopeB (F := Ideal) hp = (AttnGrad.slope (headB hp) : EReal) := by
  rw [slope_odd hp.val (headB hp) rfl]
  fin_cases hp <;> simp [slopeB, Ideal.ofBits, Ideal.ieee, -EReal.coe_mul] <;> norm_num

end Cert.KernelIdeal.Attn

end
-- ==== Proof.Attn.Bias.lean ====
module

public import proofs.«01_k».proof.Proof.Attn.TileValue

@[expose] public section

set_option maxRecDepth 16384

noncomputable section

/-! The biases of the distances. -/

namespace Cert.AttnGrad

open Idealize.ShloMosaic

/-- The word of a distance. -/
def word (i : Fin 128) (j : Fin 256) : BitVec 32 := IntOp.subi (IntOp.addi (BitVec.ofNat 32 i.val) 128#32) (BitVec.ofNat 32 j.val)

theorem word_toInt (i : Fin 128) (j : Fin 256) : (word i j).toInt = (i.val : ℤ) + 128 - (j.val : ℤ) := by
  unfold word IntOp.subi IntOp.addi
  have hi : ∀ i : Fin 128, (BitVec.ofNat 32 i.val).toInt = i.val := by decide
  have hj : ∀ j : Fin 256, (BitVec.ofNat 32 j.val).toInt = j.val := by decide
  rw [BitVec.toInt_sub, BitVec.toInt_add, hi, hj, show (128#32 : BitVec 32).toInt = 128 from by decide]
  unfold Int.bmod
  norm_num
  omega

theorem sge_128 (j : Fin 256) : IntOp.cmpi .sge (BitVec.ofNat 32 j.val) 128#32 = BitVec.ofBool (decide (128 ≤ j.val)) := by
  revert j; decide

theorem word_sge (i : Fin 128) (j : Fin 256) : IntOp.cmpi .sge (word i j) 0#32 = BitVec.ofBool (decide (j.val ≤ i.val + 128)) := by
  unfold IntOp.cmpi
  simp only [BitVec.sle, word_toInt]
  congr 1
  apply decide_eq_decide.2
  simp; omega

theorem word_sle (i : Fin 128) (j : Fin 256) : IntOp.cmpi .sle (word i j) 128#32 = BitVec.ofBool (decide (i.val ≤ j.val)) := by
  unfold IntOp.cmpi
  simp only [BitVec.sle, word_toInt]
  congr 1
  apply decide_eq_decide.2
  rw [show (128#32 : BitVec 32).toInt = 128 from by decide]
  omega

theorem bot_bits : Ideal.ofBits .f32 4286578688#32 = ⊥ := by
  simp [Ideal.ofBits, Ideal.ieee]

end Cert.AttnGrad

namespace Cert.KernelIdeal.Attn

open Cert.KernelIdeal Cert.KernelIdeal.Gen Cert.AttnGrad
open Idealize.ShloMosaic

theorem four_bits : Ideal.ofBits .f32 3229614080#32 = ((-4 : ℝ) : EReal) := by
  simp [Ideal.ofBits, Ideal.ieee, -EReal.coe_mul, -EReal.coe_neg]
  norm_num

theorem sgt_0 (n : Fin 32) : Scalar.cmpi .sgt (BitVec.ofNat 32 n.val) 0#32 = BitVec.ofBool (decide (0 < n.val)) := by
  revert n; decide

theorem pay6_apply (n : Fin 32) (i : Fin 128) (j : Fin 256) :
    k0_pay6 (F := Ideal) (BitVec.ofNat 32 n.val) (ix2 i j) = if Valid n.val i j then ((-(4 * Head.dist i j) : ℝ) : EReal) else ⊥ := by
  pointwise [k0_pay6]
  rw [← word, word_sge, word_sle, sgt_0, sge_128, four_bits, bot_bits,
    show (FloatOps.sitofp (F := Ideal) .f32 (word i j) : EReal) = (((word i j).toInt : ℝ) : EReal) from rfl, word_toInt]
  unfold Valid Head.dist
  rw [← EReal.coe_mul]
  by_cases h1 : j.val ≤ i.val + 128 <;> by_cases h2 : i.val ≤ j.val <;> by_cases h3 : 0 < n.val <;> by_cases h4 : 128 ≤ j.val <;>
    simp [h1, h2, h3, h4, Scalar.select, IntOp.andi, IntOp.ori, -EReal.coe_mul, -EReal.coe_neg] <;> ring

end Cert.KernelIdeal.Attn

end
-- ==== Proof.Attn.Heads.lean ====
module

public import proofs.«01_k».proof.Proof.Attn.Blocks
public import proofs.«01_k».proof.Proof.Attn.Slopes
public import proofs.«01_k».proof.Proof.Attn.Bias

@[expose] public section

set_option maxRecDepth 16384

noncomputable section

/-! The gradients a block's step computes, pair by pair, are the arguments'. -/

namespace Cert.KernelIdeal.Attn

open Cert.KernelIdeal Cert.KernelIdeal.Gen Cert.AttnGrad
open Idealize.ShloMosaic Idealize.ShloMosaic.TcCoe

variable (m : (ℓ : Loc nD τ sig) → Buf (Elt Ideal) ℓ) (c : Dev nD)
variable (r : Fin 4) (n : Fin 32) (hp : Fin 8) (a : Fin 2)

/-- A pair's operands at a block's point. -/
def pairAt : Pair Ideal :=
  pairOf (BitVec.ofNat 32 n.val) (iblk m c 0 (point r n)) (iblk m c 1 (point r n)) (iblk m c 2 (point r n)) (iblk m c 3 (point r n))
    (iblk m c 4 (point r n)) (iblk m c 5 (point r n)) (iblk m c 6 (point r n)) (iblk m c 7 (point r n)) hp

/-- The head `a` of a pair. -/
def headOfPair : Fin 16 := ⟨2 * hp.val + a.val, by omega⟩

/-- The column of a head's feature. -/
def column (hp : Fin 8) (a : Fin 2) (e : Fin 64) : Fin 1024 := ⟨128 * hp.val + (64 * a.val + e.val), by omega⟩

theorem headIx_column (e : Fin 64) : headIx (column hp a e) = headOfPair hp a := by
  apply Fin.ext; show (128 * hp.val + (64 * a.val + e.val)) / 64 = 2 * hp.val + a.val; omega

theorem laneIx_column (e : Fin 64) : laneIx (column hp a e) = e := by
  apply Fin.ext; show (128 * hp.val + (64 * a.val + e.val)) % 64 = e.val; omega

abbrev slopes : Fin 2 → ℝ := fun a => AttnGrad.slope (headOfPair hp a)

theorem pairAt_reads : Reads (pairAt m c r n hp) n.val (slopes hp) where
  bias := pay6_apply n
  slopeA := slopeA_eq hp
  slopeB := slopeB_eq hp
  pos _ := slope_pos _

theorem pairAt_keys (j : Fin 256) (hj : 0 < n.val ∨ 128 ≤ j.val) (e : Fin 64) :
    (if h : j.val < 128 then iblk m c 1 (point r n) (ix2 ⟨j.val, h⟩ (column hp a e))
      else iblk m c 2 (point r n) (ix2 ⟨j.val - 128, by omega⟩ (column hp a e)))
      = ((argsOf m c).head r n (headOfPair hp a)).K j e := by
  by_cases h : j.val < 128
  · rw [dif_pos h, block_kp m c r n _ (hj.resolve_right (by omega)), headIx_column, laneIx_column]; rfl
  · rw [dif_neg h, block_k, headIx_column, laneIx_column, ← keyToken_cur]
    show (argsOf m c).k _ _ _ = (argsOf m c).k _ _ _
    congr 2; apply Fin.ext; show 128 + (j.val - 128) = j.val; omega

theorem pairAt_values (j : Fin 256) (hj : 0 < n.val ∨ 128 ≤ j.val) (e : Fin 64) :
    (if h : j.val < 128 then iblk m c 3 (point r n) (ix2 ⟨j.val, h⟩ (column hp a e))
      else iblk m c 4 (point r n) (ix2 ⟨j.val - 128, by omega⟩ (column hp a e)))
      = ((argsOf m c).head r n (headOfPair hp a)).V j e := by
  by_cases h : j.val < 128
  · rw [dif_pos h, block_vp m c r n _ (hj.resolve_right (by omega)), headIx_column, laneIx_column]; rfl
  · rw [dif_neg h, block_v, headIx_column, laneIx_column, ← keyToken_cur]
    show (argsOf m c).v _ _ _ = (argsOf m c).v _ _ _
    congr 2; apply Fin.ext; show 128 + (j.val - 128) = j.val; omega

set_option maxHeartbeats 1000000 in
theorem pairAt_grads :
    (heads (pairAt m c r n hp) n.val (slopes hp) a).gradQ = ((argsOf m c).head r n (headOfPair hp a)).gradQ
    ∧ (heads (pairAt m c r n hp) n.val (slopes hp) a).gradK = ((argsOf m c).head r n (headOfPair hp a)).gradK
    ∧ (heads (pairAt m c r n hp) n.val (slopes hp) a).gradV = ((argsOf m c).head r n (headOfPair hp a)).gradV := by
  apply Head.congr
  · rfl
  · rfl
  · funext i e
    show iblk m c 0 (point r n) (ix2 i (column hp a e)) = _
    rw [block_q, headIx_column, laneIx_column]; rfl
  · funext i e
    show iblk m c 5 (point r n) (ix2 i (column hp a e)) = _
    rw [block_g, headIx_column, laneIx_column]; rfl
  · funext i
    have ha : a = 0 ∨ a = 1 := by omega
    rcases ha with rfl | rfl
    · exact block_l m c r n i (headA hp)
    · exact block_l m c r n i (headB hp)
  · funext i
    have ha : a = 0 ∨ a = 1 := by omega
    rcases ha with rfl | rfl
    · exact block_d m c r n i (headA hp)
    · exact block_d m c r n i (headB hp)
  · exact fun j hj => funext fun e => pairAt_keys m c r n hp a j hj e
  · exact fun j hj => funext fun e => pairAt_values m c r n hp a j hj e

theorem tileQ (i : Fin 128) (e : Fin 64) :
    pairQ (pairAt m c r n hp) (ix2 i (lane a e)) = (argsOf m c).dq r n i (headOfPair hp a) e := by
  rw [pairQ_apply (pairAt_reads m c r n hp), (pairAt_grads m c r n hp a).1]; rfl

theorem tileK (j : Fin 256) (e : Fin 64) :
    pairK (pairAt m c r n hp) (ix2 j (lane a e)) = ((argsOf m c).head r n (headOfPair hp a)).gradK j e := by
  rw [pairK_apply (pairAt_reads m c r n hp), (pairAt_grads m c r n hp a).2.1]

theorem tileV (j : Fin 256) (e : Fin 64) :
    pairV (pairAt m c r n hp) (ix2 j (lane a e)) = ((argsOf m c).head r n (headOfPair hp a)).gradV j e := by
  rw [pairV_apply (pairAt_reads m c r n hp), (pairAt_grads m c r n hp a).2.2]

end Cert.KernelIdeal.Attn

end
-- ==== Proof.Attn.Result.lean ====
module

public import proofs.«01_k».proof.Proof.Attn.Heads

@[expose] public section

set_option maxRecDepth 16384

noncomputable section

/-! The two result arrays after the run. -/

namespace Cert.KernelIdeal.Attn

open Cert.KernelIdeal Cert.KernelIdeal.Gen Cert.AttnGrad
open Idealize.ShloMosaic Idealize.ShloMosaic.TcCoe

variable (m : (ℓ : Loc nD τ sig) → Buf (Elt Ideal) ℓ) (c : Dev nD)

theorem byRow_rowOf (f : Fin 4 → Fin 32 → Fin 128 → Fin 16 → Fin 64 → EReal) (r : Fin 4) (n : Fin 32) (i : Fin 128) (x : Fin 1024) :
    byRow f (rowOf r n i) x = f r n i (headIx x) (laneIx x) := by
  unfold byRow headIx laneIx
  congr 1
  · apply Fin.ext; show ((r.val * 32 + n.val) * 128 + i.val) / 4096 = r.val; omega
  · apply Fin.ext; show ((r.val * 32 + n.val) * 128 + i.val) % 4096 / 128 = n.val; omega
  · apply Fin.ext; show ((r.val * 32 + n.val) * 128 + i.val) % 128 = i.val; omega

section Tiles

variable (r : Fin 4) (n : Fin 32) (i : Fin 128) (x : Fin 1024)

abbrev pairIx (x : Fin 1024) : Fin 8 := ⟨x.val / 128, by omega⟩
abbrev laneOf (x : Fin 1024) : Fin 128 := ⟨x.val % 128, by omega⟩

/-- A column is a head of a pair's, and a feature's. -/
theorem laneOf_eq : laneOf x = lane ⟨x.val % 128 / 64, by omega⟩ (laneIx x) := by
  apply Fin.ext; show x.val % 128 = 64 * (x.val % 128 / 64) + x.val % 64; omega

theorem headOfPair_eq : headOfPair (pairIx x) ⟨x.val % 128 / 64, by omega⟩ = headIx x := by
  apply Fin.ext; show 2 * (x.val / 128) + x.val % 128 / 64 = x.val / 64; omega

theorem coord_point : (grid0.coords (point r n) 1).val = n.val := by
  rw [coord1]; show (r.val * 33 + n.val) % 33 = n.val; omega

theorem dqAt_point : dqAt m c (point r n) (ix2 i x) = (argsOf m c).dq r n i (headIx x) (laneIx x) := by
  unfold dqAt dqOf
  rw [coord_point]
  show pairQ (pairAt m c r n (pairIx x)) (ix2 i (laneOf x)) = _
  rw [laneOf_eq, tileQ, headOfPair_eq]

theorem tileK_at (j : Fin 256) : pairK (pairAt m c r n (pairIx x)) (ix2 j (laneOf x)) = ((argsOf m c).head r n (headIx x)).gradK j (laneIx x) := by
  rw [laneOf_eq, tileK, headOfPair_eq]

theorem tileV_at (j : Fin 256) : pairV (pairAt m c r n (pairIx x)) (ix2 j (laneOf x)) = ((argsOf m c).head r n (headIx x)).gradV j (laneIx x) := by
  rw [laneOf_eq, tileV, headOfPair_eq]

theorem ckAt_point : ckAt m c (point r n) (ix2 i x) = ((argsOf m c).head r n (headIx x)).gradK ⟨128 + i.val, by omega⟩ (laneIx x) := by
  unfold ckAt ckOf
  rw [coord_point, ← tileK_at]
  show carry (pairK (pairAt m c r n (pairIx x))) (ix2 i (laneOf x)) = _
  pointwise [carry]

theorem cvAt_point : cvAt m c (point r n) (ix2 i x) = ((argsOf m c).head r n (headIx x)).gradV ⟨128 + i.val, by omega⟩ (laneIx x) := by
  unfold cvAt cvOf
  rw [coord_point, ← tileV_at]
  show carry (pairV (pairAt m c r n (pairIx x))) (ix2 i (laneOf x)) = _
  pointwise [carry]

end Tiles

theorem index_8 : ∀ t : Fin cfg0.N, win0_8.index t = ![t.val / 33 * 32 + min (t.val % 33) 31, 0] := by decide +kernel
theorem index_9 : ∀ t : Fin cfg0.N, win0_9.index t = ![t.val / 33 * 32 + (t.val % 33 - 1), 0] := by decide +kernel
theorem flush_9 : ∀ t : Fin cfg0.N, (cfg0.win 9).flush t = true → 0 < t.val % 33 := by decide +kernel

theorem outQ_at (A : Args) (R : Fin 16384) (x : Fin 1024) : A.outQ (ix2 R x) = byRow A.dq R x := rfl

theorem outKV_left (A : Args) (R : Fin 16384) (x : Fin 1024) : A.outKV (ix2 R ⟨x.val, by omega⟩) = byRow A.dk R x := by
  unfold Args.outKV
  exact dif_pos x.isLt

theorem outKV_right (A : Args) (R : Fin 16384) (x : Fin 1024) : A.outKV (ix2 R ⟨1024 + x.val, by omega⟩) = byRow A.dv R x := by
  unfold Args.outKV
  refine (dif_neg (show ¬ 1024 + x.val < 1024 by omega)).trans ?_
  congr 1; apply Fin.ext; show 1024 + x.val - 1024 = x.val; omega

theorem final_q : (dats m 0 c).arrAt 8 cfg0.N = (argsOf m c).outQ := by
  refine (dats m 0 c).arrAt_eq_of_covers 8 _ (by decide +kernel) fun t hf y => ?_
  blk_simp
  rw [after_8]
  have ht : t.val < 132 := t.isLt
  revert y
  suffices h : ∀ (i : Fin 128) (x : Fin 1024), dqOut m c t (ix2 i x) = (argsOf m c).outQ ((win0_8.blk t).view.emb (ix2 i x)) from
    fun y => by rw [eq_ix2 (y : S128x1024.Idx)]; exact h _ _
  intro i x
  have e : (win0_8.blk t).view.emb (ix2 i x) = ix2 (rowOf ⟨t.val / 33, by omega⟩ ⟨min (t.val % 33) 31, by omega⟩ i) x := by
    have := index_8 t
    blk_ext [this, rowOf]
  rw [e]
  rw [outQ_at, byRow_rowOf, ← dqAt_point]
  unfold dqOut
  by_cases h : t.val % 33 ≤ 31
  · rw [if_pos h]
    congr 1; apply Fin.ext; show t.val = t.val / 33 * 33 + min (t.val % 33) 31; omega
  · rw [if_neg h]
    congr 1; apply Fin.ext; show t.val - 1 = t.val / 33 * 33 + min (t.val % 33) 31; omega

theorem column_whole (i : Fin 128) (x : Fin 1024) :
    ValueIdx.ix2 i (⟨128 * (x.val / 128) + x.val % 128, by omega⟩ : Fin 1024) = ix2 i x := by
  rw [← ix2_eq_valueIdx]
  congr 1; apply Fin.ext; show 128 * (x.val / 128) + x.val % 128 = x.val; omega

section Carried

variable (t : Fin cfg0.N) (r : Fin 4) (b : Fin 32) (ht : t.val = r.val * 33 + b.val + 1) (i : Fin 128) (x : Fin 1024)
include ht

theorem ckIn_at : ckIn m c t (ix2 i x) = ((argsOf m c).head r b (headIx x)).gradK ⟨128 + i.val, by omega⟩ (laneIx x) := by
  rw [← ckAt_point]
  unfold ckIn
  rw [if_neg (by omega)]
  congr 1; apply Fin.ext; show t.val - 1 = r.val * 33 + b.val; omega

theorem cvIn_at : cvIn m c t (ix2 i x) = ((argsOf m c).head r b (headIx x)).gradV ⟨128 + i.val, by omega⟩ (laneIx x) := by
  rw [← cvAt_point]
  unfold cvIn
  rw [if_neg (by omega)]
  congr 1; apply Fin.ext; show t.val - 1 = r.val * 33 + b.val; omega

theorem dkvOut_left : dkvOut m c t (ix2 i ⟨x.val, by omega⟩) = (argsOf m c).dk r b i (headIx x) (laneIx x) := by
  unfold dkvOut Args.dk
  by_cases hb : b.val + 1 < 32
  · rw [if_pos (by omega), dif_pos hb, ← ckIn_at m c t r b ht i x, ← tileK_at]
    obtain rfl : t = point r ⟨b.val + 1, hb⟩ := Fin.ext (by show t.val = r.val * 33 + (b.val + 1); omega)
    rw [coord_point]
    unfold dkvOf slab2
    rw [dif_pos (show (ix2 i (⟨x.val, by omega⟩ : Fin 2048) 1).val < 1024 from x.isLt)]
    show done (cols (ckIn m c (point r ⟨b.val + 1, hb⟩)) (pairIx x)) (pairK (pairAt m c r ⟨b.val + 1, hb⟩ (pairIx x))) (ix2 i (laneOf x)) = _
    pointwise [done, cols]
    congr 2
    exact column_whole i x
  · rw [if_neg (by omega), dif_neg hb, add_zero, ← ckIn_at m c t r b ht i x]
    unfold halves
    rw [dif_pos (show (ix2 i (⟨x.val, by omega⟩ : Fin 2048) 1).val < 1024 from x.isLt)]
    show k0_pay4 _ (ix2 i x) = _
    pointwise [k0_pay4]

theorem dkvOut_right : dkvOut m c t (ix2 i ⟨1024 + x.val, by omega⟩) = (argsOf m c).dv r b i (headIx x) (laneIx x) := by
  unfold dkvOut Args.dv
  by_cases hb : b.val + 1 < 32
  · rw [if_pos (by omega), dif_pos hb, ← cvIn_at m c t r b ht i x, ← tileV_at]
    obtain rfl : t = point r ⟨b.val + 1, hb⟩ := Fin.ext (by show t.val = r.val * 33 + (b.val + 1); omega)
    rw [coord_point]
    unfold dkvOf slab2
    rw [dif_neg (show ¬(ix2 i (⟨1024 + x.val, by omega⟩ : Fin 2048) 1).val < 1024 from (by omega : ¬ 1024 + x.val < 1024))]
    rw [show (⟨(ix2 i (⟨1024 + x.val, by omega⟩ : Fin 2048) 1).val - 1024, by show 1024 + x.val - 1024 < 1024; omega⟩ : Fin 1024) = x from Fin.ext (by show 1024 + x.val - 1024 = x.val; omega)]
    show done (cols (cvIn m c (point r ⟨b.val + 1, hb⟩)) (pairIx x)) (pairV (pairAt m c r ⟨b.val + 1, hb⟩ (pairIx x))) (ix2 i (laneOf x)) = _
    pointwise [done, cols]
    congr 2
    exact column_whole i x
  · rw [if_neg (by omega), dif_neg hb, add_zero, ← cvIn_at m c t r b ht i x]
    unfold halves
    rw [dif_neg (show ¬(ix2 i (⟨1024 + x.val, by omega⟩ : Fin 2048) 1).val < 1024 from (by omega : ¬ 1024 + x.val < 1024))]
    rw [show (⟨(ix2 i (⟨1024 + x.val, by omega⟩ : Fin 2048) 1).val - 1024, by show 1024 + x.val - 1024 < 1024; omega⟩ : Fin 1024) = x from Fin.ext (by show 1024 + x.val - 1024 = x.val; omega)]
    show k0_pay5 _ (ix2 i x) = _
    pointwise [k0_pay5]

end Carried

theorem final_kv : (dats m 0 c).arrAt 9 cfg0.N = (argsOf m c).outKV := by
  refine (dats m 0 c).arrAt_eq_of_covers 9 _ (by decide +kernel) fun t hf y => ?_
  blk_simp
  rw [after_9]
  have ht : t.val < 132 := t.isLt
  have h0 := flush_9 t hf
  revert y
  suffices h : ∀ (i : Fin 128) (x : Fin 2048), dkvOut m c t (ix2 i x) = (argsOf m c).outKV ((win0_9.blk t).view.emb (ix2 i x)) from
    fun y => by rw [eq_ix2 (y : S128x2048.Idx)]; exact h _ _
  intro i x
  have e : (win0_9.blk t).view.emb (ix2 i x) = ix2 (rowOf ⟨t.val / 33, by omega⟩ ⟨t.val % 33 - 1, by omega⟩ i) x := by
    have := index_9 t
    blk_ext [this, rowOf]
  rw [e]
  have ht' : t.val = t.val / 33 * 33 + (t.val % 33 - 1) + 1 := by omega
  by_cases hx : x.val < 1024
  · have h : ∀ x' : Fin 1024, dkvOut m c t (ix2 i ⟨x'.val, by omega⟩) = (argsOf m c).outKV (ix2 (rowOf ⟨t.val / 33, by omega⟩ ⟨t.val % 33 - 1, by omega⟩ i) ⟨x'.val, by omega⟩) :=
      fun x' => by rw [outKV_left, byRow_rowOf, dkvOut_left m c t ⟨t.val / 33, by omega⟩ ⟨t.val % 33 - 1, by omega⟩ ht']
    exact h ⟨x.val, hx⟩
  · have h : ∀ x' : Fin 1024, dkvOut m c t (ix2 i ⟨1024 + x'.val, by omega⟩) = (argsOf m c).outKV (ix2 (rowOf ⟨t.val / 33, by omega⟩ ⟨t.val % 33 - 1, by omega⟩ i) ⟨1024 + x'.val, by omega⟩) :=
      fun x' => by rw [outKV_right, byRow_rowOf, dkvOut_right m c t ⟨t.val / 33, by omega⟩ ⟨t.val % 33 - 1, by omega⟩ ht']
    have hx' : x = ⟨1024 + (x.val - 1024), by omega⟩ := Fin.ext (by show x.val = 1024 + (x.val - 1024); omega)
    rw [hx']
    exact h ⟨x.val - 1024, by omega⟩

end Cert.KernelIdeal.Attn

end
-- ==== Proof.Attn.Reference.lean ====
module

public import proofs.«01_k».proof.Proof.Attn.Args
public import proofs.«01_k».proof.Proof.Attn.Bias
public import proofs.«01_k».proof.Proof.Gen.ReferenceIdeal.Run

@[expose] public section

set_option maxRecDepth 16384

noncomputable section

/-! The reference's two results, read element by element. -/

namespace Cert.ReferenceIdeal.Attn

open Cert.ReferenceIdeal Cert.ReferenceIdeal.Gen
open Cert.AttnGrad hiding slope
open Idealize.ShloMosaic Idealize.ShloMosaic.TcCoe

abbrev Whole := FVec Ideal S1x16384x16x64 .f32
abbrev Stat := FVec Ideal S1x16384x16x1 .f32

/-- An array by residue classes and blocks. -/
def blocks (x : Whole) : FVec Ideal S1x4x32x128x16x64 .f32 :=
  shapeCast _ (transpose S1x4x4096x16x64 [0, 2, 1, 3, 4] (shapeCast _ x shapeCasts_S1x16384x16x64_S1x4096x4x16x64)
    transposes_S1x4096x4x16x64_S1x4x4096x16x64_0_2_1_3_4) shapeCasts_S1x4x4096x16x64_S1x4x32x128x16x64

def statBlocks (x : Stat) : FVec Ideal S1x4x32x16x128x1 .f32 :=
  transpose S1x4x32x16x128x1 [0, 1, 2, 4, 3, 5] (shapeCast _ (transpose S1x4x4096x16x1 [0, 2, 1, 3, 4]
    (shapeCast _ x shapeCasts_S1x16384x16x1_S1x4096x4x16x1) transposes_S1x4096x4x16x1_S1x4x4096x16x1_0_2_1_3_4)
    shapeCasts_S1x4x4096x16x1_S1x4x32x128x16x1) transposes_S1x4x32x128x16x1_S1x4x32x16x128x1_0_1_2_4_3_5

variable (r : Fin 4) (n : Fin 32) (h : Fin 16) (i : Fin 128) (j : Fin 256) (e : Fin 64)

theorem blocks_apply (x : Whole) : blocks x (ix6 0 r n i h e) = x (ix4 0 (token r n i) h e) := by
  pointwise [blocks]
  congr 2

theorem statBlocks_apply (x : Stat) : statBlocks x (ix6 0 r n h i 0) = x (ix4 0 (token r n i) h 0) := by
  pointwise [statBlocks]
  congr 2

/-- A block's keys after those of the block before. -/
def keys (x : Whole) : FVec Ideal S1x4x32x256x16x64 .f32 :=
  concatenate S1x4x32x256x16x64 3 [⟨S1x4x32x128x16x64, concatenate S1x4x32x128x16x64 2
      [⟨S1x4x1x128x16x64, broadcastInDim S1x4x1x128x16x64 ![] bcast_S_S1x4x1x128x16x64 (constant S_ .f32 0x00000000#32)⟩,
       ⟨S1x4x31x128x16x64, extractStridedSlice S1x4x31x128x16x64 ![0, 0, 0, 0, 0, 0] (blocks x) slices_S1x4x32x128x16x64_S1x4x31x128x16x64_0_0_0_0_0_0⟩]
      concatenates_S1x4x1x128x16x64_S1x4x31x128x16x64_S1x4x32x128x16x64_d2⟩,
    ⟨S1x4x32x128x16x64, blocks x⟩] concatenates_S1x4x32x128x16x64_S1x4x32x128x16x64_S1x4x32x256x16x64_d3

theorem keys_apply (x : Whole) (hj : 0 < n.val ∨ 128 ≤ j.val) : keys x (ix6 0 r n j h e) = x (ix4 0 (keyToken r n j) h e) := by
  pointwise [keys]
  by_cases h1 : j.val < 128
  · have hn : 0 < n.val := hj.resolve_right (by omega)
    rw [dif_pos h1, dif_neg (by omega), blocks_apply]
    congr 2; apply Fin.ext; show ((n.val - 1) * 128 + j.val) * 4 + r.val = (n.val * 128 + j.val - 128) * 4 + r.val; omega
  · rw [dif_neg h1, blocks_apply]
    congr 2; apply Fin.ext; show (n.val * 128 + (j.val - 128)) * 4 + r.val = (n.val * 128 + j.val - 128) * 4 + r.val; omega

def dists : IVec S128x256 32 :=
  subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

theorem word_four : (IntOp.muli 4#32 (word i j)).toInt = 4 * ((i.val : ℤ) + 128 - (j.val : ℤ)) := by
  unfold IntOp.muli
  rw [BitVec.toInt_mul, word_toInt, show (4#32 : BitVec 32).toInt = 4 from by decide]
  have hi := i.isLt
  have hj := j.isLt
  unfold Int.bmod
  norm_num
  omega

def mask : IVec S1x4x32x16x128x256 1 :=
  broadcastInDim S1x4x32x16x128x256 ![0, 1, 2, 3, 4, 5] bcast_S1x1x32x1x128x256_S1x4x32x16x128x256_0_1_2_3_4_5
    (broadcastInDim S1x1x32x1x128x256 ![2, 4, 5] bcast_S32x128x256_S1x1x32x1x128x256_2_4_5
      (andi (broadcastInDim S32x128x256 ![0, 1, 2] bcast_S1x128x256_S32x128x256_0_1_2
          (broadcastInDim S1x128x256 ![1, 2] bcast_S128x256_S1x128x256_1_2
            (andi (cmpi .sge dists (broadcastInDim S128x256 ![] bcast_S_S128x256 (constantI S_ 32 0#32)))
              (cmpi .sle dists (broadcastInDim S128x256 ![] bcast_S_S128x256 (constantI S_ 32 128#32))))))
        (broadcastInDim S32x128x256 ![0, 1, 2] bcast_S32x1x256_S32x128x256_0_1_2
          (noti (andi (broadcastInDim S32x1x256 ![0, 1, 2] bcast_S32x1x1_S32x1x256_0_1_2 (broadcastInDim S32x1x1 ![0] bcast_S32_S32x1x1_0
                (cmpi .eq (iotaInDim S32 32 0) (broadcastInDim S32 ![] bcast_S_S32 (constantI S_ 32 0#32)))))
              (broadcastInDim S32x1x256 ![0, 1, 2] bcast_S1x1x256_S32x1x256_0_1_2 (broadcastInDim S1x1x256 ![1, 2] bcast_S1x256_S1x1x256_1_2
                (cmpi .slt (broadcastInDim S1x256 ![1] bcast_S256_S1x256_1 (iotaInDim S256 32 0))
                  (broadcastInDim S1x256 ![] bcast_S_S1x256 (constantI S_ 32 128#32))))))))))

theorem dists_apply : dists (ix2 i j) = word i j := by
  pointwise [dists]
  rfl

theorem first_word (n : Fin 32) : IntOp.cmpi .eq (BitVec.ofNat 32 n.val) 0#32 = BitVec.ofBool (decide (n.val = 0)) := by
  revert n; decide

theorem slt_128 (j : Fin 256) : IntOp.cmpi .slt (BitVec.ofNat 32 j.val) 128#32 = BitVec.ofBool (decide (j.val < 128)) := by
  revert j; decide

theorem mask_apply : mask (ix6 0 r n h i j) = BitVec.ofBool (decide (Valid n.val i j)) := by
  pointwise [mask]
  rw [dists_apply, word_sge, word_sle, first_word, slt_128]
  unfold Valid
  by_cases h1 : j.val ≤ i.val + 128 <;> by_cases h2 : i.val ≤ j.val <;> by_cases h3 : n.val = 0 <;> by_cases h4 : j.val < 128 <;>
    simp [h1, h2, h3, h4, IntOp.andi, Nat.pos_iff_ne_zero, Nat.le_of_not_lt, Nat.not_le_of_lt]

def slopeRow : FVec Ideal S16 .f32 :=
  Host.powf (broadcastInDim S16 ![] bcast_S_S16 (constant S_ .f32 0x40000000#32))
    (Host.divf (mulf (broadcastInDim S16 ![] bcast_S_S16 (constant S_ .f32 0xC1000000#32))
        (addf (broadcastInDim S16 ![] bcast_S_S16 (constant S_ .f32 0x3F800000#32)) (sitofp .f32 (iotaInDim S16 32 0))))
      (broadcastInDim S16 ![] bcast_S_S16 (constant S_ .f32 0x41800000#32)))

theorem slopeRow_apply : slopeRow (ix1 h) = (AttnGrad.slope h : EReal) := by
  pointwise [slopeRow]
  rw [show Ideal.ofBits .f32 1073741824#32 = ((2 : ℝ) : EReal) by simp [Ideal.ofBits, Ideal.ieee, -EReal.coe_mul]; norm_num,
    show Ideal.ofBits .f32 3238002688#32 = ((-8 : ℝ) : EReal) by simp [Ideal.ofBits, Ideal.ieee, -EReal.coe_mul, -EReal.coe_neg]; norm_num,
    show Ideal.ofBits .f32 1098907648#32 = ((16 : ℝ) : EReal) by simp [Ideal.ofBits, Ideal.ieee, -EReal.coe_mul]; norm_num,
    show (FloatOps.sitofp (F := Ideal) .f32 (BitVec.ofNat 32 h.val) : EReal) = ((((BitVec.ofNat 32 h.val).toInt : ℤ) : ℝ) : EReal) from rfl,
    show (BitVec.ofNat 32 h.val).toInt = (h.val : ℤ) from by revert h; decide]
  unfold AttnGrad.slope
  rw [Ideal.div_coe (by norm_num), ← EReal.coe_one, ← EReal.coe_add, ← EReal.coe_mul, ← EReal.coe_mul, Ideal.pow_coe_coe]
  congr 1
  rw [Real.rpow_eq_pow]
  congr 1; push_cast; ring

def biases : FVec Ideal S1x4x32x16x128x256 .f32 :=
  broadcastInDim S1x4x32x16x128x256 ![0, 1, 2, 3, 4, 5] bcast_S1x1x1x16x128x256_S1x4x32x16x128x256_0_1_2_3_4_5
    (broadcastInDim S1x1x1x16x128x256 ![3, 4, 5] bcast_S16x128x256_S1x1x1x16x128x256_3_4_5
      (mulf (broadcastInDim S16x128x256 ![0, 1, 2] bcast_S16x1x1_S16x128x256_0_1_2
          (Host.negf (broadcastInDim S16x1x1 ![0] bcast_S16_S16x1x1_0 slopeRow)))
        (broadcastInDim S16x128x256 ![0, 1, 2] bcast_S1x128x256_S16x128x256_0_1_2 (broadcastInDim S1x128x256 ![1, 2] bcast_S128x256_S1x128x256_1_2
          (sitofp .f32 (muli (broadcastInDim S128x256 ![] bcast_S_S128x256 (constantI S_ 32 4#32)) dists))))))

theorem biases_apply : biases (ix6 0 r n h i j) = ((-(AttnGrad.slope h * (4 * Head.dist i j)) : ℝ) : EReal) := by
  pointwise [biases]
  rw [slopeRow_apply, dists_apply,
    show (FloatOps.sitofp (F := Ideal) .f32 (IntOp.muli 4#32 (word i j)) : EReal) = ((((IntOp.muli 4#32 (word i j)).toInt : ℤ) : ℝ) : EReal) from rfl,
    word_four, ← EReal.coe_neg, ← EReal.coe_mul]
  unfold Head.dist
  congr 1; push_cast; ring

variable (q k v g : Whole) (l d : Stat)

/-- The weights, from the saved sums' logarithms. -/
def probs : FVec Ideal S1x4x32x16x128x256 .f32 :=
  Host.exp (subf (select mask
      (addf (mulf (Host.dotGeneral dot_S1x4x32x128x16x64_S1x4x32x256x16x64_S1x4x32x16x128x256_5_5_3_3_0124_0124 none (blocks q) (keys k))
        (broadcastInDim S1x4x32x16x128x256 ![] bcast_S_S1x4x32x16x128x256 (constant S_ .f32 0x3E000000#32))) biases)
      (broadcastInDim S1x4x32x16x128x256 ![] bcast_S_S1x4x32x16x128x256 (constant S_ .f32 0xFF800000#32)))
    (broadcastInDim S1x4x32x16x128x256 ![0, 1, 2, 3, 4, 5] bcast_S1x4x32x16x128x1_S1x4x32x16x128x256_0_1_2_3_4_5 (statBlocks l)))

def turned : FVec Ideal S1x4x32x16x64x128 .f32 :=
  transpose S1x4x32x16x64x128 [0, 1, 2, 4, 5, 3] (blocks g) transposes_S1x4x32x128x16x64_S1x4x32x16x64x128_0_1_2_4_5_3

/-- The gradients of the products of the queries and the keys. -/
def grads : FVec Ideal S1x4x32x16x128x256 .f32 :=
  mulf (select mask
      (mulf (addf (broadcastInDim S1x4x32x16x128x256 ![0, 1, 2, 3, 4] bcast_S1x4x32x16x128_S1x4x32x16x128x256_0_1_2_3_4
            (broadcastInDim S1x4x32x16x128 ![1, 2, 3, 4] bcast_S4x32x16x128_S1x4x32x16x128_1_2_3_4
              (Host.reduceAdd (statBlocks (Host.negf d)) (constant S_ .f32 0x00000000#32) reducesTo_S1x4x32x16x128x1_S4x32x16x128_d0_5 h_S_)))
          (Host.dotGeneral dot_S1x4x32x16x64x128_S1x4x32x256x16x64_S1x4x32x16x128x256_4_5_5_3_0123_0124 none (turned g) (keys v)))
        (probs q k l))
      (broadcastInDim S1x4x32x16x128x256 ![] bcast_S_S1x4x32x16x128x256 (constant S_ .f32 0x00000000#32)))
    (broadcastInDim S1x4x32x16x128x256 ![] bcast_S_S1x4x32x16x128x256 (constant S_ .f32 0x3E000000#32))

/-- The rows of the residue classes' order. -/
def rows (x : FVec Ideal S1x4x32x128x16x64 .f32) : FVec Ideal S16384x1024 .bf16 :=
  truncf .bf16 (shapeCast _ (transpose S4x4096x1024 [1, 0, 2] (shapeCast _ (shapeCast _ (transpose S1x4096x4x16x64 [0, 2, 1, 3, 4]
      (shapeCast _ x shapeCasts_S1x4x32x128x16x64_S1x4x4096x16x64) transposes_S1x4x4096x16x64_S1x4096x4x16x64_0_2_1_3_4)
      shapeCasts_S1x4096x4x16x64_S1x16384x16x64) shapeCasts_S1x16384x16x64_S4096x4x1024) transposes_S4096x4x1024_S4x4096x1024_1_0_2)
    shapeCasts_S4x4096x1024_S16384x1024) bitsLt_bf16_f32

/-- A key's two parts added: from its own block's queries, and from the next block's. -/
def joined (T : FVec Ideal S1x4x32x256x16x64 .f32) : FVec Ideal S1x4x32x128x16x64 .f32 :=
  addf (extractStridedSlice S1x4x32x128x16x64 ![0, 0, 0, 128, 0, 0] T slices_S1x4x32x256x16x64_S1x4x32x128x16x64_0_0_0_128_0_0)
    (pad S1x4x32x128x16x64 ![0, 0, 0, 0, 0, 0] ![0, 0, 1, 0, 0, 0] ![0, 0, 0, 0, 0, 0]
      (extractStridedSlice S1x4x31x128x16x64 ![0, 0, 1, 0, 0, 0]
        (extractStridedSlice S1x4x32x128x16x64 ![0, 0, 0, 0, 0, 0] T slices_S1x4x32x256x16x64_S1x4x32x128x16x64_0_0_0_0_0_0)
        slices_S1x4x32x128x16x64_S1x4x31x128x16x64_0_0_1_0_0_0)
      (constant S_ .f32 0x00000000#32) pads_S1x4x31x128x16x64_S1x4x32x128x16x64_000_000_010_000_000_000 h_S_)

def gradQ : FVec Ideal S1x4x32x128x16x64 .f32 :=
  transpose S1x4x32x128x16x64 [0, 1, 2, 4, 3, 5] (Host.dotGeneral dot_S1x4x32x16x128x256_S1x4x32x256x16x64_S1x4x32x16x128x64_5_3_4_5_0123_0124 none
    (grads q k v g l d) (keys k)) transposes_S1x4x32x16x128x64_S1x4x32x128x16x64_0_1_2_4_3_5

def gradK : FVec Ideal S1x4x32x256x16x64 .f32 :=
  transpose S1x4x32x256x16x64 [0, 1, 2, 4, 3, 5] (Host.dotGeneral dot_S1x4x32x16x128x256_S1x4x32x128x16x64_S1x4x32x16x256x64_4_3_5_5_0123_0124 none
    (grads q k v g l d) (blocks q)) transposes_S1x4x32x16x256x64_S1x4x32x256x16x64_0_1_2_4_3_5

def gradV : FVec Ideal S1x4x32x256x16x64 .f32 :=
  transpose S1x4x32x256x16x64 [0, 1, 2, 5, 3, 4] (Host.dotGeneral dot_S1x4x32x16x64x128_S1x4x32x16x128x256_S1x4x32x16x64x256_5_4_4_5_0123_0123 none
    (turned g) (probs q k l)) transposes_S1x4x32x16x64x256_S1x4x32x256x16x64_0_1_2_5_3_4

section Read

variable (m : (ℓ : Loc nD τ sig) → Buf (Elt Ideal) ℓ) (c : Dev nD)

theorem res_q : Value.res_main_v142 m c = rows (gradQ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))) := by
  sl_kernel_rfl

theorem res_kv : Value.res_main_v151 m c = concatenate S16384x2048 1
    [⟨S16384x1024, rows (joined (gradK (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))))⟩,
     ⟨S16384x1024, rows (joined (gradV (m ((c.tc : Thread nD τ).loc main_arg0)) (m ((c.tc : Thread nD τ).loc main_arg1))
      (m ((c.tc : Thread nD τ).loc main_arg3)) (m ((c.tc : Thread nD τ).loc main_arg4))))⟩] concatenates_S16384x1024_S16384x1024_S16384x2048_d1 := by
  sl_kernel_rfl

end Read

/-- A head's operands, out of the blocks. -/
def headAt : Head where
  n := n.val
  σ := AttnGrad.slope h
  Q i e := blocks q (ix6 0 r n i h e) * eighth
  G i e := blocks g (ix6 0 r n i h e)
  K j e := keys k (ix6 0 r n j h e)
  V j e := keys v (ix6 0 r n j h e)
  L i := statBlocks l (ix6 0 r n h i 0)
  D i := statBlocks d (ix6 0 r n h i 0)

theorem eighth_word : Ideal.ofBits .f32 1040187392#32 = eighth := by
  unfold eighth
  simp [Ideal.ofBits, Ideal.ieee, -EReal.coe_mul]
  norm_num

theorem select_mask (x y : EReal) : Scalar.select (mask (ix6 0 r n h i j)) x y = if Valid n.val i j then x else y := by
  rw [mask_apply]
  by_cases hv : Valid n.val i j <;> simp [hv, Scalar.select]

theorem probs_apply : probs q k l (ix6 0 r n h i j) = (headAt r n h q k v g l d).prob i j := by
  pointwise [probs]
  rw [select_mask, eighth_word, bot_bits, biases_apply, sum_mul_eighth]
  show _ = if Valid n.val i j then _ else _
  by_cases hv : Valid n.val i j
  · rw [if_pos hv, if_pos hv]
    simp only [mul_right_comm _ _ eighth]
    rfl
  · rw [if_neg hv, if_neg hv, EReal.bot_sub]; rfl

theorem drop_stat (y : S1x4x32x16x128x1.Idx) :
    reducesTo_S1x4x32x16x128x1_S4x32x16x128_d0_5.drop y = ix4 r n h i ↔ y = ix6 0 r n h i 0 := by
  constructor
  · intro hy
    have h0 := congrFun hy 0
    have h1 := congrFun hy 1
    have h2 := congrFun hy 2
    have h3 := congrFun hy 3
    funext a
    fin_cases a
    · exact Subsingleton.elim (α := Fin 1) _ _
    · exact h0
    · exact h1
    · exact h2
    · exact h3
    · exact Subsingleton.elim (α := Fin 1) _ _
  · rintro rfl
    funext a
    fin_cases a <;> rfl

theorem reduce_stat (x : FVec Ideal S1x4x32x16x128x1 .f32) :
    Ideal.hostReduceAdd reducesTo_S1x4x32x16x128x1_S4x32x16x128_d0_5 x 0 (ix4 r n h i) = x (ix6 0 r n h i 0) := by
  unfold Ideal.hostReduceAdd
  simp only [drop_stat]
  rw [zero_add, Finset.filter_eq', if_pos (Finset.mem_univ _), Finset.sum_singleton]

theorem grads_apply : grads q k v g l d (ix6 0 r n h i j) = (headAt r n h q k v g l d).grad i j * eighth := by
  pointwise [grads, turned]
  rw [select_mask, eighth_word, reduce_stat, probs_apply r n h i j q k v g l d]
  unfold Head.grad
  by_cases hv : Valid n.val i j
  · rw [if_pos hv]
    congr 1
    rw [mul_comm, sub_eq_add_neg, add_comm]
    congr 2
  · rw [if_neg hv, show (headAt r n h q k v g l d).prob i j = 0 from if_neg hv, zero_mul, zero_mul]

theorem gradQ_apply : gradQ q k v g l d (ix6 0 r n i h e) = (headAt r n h q k v g l d).gradQ i e := by
  pointwise [gradQ]
  unfold Head.gradQ
  rw [sum_mul_eighth]
  exact Finset.sum_congr rfl fun x _ => by rw [grads_apply, mul_right_comm]; rfl

theorem gradK_apply : gradK q k v g l d (ix6 0 r n j h e) = (headAt r n h q k v g l d).gradK j e := by
  pointwise [gradK]
  exact Finset.sum_congr rfl fun x _ => by rw [grads_apply, mul_assoc, mul_comm eighth]; rfl

theorem gradV_apply : gradV q k g l (ix6 0 r n j h e) = (headAt r n h q k v g l d).gradV j e := by
  pointwise [gradV, turned]
  exact Finset.sum_congr rfl fun x _ => by rw [probs_apply r n h x j q k v g l d, mul_comm]; rfl

theorem rows_apply (x : FVec Ideal S1x4x32x128x16x64 .f32) (R : Fin 16384) (y : Fin 1024) :
    rows x (ix2 R y) = byRow (fun r n i h e => x (ix6 0 r n i h e)) R y := by
  pointwise [rows]
  unfold byRow
  congr 2
  apply Fin.ext; show R.val % 4096 % 128 = R.val % 128; omega

theorem joined_apply (T : FVec Ideal S1x4x32x256x16x64 .f32) : joined T (ix6 0 r n i h e) = T (ix6 0 r n ⟨128 + i.val, by omega⟩ h e)
    + if hn : n.val + 1 < 32 then T (ix6 0 r ⟨n.val + 1, hn⟩ ⟨i.val, by omega⟩ h e) else 0 := by
  pointwise [joined]
  congr 1
  by_cases hn : n.val + 1 < 32
  · rw [dif_pos (by omega), dif_pos hn]
    congr 2; apply Fin.ext; show 1 + n.val = n.val + 1; omega
  · rw [dif_neg (by omega), dif_neg hn]

/-- The arguments, token by token. -/
def argsOf : Args where
  q t h e := q (ix4 0 t h e)
  k t h e := k (ix4 0 t h e)
  v t h e := v (ix4 0 t h e)
  g t h e := g (ix4 0 t h e)
  l t h := l (ix4 0 t h 0)
  d t h := d (ix4 0 t h 0)

theorem headAt_grads :
    (headAt r n h q k v g l d).gradQ = ((argsOf q k v g l d).head r n h).gradQ
    ∧ (headAt r n h q k v g l d).gradK = ((argsOf q k v g l d).head r n h).gradK
    ∧ (headAt r n h q k v g l d).gradV = ((argsOf q k v g l d).head r n h).gradV := by
  apply Head.congr
  · rfl
  · rfl
  · funext i e
    exact congrArg (· * eighth) (blocks_apply r n h i e q)
  · funext i e
    exact blocks_apply r n h i e g
  · funext i
    exact statBlocks_apply r n h i l
  · funext i
    exact statBlocks_apply r n h i d
  · exact fun j hj => funext fun e => keys_apply r n h j e k hj
  · exact fun j hj => funext fun e => keys_apply r n h j e v hj

theorem result_q : rows (gradQ q k v g l d) = (argsOf q k v g l d).outQ := by
  have at_row : ∀ (R : Fin 16384) (x : Fin 1024), rows (gradQ q k v g l d) (ix2 R x) = byRow (argsOf q k v g l d).dq R x := by
    intro R x
    rw [rows_apply]
    congr 1
    funext r n i h e
    rw [gradQ_apply, (headAt_grads r n h q k v g l d).1]; rfl
  funext y
  rw [eq_ix2 y]
  exact at_row _ _

theorem result_kv : concatenate S16384x2048 1 [⟨S16384x1024, rows (joined (gradK q k v g l d))⟩, ⟨S16384x1024, rows (joined (gradV q k g l))⟩]
    concatenates_S16384x1024_S16384x1024_S16384x2048_d1 = (argsOf q k v g l d).outKV := by
  have left : ∀ (R : Fin 16384) (x : Fin 1024), rows (joined (gradK q k v g l d)) (ix2 R x) = byRow (argsOf q k v g l d).dk R x := by
    intro R x
    rw [rows_apply]
    congr 1
    funext r n i h e
    rw [joined_apply]
    simp only [gradK_apply, (headAt_grads _ _ _ q k v g l d).2.1]; rfl
  have right : ∀ (R : Fin 16384) (x : Fin 1024), rows (joined (gradV q k g l)) (ix2 R x) = byRow (argsOf q k v g l d).dv R x := by
    intro R x
    rw [rows_apply]
    congr 1
    funext r n i h e
    rw [joined_apply]
    simp only [gradV_apply _ _ _ _ _ q k v g l d, (headAt_grads _ _ _ q k v g l d).2.2]; rfl
  have both : ∀ (R : Fin 16384) (x : Fin 2048), concatenate S16384x2048 1 [⟨S16384x1024, rows (joined (gradK q k v g l d))⟩, ⟨S16384x1024, rows (joined (gradV q k g l))⟩]
      concatenates_S16384x1024_S16384x1024_S16384x2048_d1 (ix2 R x) = (argsOf q k v g l d).outKV (ix2 R x) := by
    intro R x
    pointwise
    simp only [left, right]
    rfl
  funext y
  rw [eq_ix2 y]
  exact both _ _

end Cert.ReferenceIdeal.Attn

end
-- ==== Proof.Attn.Claims.lean ====
module

public import proofs.«01_k».proof.Defs
public import proofs.«01_k».proof.Proof.Attn.Result
public import proofs.«01_k».proof.Proof.Attn.Reference
public import proofs.«01_k».proof.Proof.Gen.Kernel

@[expose] public section

set_option maxRecDepth 16384

noncomputable section

/-! The claims. -/

namespace Cert.Proof.AttnClaims

open Idealize.ShloMosaic Idealize.ShloMosaic.TcCoe Idealize.SL.Sem

section KernelIdeal

open Cert.KernelIdeal Cert.KernelIdeal.Gen Cert.KernelIdeal.Attn

variable {F : FTy → Type} [FloatOps F] [Named F]

/-- The arguments after a run are those before it. -/
abbrev kept (m : (ℓ : Loc nD τ sig) → Buf (Elt F) ℓ) (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

/-- A run leaves the arguments as they were. -/
theorem unchanged (m : (ℓ : Loc nD τ sig) → Buf (Elt F) ℓ) (ρ : Dev nD → PrngReg) :
    θ_run defs (onTc (τ := τ) (main (F := F))) ⟨m, fun _ => 0, ρ⟩ (fun r => ∀ c : Dev nD, kept m r c) :=
  frame_of m ρ (Attn.dats m) (Attn.A_eq m) ((θ_run defs _ _).mono (fun _ h => h.1) (Attn.run m ρ))

/-- A run leaves every counter at zero besides. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD, kept m r c) ∧ r.2.sem = fun _ => 0) :=
  θ_run_and (unchanged m ρ) ((θ_run defs _ _).mono (fun _ h => h.2) (Attn.run m ρ))

/-- The two result arrays after a run. -/
theorem results (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v27_0) = (Attn.argsOf m c).outQ
      ∧ r.2.mem ((c.tc : Thread nD τ).loc main_v27_1) = (Attn.argsOf m c).outKV) :=
  (θ_run defs _ _).mono (fun _ h c => ⟨((h.1 c).1 8).trans (Attn.final_q m c), ((h.1 c).1 9).trans (Attn.final_kv m c)⟩)
    (Attn.run m ρ)

end KernelIdeal

theorem frame_pi : Cert.quiescent_KernelIdeal := fun m ρ _ => quiescent m ρ

/-- At the machine's floats a named constant is its word. -/
@[reducible] def words : Named Bits where
  named _ _ bits := FloatOps.ofBits bits

attribute [local instance] words

/-- With its constants read as their words the idealized kernel is the kernel. -/
theorem frame_p : Cert.quiescent_Kernel := by
  have same : (∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (onTc (τ := Cert.KernelIdeal.τ) (Cert.KernelIdeal.main (F := Bits)))
      ⟨m, fun _ => 0, ρ⟩ (fun r => (∀ c, kept m r c) ∧ r.2.sem = fun _ => 0)) = Cert.quiescent_Kernel := by sl_kernel_rfl
  exact same ▸ fun m ρ _ => quiescent m ρ

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal := by
  refine ⟨?_, ?_, ?_, ?_, ?_, ?_, ?_, ?_⟩ <;> exact IdealRules.named_const.statement _ _ _ _ _ rfl

theorem algebraic : Cert.algebraic_KernelIdeal_ReferenceIdeal := by
  intro m ρ m' ρ' _ hagree
  refine ⟨fun c => (Cert.KernelIdeal.Attn.argsOf m c).outQ, fun c => (Cert.KernelIdeal.Attn.argsOf m c).outKV,
    (θ_run Cert.KernelIdeal.defs _ _).mono (fun _ h c => ⟨(h.1 c).1, (h.1 c).2, h.2 c⟩) (θ_run_and (results m ρ) (unchanged m ρ)), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5⟩ := hagree c
    rw [Cert.ReferenceIdeal.Attn.res_q, h0, h1, h2, h3, h4, h5]
    exact Cert.ReferenceIdeal.Attn.result_q _ _ _ _ _ _
  · obtain ⟨h0, h1, h2, h3, h4, h5⟩ := hagree c
    rw [Cert.ReferenceIdeal.Attn.res_kv, h0, h1, h2, h3, h4, h5]
    exact Cert.ReferenceIdeal.Attn.result_kv _ _ _ _ _ _

end Cert.Proof.AttnClaims

end
-- ==== Proof.Product.Math.lean ====
module

public import Idealize.ShloMosaic.PureOps
public import Mathlib.Data.EReal.Basic
public import Mathlib.Algebra.BigOperators.Fin

@[expose] public section

noncomputable section

/-! A sum over all tokens, eight blocks of 2048 tokens at a time. -/

namespace Cert.Product

/-- The token at place `y` of the block that the eight-point pass reaches at point `n`. -/
def rowAt (n : Nat) (y : Fin 2048) : Fin 16384 := ⟨2048 * (n % 8) + y.val, by omega⟩

theorem sum_rows (f : Fin 16384 → EReal) (b : Nat) :
    ∑ s ∈ Finset.range 8, ∑ y : Fin 2048, f (rowAt (8 * b + s) y) = ∑ t : Fin 16384, f t := by
  rw [Finset.sum_range, ← Fintype.sum_prod_type' (f := fun (s : Fin 8) y => f (rowAt (8 * b + s.val) y))]
  refine Fintype.sum_equiv (finProdFinEquiv (m := 8) (n := 2048)) _ _ fun p => ?_
  congr 1
  apply Fin.ext
  show 2048 * ((8 * b + p.1.val) % 8) + p.2.val = p.2.val + 2048 * p.1.val
  omega

end Cert.Product

end
-- ==== Proof.Product.Dw.lean ====
module

public import proofs.«01_k».proof.Defs
public import proofs.«01_k».proof.Proof.Product.Math
public import proofs.«01_k».proof.Proof.Gen.DwIdeal
public import proofs.«01_k».proof.Proof.Gen.DwIdeal.Frame
public import proofs.«01_k».proof.Proof.Gen.DwIdeal.Value
public import proofs.«01_k».proof.Proof.Gen.DwReferenceIdeal
public import proofs.«01_k».proof.Proof.Gen.DwReferenceIdeal.Run
public import proofs.«01_k».proof.Proof.Gen.Dw
public import Idealize.ShloMosaic.Lib.StableHlo.ReadAt
public import Idealize.ShloMosaic.Lib.Pipeline.ValueKit

@[expose] public section

set_option maxRecDepth 16384

noncomputable section

/-! The gradient of a weight, `xᵀ · ct`, its sum over the tokens taken in eight steps. -/

namespace Cert.Proof.Dw

open Cert.Product
open Idealize.ShloMosaic Idealize.ShloMosaic.TcCoe Idealize.SL.Sem

section Value

open Cert.DwIdeal Cert.DwIdeal.Gen Cert.DwIdeal.Value

variable (m : (ℓ : Loc nD τ sig) → Buf (Elt Ideal) ℓ) (c : Dev nD)

abbrev x (t : Fin 16384) (i : Fin 1024) : EReal := m (c, Proc.tc.devRef main_arg0) (ix2 t i)
abbrev ct (t : Fin 16384) (j : Fin 1024) : EReal := m (c, Proc.tc.devRef main_arg1) (ix2 t j)

/-- A step adds its block's product. -/
theorem step_at (a : FVec Ideal S1024x1024 .f32) (u v : FVec Ideal S2048x1024 .bf16) (i j : Fin 1024) :
    k0_pay2 a u v (ix2 i j) = a (ix2 i j) + ∑ y : Fin 2048, u (ix2 y i) * v (ix2 y j) := by
  pointwise [k0_pay2]

theorem index_at : ∀ t : Fin cfg0.N, (win0_0.index t 0 = t.val % 8 ∧ win0_0.index t 1 = 0)
    ∧ win0_1.index t 0 = t.val % 8 ∧ win0_1.index t 1 = t.val / 8 :=
  (by decide +kernel : ∀ t : Fin grid0.N, _)

theorem block_x (n : Nat) (h : n < cfg0.N) (y : Fin 2048) (i : Fin 1024) :
    iblk m c 0 ⟨n, h⟩ (ix2 y i) = x m c (rowAt n y) i := by
  have hx : ∀ (X : FVec Ideal S16384x1024 .bf16), V m c main_v0 = X → X (ix2 (rowAt n y) i) = x m c (rowAt n y) i := by
    rintro X rfl
    unfold V
    simp only [hostOps0]
    after_reads_at
  rw [← hx _ rfl]
  have e0 : win0_0.index ⟨n, h⟩ 0 = n % 8 := (index_at ⟨n, h⟩).1.1
  have e1 : win0_0.index ⟨n, h⟩ 1 = 0 := (index_at ⟨n, h⟩).1.2
  blk_ext [iblk, rowAt, e0, e1]

/-- The column of the array that column `j` of the block at point `n` is. -/
def colAt (n : Nat) (j : Fin 1024) : Fin 1024 := ⟨j.val, by have := j.isLt; omega⟩

theorem block_ct (n : Nat) (h : n < cfg0.N) (y : Fin 2048) (j : Fin 1024) :
    iblk m c 1 ⟨n, h⟩ (ix2 y j) = ct m c (rowAt n y) (colAt n j) := by
  have hx : ∀ (X : FVec Ideal S16384x1024 .bf16), V m c main_v1 = X → X (ix2 (rowAt n y) (colAt n j)) = ct m c (rowAt n y) (colAt n j) := by
    rintro X rfl
    unfold V
    simp only [hostOps0]
    after_reads_at
  rw [← hx _ rfl]
  have e0 : win0_1.index ⟨n, h⟩ 0 = n % 8 := (index_at ⟨n, h⟩).2.1
  have e1 : win0_1.index ⟨n, h⟩ 1 = n / 8 := (index_at ⟨n, h⟩).2.2
  have hN : cfg0.N = 8 := N_0
  blk_ext [iblk, rowAt, colAt, e0, e1]
  all_goals omega

/-- What the block at point `n` adds to the sum. -/
def addend (n : Nat) (i : S1024x1024.Idx) : EReal := ∑ y : Fin 2048, x m c (rowAt n y) (i 0) * ct m c (rowAt n y) (colAt n (i 1))

theorem step_add (n : Nat) (h : n < cfg0.N) (a : FVec Ideal S1024x1024 .f32) (i : S1024x1024.Idx) :
    k0_pay2 a (iblk m c 0 ⟨n, h⟩) (iblk m c 1 ⟨n, h⟩) i = a i + addend m c n i := by
  have e : ∀ p q : Fin 1024, k0_pay2 a (iblk m c 0 ⟨n, h⟩) (iblk m c 1 ⟨n, h⟩) (ix2 p q) = a (ix2 p q) + addend m c n (ix2 p q) := by
    intro p q
    rw [step_at]
    congr 1
    exact Finset.sum_congr rfl fun y _ => by rw [block_x, block_ct]; rfl
  rw [eq_ix2 i]
  exact e _ _

/-- A run of eight points leaves the sum of their blocks' products. -/
theorem fold_at (b : Nat) (h : b + 7 < cfg0.N) (q : S1024x1024.Idx) :
    Pipeline.accAt (reset2 m c) (step2 m c) b 7 h q = ∑ s ∈ Finset.range 8, addend m c (b + s) q := by
  refine (Pipeline.accAt_add_apply (ι := S1024x1024.Idx) (β := EReal) (reset2 m c) (step2 m c) (fun _ => 0) (addend m c) b 7
    (fun h q => (step_add m c _ h (k0_pay1 (F := Ideal)) q).trans ?_) (fun n h acc q _ _ => step_add m c n h acc q) 7 le_rfl h q).trans (zero_add _)
  congr 1
  rw [eq_ix2 q]
  pointwise [k0_pay1]

/-- The array after the run. -/
theorem final_at (i : Fin 1024) (j : Fin 1024) : G2 m c (ix2 i j) = ∑ t : Fin 16384, x m c t i * ct m c t j := by
  have hN : cfg0.N = 8 := N_0
  have hr : run2Of (ix2 i j) = j.val / 1024 := by
    show 1 * (i.val / 1024 - 0) + 1 * (j.val / 1024 - 0) = j.val / 1024
    omega
  have hb : 8 * run2Of (ix2 i j) + 7 < cfg0.N := by omega
  unfold G2
  rw [dif_pos hb]
  refine (fold_at m c _ hb _).trans ((Finset.sum_congr rfl fun s hs => Finset.sum_congr rfl fun y _ => ?_).trans
    (sum_rows (fun t => x m c t i * ct m c t j) (run2Of (ix2 i j))))
  have hs8 : s < 8 := Finset.mem_range.mp hs
  have hi : loc2Of (ix2 i j) 0 = i := by apply Fin.ext; show i.val % 1024 = i.val; omega
  have hj : colAt (8 * run2Of (ix2 i j) + s) (loc2Of (ix2 i j) 1) = j := by
    rw [hr]
    apply Fin.ext
    show j.val % 1024 = j.val
    omega
  show x m c _ (loc2Of (ix2 i j) 0) * ct m c _ (colAt _ (loc2Of (ix2 i j) 1)) = _
  rw [hi, hj]

end Value

theorem result (u : FVec Ideal Cert.DwReferenceIdeal.S16384x1024 .f32) (v : FVec Ideal Cert.DwReferenceIdeal.S16384x1024 .f32)
    (i : Fin 1024) (j : Fin 1024) :
    transpose Cert.DwReferenceIdeal.S1024x1024 [1, 0] (Host.dotGeneral Cert.DwReferenceIdeal.dot_S16384x1024_S16384x1024_S1024x1024_0_0_1_1_n_n none v u) Cert.DwReferenceIdeal.Gen.transposes_S1024x1024_S1024x1024_1_0 (ix2 i j)
      = ∑ t : Fin 16384, u (ix2 t i) * v (ix2 t j) := by
  pointwise
  exact Finset.sum_congr rfl fun t _ => mul_comm _ _

theorem frame_pi : Cert.quiescent_DwIdeal := fun m ρ _ => Cert.DwIdeal.Gen.frame m ρ

theorem frame_p : Cert.quiescent_Dw := by
  have same : (∀ (m : (ℓ : Loc Cert.DwIdeal.nD Cert.DwIdeal.τ Cert.DwIdeal.sig) → Buf (Elt Bits) ℓ) (ρ : Dev Cert.DwIdeal.nD → PrngReg), True →
      θ_run (Cert.DwIdeal.defs (F := Bits)) (onTc (τ := Cert.DwIdeal.τ) (Cert.DwIdeal.main (F := Bits))) ⟨m, fun _ => 0, ρ⟩
      (fun r => (∀ c : Dev Cert.DwIdeal.nD,
        r.2.mem ((c.tc : Thread Cert.DwIdeal.nD Cert.DwIdeal.τ).loc Cert.DwIdeal.main_arg0) = m ((c.tc : Thread Cert.DwIdeal.nD Cert.DwIdeal.τ).loc Cert.DwIdeal.main_arg0)
        ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
        ∧ r.2.sem = fun _ => 0)) = Cert.quiescent_Dw := by sl_kernel_rfl
  exact same ▸ fun m ρ _ => Cert.DwIdeal.Gen.frame m ρ

theorem frame_ri : Cert.quiescent_DwReferenceIdeal := fun m ρ _ =>
  (θ_run Cert.DwReferenceIdeal.defs _ _).mono (fun r h => ⟨fun c => (h c).2, sem_eq_zero_of_no_sems (by decide) r.2⟩)
    (Cert.DwReferenceIdeal.Value.run (F := Ideal) m ρ)

theorem algebraic : Cert.algebraic_DwIdeal_DwReferenceIdeal := by
  intro m ρ m' ρ' _ hagree
  refine ⟨fun c => Cert.DwIdeal.Value.G2 m c, Cert.DwIdeal.Value.run m ρ, ?_⟩
  refine (θ_run Cert.DwReferenceIdeal.defs _ _).mono (fun _ h c => ⟨(h c).1.trans ?_, (h c).2⟩)
    (Cert.DwReferenceIdeal.Value.run (F := Ideal) m' ρ')
  obtain ⟨h0, h1⟩ := hagree c
  rw [h0, h1]
  have e := fun i j => (result (m ((c.tc : Thread Cert.DwIdeal.nD Cert.DwIdeal.τ).loc Cert.DwIdeal.main_arg0))
    (m ((c.tc : Thread Cert.DwIdeal.nD Cert.DwIdeal.τ).loc Cert.DwIdeal.main_arg1)) i j).trans (final_at m c i j).symm
  funext y
  rw [eq_ix2 y]
  exact e _ _

end Cert.Proof.Dw

end
-- ==== Proof.Product.DwPair.lean ====
module

public import proofs.«01_k».proof.Defs
public import proofs.«01_k».proof.Proof.Product.Math
public import proofs.«01_k».proof.Proof.Gen.DwPairIdeal
public import proofs.«01_k».proof.Proof.Gen.DwPairIdeal.Frame
public import proofs.«01_k».proof.Proof.Gen.DwPairIdeal.Value
public import proofs.«01_k».proof.Proof.Gen.DwPairReferenceIdeal
public import proofs.«01_k».proof.Proof.Gen.DwPairReferenceIdeal.Run
public import proofs.«01_k».proof.Proof.Gen.DwPair
public import Idealize.ShloMosaic.Lib.StableHlo.ReadAt
public import Idealize.ShloMosaic.Lib.Pipeline.ValueKit

@[expose] public section

set_option maxRecDepth 16384

noncomputable section

/-! The gradient of a key's and a value's weight, `xᵀ · ct`, its sum over the tokens taken in eight steps. -/

namespace Cert.Proof.DwPair

open Cert.Product
open Idealize.ShloMosaic Idealize.ShloMosaic.TcCoe Idealize.SL.Sem

section Value

open Cert.DwPairIdeal Cert.DwPairIdeal.Gen Cert.DwPairIdeal.Value

variable (m : (ℓ : Loc nD τ sig) → Buf (Elt Ideal) ℓ) (c : Dev nD)

abbrev x (t : Fin 16384) (i : Fin 1024) : EReal := m (c, Proc.tc.devRef main_arg0) (ix2 t i)
abbrev ct (t : Fin 16384) (j : Fin 2048) : EReal := m (c, Proc.tc.devRef main_arg1) (ix2 t j)

/-- A step adds its block's product. -/
theorem step_at (a : FVec Ideal S1024x1024 .f32) (u v : FVec Ideal S2048x1024 .bf16) (i j : Fin 1024) :
    k0_pay2 a u v (ix2 i j) = a (ix2 i j) + ∑ y : Fin 2048, u (ix2 y i) * v (ix2 y j) := by
  pointwise [k0_pay2]

theorem index_at : ∀ t : Fin cfg0.N, (win0_0.index t 0 = t.val % 8 ∧ win0_0.index t 1 = 0)
    ∧ win0_1.index t 0 = t.val % 8 ∧ win0_1.index t 1 = t.val / 8 :=
  (by decide +kernel : ∀ t : Fin grid0.N, _)

theorem block_x (n : Nat) (h : n < cfg0.N) (y : Fin 2048) (i : Fin 1024) :
    iblk m c 0 ⟨n, h⟩ (ix2 y i) = x m c (rowAt n y) i := by
  have hx : ∀ (X : FVec Ideal S16384x1024 .bf16), V m c main_v0 = X → X (ix2 (rowAt n y) i) = x m c (rowAt n y) i := by
    rintro X rfl
    unfold V
    simp only [hostOps0]
    after_reads_at
  rw [← hx _ rfl]
  have e0 : win0_0.index ⟨n, h⟩ 0 = n % 8 := (index_at ⟨n, h⟩).1.1
  have e1 : win0_0.index ⟨n, h⟩ 1 = 0 := (index_at ⟨n, h⟩).1.2
  blk_ext [iblk, rowAt, e0, e1]

/-- The column of the array that column `j` of the block at point `n` is. -/
def colAt (n : Nat) (j : Fin 1024) : Fin 2048 := ⟨n / 8 % 2 * 1024 + j.val, by have := j.isLt; omega⟩

theorem block_ct (n : Nat) (h : n < cfg0.N) (y : Fin 2048) (j : Fin 1024) :
    iblk m c 1 ⟨n, h⟩ (ix2 y j) = ct m c (rowAt n y) (colAt n j) := by
  have hx : ∀ (X : FVec Ideal S16384x2048 .bf16), V m c main_v1 = X → X (ix2 (rowAt n y) (colAt n j)) = ct m c (rowAt n y) (colAt n j) := by
    rintro X rfl
    unfold V
    simp only [hostOps0]
    after_reads_at
  rw [← hx _ rfl]
  have e0 : win0_1.index ⟨n, h⟩ 0 = n % 8 := (index_at ⟨n, h⟩).2.1
  have e1 : win0_1.index ⟨n, h⟩ 1 = n / 8 := (index_at ⟨n, h⟩).2.2
  have hN : cfg0.N = 16 := N_0
  blk_ext [iblk, rowAt, colAt, e0, e1]
  all_goals omega

/-- What the block at point `n` adds to the sum. -/
def addend (n : Nat) (i : S1024x1024.Idx) : EReal := ∑ y : Fin 2048, x m c (rowAt n y) (i 0) * ct m c (rowAt n y) (colAt n (i 1))

theorem step_add (n : Nat) (h : n < cfg0.N) (a : FVec Ideal S1024x1024 .f32) (i : S1024x1024.Idx) :
    k0_pay2 a (iblk m c 0 ⟨n, h⟩) (iblk m c 1 ⟨n, h⟩) i = a i + addend m c n i := by
  have e : ∀ p q : Fin 1024, k0_pay2 a (iblk m c 0 ⟨n, h⟩) (iblk m c 1 ⟨n, h⟩) (ix2 p q) = a (ix2 p q) + addend m c n (ix2 p q) := by
    intro p q
    rw [step_at]
    congr 1
    exact Finset.sum_congr rfl fun y _ => by rw [block_x, block_ct]; rfl
  rw [eq_ix2 i]
  exact e _ _

/-- A run of eight points leaves the sum of their blocks' products. -/
theorem fold_at (b : Nat) (h : b + 7 < cfg0.N) (q : S1024x1024.Idx) :
    Pipeline.accAt (reset2 m c) (step2 m c) b 7 h q = ∑ s ∈ Finset.range 8, addend m c (b + s) q := by
  refine (Pipeline.accAt_add_apply (ι := S1024x1024.Idx) (β := EReal) (reset2 m c) (step2 m c) (fun _ => 0) (addend m c) b 7
    (fun h q => (step_add m c _ h (k0_pay1 (F := Ideal)) q).trans ?_) (fun n h acc q _ _ => step_add m c n h acc q) 7 le_rfl h q).trans (zero_add _)
  congr 1
  rw [eq_ix2 q]
  pointwise [k0_pay1]

/-- The array after the run. -/
theorem final_at (i : Fin 1024) (j : Fin 2048) : G2 m c (ix2 i j) = ∑ t : Fin 16384, x m c t i * ct m c t j := by
  have hN : cfg0.N = 16 := N_0
  have hr : run2Of (ix2 i j) = j.val / 1024 := by
    show 2 * (i.val / 1024 - 0) + 1 * (j.val / 1024 - 0) = j.val / 1024
    omega
  have hb : 8 * run2Of (ix2 i j) + 7 < cfg0.N := by omega
  unfold G2
  rw [dif_pos hb]
  refine (fold_at m c _ hb _).trans ((Finset.sum_congr rfl fun s hs => Finset.sum_congr rfl fun y _ => ?_).trans
    (sum_rows (fun t => x m c t i * ct m c t j) (run2Of (ix2 i j))))
  have hs8 : s < 8 := Finset.mem_range.mp hs
  have hi : loc2Of (ix2 i j) 0 = i := by apply Fin.ext; show i.val % 1024 = i.val; omega
  have hj : colAt (8 * run2Of (ix2 i j) + s) (loc2Of (ix2 i j) 1) = j := by
    rw [hr]
    apply Fin.ext
    show (8 * (j.val / 1024) + s) / 8 % 2 * 1024 + j.val % 1024 = j.val
    omega
  show x m c _ (loc2Of (ix2 i j) 0) * ct m c _ (colAt _ (loc2Of (ix2 i j) 1)) = _
  rw [hi, hj]

end Value

theorem result (u : FVec Ideal Cert.DwPairReferenceIdeal.S16384x1024 .f32) (v : FVec Ideal Cert.DwPairReferenceIdeal.S16384x2048 .f32)
    (i : Fin 1024) (j : Fin 2048) :
    transpose Cert.DwPairReferenceIdeal.S1024x2048 [1, 0] (Host.dotGeneral Cert.DwPairReferenceIdeal.dot_S16384x2048_S16384x1024_S2048x1024_0_0_1_1_n_n none v u) Cert.DwPairReferenceIdeal.Gen.transposes_S2048x1024_S1024x2048_1_0 (ix2 i j)
      = ∑ t : Fin 16384, u (ix2 t i) * v (ix2 t j) := by
  pointwise
  exact Finset.sum_congr rfl fun t _ => mul_comm _ _

theorem frame_pi : Cert.quiescent_DwPairIdeal := fun m ρ _ => Cert.DwPairIdeal.Gen.frame m ρ

theorem frame_p : Cert.quiescent_DwPair := by
  have same : (∀ (m : (ℓ : Loc Cert.DwPairIdeal.nD Cert.DwPairIdeal.τ Cert.DwPairIdeal.sig) → Buf (Elt Bits) ℓ) (ρ : Dev Cert.DwPairIdeal.nD → PrngReg), True →
      θ_run (Cert.DwPairIdeal.defs (F := Bits)) (onTc (τ := Cert.DwPairIdeal.τ) (Cert.DwPairIdeal.main (F := Bits))) ⟨m, fun _ => 0, ρ⟩
      (fun r => (∀ c : Dev Cert.DwPairIdeal.nD,
        r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
        ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1))
        ∧ r.2.sem = fun _ => 0)) = Cert.quiescent_DwPair := by sl_kernel_rfl
  exact same ▸ fun m ρ _ => Cert.DwPairIdeal.Gen.frame m ρ

theorem frame_ri : Cert.quiescent_DwPairReferenceIdeal := fun m ρ _ =>
  (θ_run Cert.DwPairReferenceIdeal.defs _ _).mono (fun r h => ⟨fun c => (h c).2, sem_eq_zero_of_no_sems (by decide) r.2⟩)
    (Cert.DwPairReferenceIdeal.Value.run (F := Ideal) m ρ)

theorem algebraic : Cert.algebraic_DwPairIdeal_DwPairReferenceIdeal := by
  intro m ρ m' ρ' _ hagree
  refine ⟨fun c => Cert.DwPairIdeal.Value.G2 m c, Cert.DwPairIdeal.Value.run m ρ, ?_⟩
  refine (θ_run Cert.DwPairReferenceIdeal.defs _ _).mono (fun _ h c => ⟨(h c).1.trans ?_, (h c).2⟩)
    (Cert.DwPairReferenceIdeal.Value.run (F := Ideal) m' ρ')
  obtain ⟨h0, h1⟩ := hagree c
  rw [h0, h1]
  have e := fun i j => (result (m ((c.tc : Thread Cert.DwPairIdeal.nD Cert.DwPairIdeal.τ).loc Cert.DwPairIdeal.main_arg0))
    (m ((c.tc : Thread Cert.DwPairIdeal.nD Cert.DwPairIdeal.τ).loc Cert.DwPairIdeal.main_arg1)) i j).trans (final_at m c i j).symm
  funext y
  rw [eq_ix2 y]
  exact e _ _

end Cert.Proof.DwPair

end
-- ==== Proof.Product.Qkv.lean ====
module

public import proofs.«01_k».proof.Defs
public import proofs.«01_k».proof.Proof.Gen.QkvIdeal
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.Gen.Qkv
public import Idealize.ShloMosaic.Lib.StableHlo.ReadAt
public import Idealize.ShloMosaic.Lib.Pipeline.ValueKit

@[expose] public section

set_option maxRecDepth 16384

noncomputable section

/-! The products with a query's, a key's and a value's weight side by side, a tile of 2048 tokens at a time. -/

namespace Cert.Proof.Qkv

open Idealize.ShloMosaic Idealize.ShloMosaic.TcCoe Idealize.SL.Sem

section Value

open Cert.QkvIdeal Cert.QkvIdeal.Gen Cert.QkvIdeal.Value

variable (m : (ℓ : Loc nD τ sig) → Buf (Elt Ideal) ℓ) (c : Dev nD)

abbrev x (t : Fin 16384) (k : Fin 1024) : EReal := m (c, Proc.tc.devRef main_arg0) (ix2 t k)

/-- The three weights, the query's first. -/
def w : Fin 3 → Fin 1024 → Fin 1024 → EReal
  | 0, k, j => m (c, Proc.tc.devRef main_arg1) (ix2 k j)
  | 1, k, j => m (c, Proc.tc.devRef main_arg2) (ix2 k j)
  | 2, k, j => m (c, Proc.tc.devRef main_arg3) (ix2 k j)

/-- The factor on a third of the columns: the query's carry the scale. -/
def scale (p : Nat) : EReal := if p = 0 then Ideal.ofBits .f32 0x3E000000#32 else 1

/-- The column of the three weights side by side that column `j` of weight `p` is. -/
def colOf (p : Fin 3) (j : Fin 1024) : Fin 3072 := ⟨p.val * 1024 + j.val, by omega⟩

/-- The product with the three weights side by side. -/
def product : S16384x3072.Idx → EReal := fun i =>
  (∑ k : Fin 1024, x m c (i 0) k * w m c ⟨(i 1).val / 1024, by have : (i 1).val < 3072 := (i 1).isLt; omega⟩ k ⟨(i 1).val % 1024, Nat.mod_lt _ (by decide)⟩)
    * scale ((i 1).val / 1024)

theorem product_at (R : Fin 16384) (p : Fin 3) (j : Fin 1024) :
    product m c (ix2 R (colOf p j)) = (∑ k : Fin 1024, x m c R k * w m c p k j) * scale p.val := by
  have hp : (p.val * 1024 + j.val) / 1024 = p.val := by omega
  have hj : (p.val * 1024 + j.val) % 1024 = j.val := by omega
  show (∑ k : Fin 1024, x m c R k * w m c ⟨(p.val * 1024 + j.val) / 1024, _⟩ k ⟨(p.val * 1024 + j.val) % 1024, _⟩) * scale ((p.val * 1024 + j.val) / 1024) = _
  simp only [hp, hj]

theorem hz : (![0, 0] : Fin 2 → Nat) = fun _ => 0 := by funext a; fin_cases a <;> rfl

theorem tile_at (g : grid0.Coords) (u : FVec Ideal S2048x1024 .bf16) (v : FVec Ideal S1024x1024 .bf16) (i : Fin 2048) (j : Fin 1024) :
    out0_2 (F := Ideal) g u v (ix2 i j) = (∑ k : Fin 1024, u (ix2 i k) * v (ix2 k j)) * scale (g 1).val := by
  unfold out0_2 r0_0 r0_1
  rw [View.canon_unit_zero (S := S2048x1024) hz, View.ld_unit_zero (S := S2048x1024) hz, View.ld_unit_zero (S := S1024x1024) hz]
  have hg : (g 1).val < 3 := (g 1).isLt
  pointwise [k0_pay1, scale]
  generalize (g 1).val = n at hg ⊢
  interval_cases n <;> rfl

theorem index_at : ∀ t : Fin cfg0.N, win0_0.index t = ![t.val / 3, 0] ∧ win0_1.index t = ![0, t.val % 3] ∧ win0_2.index t = ![t.val / 3, t.val % 3]
    ∧ (grid0.coords t 1).val = t.val % 3 :=
  (by decide +kernel : ∀ t : Fin grid0.N, _)

variable (t : Fin cfg0.N)

def rowOf (i : Fin 2048) : Fin 16384 := ⟨t.val / 3 * 2048 + i.val, by have : cfg0.N = 24 := N_0; omega⟩
def third : Fin 3 := ⟨t.val % 3, Nat.mod_lt _ (by decide)⟩

theorem block_x (i : Fin 2048) (k : Fin 1024) : iblk m c 0 t (ix2 i k) = x m c (rowOf t i) k := by
  have hx : ∀ (X : FVec Ideal S16384x1024 .bf16), V m c main_v2 = X → X (ix2 (rowOf t i) k) = x m c (rowOf t i) k := by
    rintro X rfl
    unfold V
    simp only [hostOps0]
    after_reads_at
  rw [← hx _ rfl]
  have e := (index_at t).1
  blk_ext [iblk, rowOf, e]

theorem weights_at (p : Fin 3) (k j : Fin 1024) (X : FVec Ideal S1024x3072 .bf16) (hX : V m c main_v1 = X) :
    X (ix2 k (colOf p j)) = w m c p k j := by
  rw [← hX]
  unfold V
  simp only [hostOps0]
  after_reads_at
  fin_cases p
  · refine (dif_pos (show 0 * 1024 + j.val < 1024 by omega)).trans ?_
    exact congrArg (fun z => m (c, Proc.tc.devRef main_arg1) (ix2 k z)) (Fin.ext (show 0 * 1024 + j.val = j.val by omega))
  · refine (dif_neg (show ¬ 1 * 1024 + j.val < 1024 by omega)).trans ((dif_pos (show 1 * 1024 + j.val - 1024 < 1024 by omega)).trans ?_)
    exact congrArg (fun z => m (c, Proc.tc.devRef main_arg2) (ix2 k z)) (Fin.ext (show 1 * 1024 + j.val - 1024 = j.val by omega))
  · refine (dif_neg (show ¬ 2 * 1024 + j.val < 1024 by omega)).trans ((dif_neg (show ¬ 2 * 1024 + j.val - 1024 < 1024 by omega)).trans ?_)
    exact congrArg (fun z => m (c, Proc.tc.devRef main_arg3) (ix2 k z)) (Fin.ext (show 2 * 1024 + j.val - 1024 - 1024 = j.val by omega))

theorem block_w (k j : Fin 1024) : iblk m c 1 t (ix2 k j) = w m c (third t) k j := by
  rw [← weights_at m c _ _ _ _ rfl]
  have e := (index_at t).2.1
  blk_ext [iblk, third, colOf, e]

theorem final : (dats m 0 c).arrAt 2 cfg0.N = product m c := by
  refine (dats m 0 c).arrAt_eq_of_covers 2 _ (by decide +kernel) fun t hf y => ?_
  blk_simp
  rw [after0_2]
  revert y
  suffices h : ∀ (i : Fin 2048) (j : Fin 1024), out0_2 (grid0.coords t) (iblk m c 0 t) (iblk m c 1 t) (ix2 i j) = product m c ((win0_2.blk t).view.emb (ix2 i j)) from
    fun y => by rw [eq_ix2 (y : S2048x1024.Idx)]; exact h _ _
  intro i j
  have e : (win0_2.blk t).view.emb (ix2 i j) = ix2 (rowOf t i) (colOf (third t) j) := by
    have := (index_at t).2.2.1
    blk_ext [this, rowOf, colOf, third]
  rw [e, tile_at, product_at, (index_at t).2.2.2]
  congr 1
  exact Finset.sum_congr rfl fun k _ => by rw [block_x, block_w]

end Value

section Reference

open Cert.QkvReferenceIdeal Cert.QkvReferenceIdeal.Gen

variable (u : FVec Ideal S16384x1024 .f32) (q k v : FVec Ideal S1024x1024 .f32)

/-- What the reference computes. -/
def whole : FVec Ideal S16384x3072 .bf16 :=
  truncf .bf16 (concatenate S16384x3072 1
    [⟨S16384x1024, mulf (Host.dotGeneral dot_S16384x1024_S1024x1024_S16384x1024_1_0_0_1_n_n none u q)
        (broadcastInDim S16384x1024 ![] bcast_S_S16384x1024 (constant S_ .f32 0x3E000000#32))⟩,
      ⟨S16384x1024, Host.dotGeneral dot_S16384x1024_S1024x1024_S16384x1024_1_0_0_1_n_n none u k⟩,
      ⟨S16384x1024, Host.dotGeneral dot_S16384x1024_S1024x1024_S16384x1024_1_0_0_1_n_n none u v⟩]
    concatenates_S16384x1024_S16384x1024_S16384x1024_S16384x3072_d1) bitsLt_bf16_f32

variable (R : Fin 16384) (j : Fin 1024)

theorem whole_q : whole u q k v (ix2 R ⟨0 * 1024 + j.val, by omega⟩) = (∑ l : Fin 1024, u (ix2 R l) * q (ix2 l j)) * Ideal.ofBits .f32 0x3E000000#32 := by
  pointwise [whole]

theorem whole_k : whole u q k v (ix2 R ⟨1 * 1024 + j.val, by omega⟩) = ∑ l : Fin 1024, u (ix2 R l) * k (ix2 l j) := by
  pointwise [whole]

theorem whole_v : whole u q k v (ix2 R ⟨2 * 1024 + j.val, by omega⟩) = ∑ l : Fin 1024, u (ix2 R l) * v (ix2 l j) := by
  pointwise [whole]
  rw [dif_neg (by omega), dif_neg (by omega)]
  have e : (⟨2048 + j.val - 1024 - 1024, by omega⟩ : Fin 1024) = j := Fin.ext (by show 2048 + j.val - 1024 - 1024 = j.val; omega)
  rw [e]

end Reference

theorem whole_eq (m : (ℓ : Loc Cert.QkvIdeal.nD Cert.QkvIdeal.τ Cert.QkvIdeal.sig) → Buf (Elt Ideal) ℓ) (c : Dev Cert.QkvIdeal.nD) :
    whole (m (c, Proc.tc.devRef Cert.QkvIdeal.main_arg0)) (m (c, Proc.tc.devRef Cert.QkvIdeal.main_arg1))
      (m (c, Proc.tc.devRef Cert.QkvIdeal.main_arg2)) (m (c, Proc.tc.devRef Cert.QkvIdeal.main_arg3)) = product m c := by
  have h : ∀ (R : Fin 16384) (p : Fin 3) (j : Fin 1024),
      whole (m (c, Proc.tc.devRef Cert.QkvIdeal.main_arg0)) (m (c, Proc.tc.devRef Cert.QkvIdeal.main_arg1))
        (m (c, Proc.tc.devRef Cert.QkvIdeal.main_arg2)) (m (c, Proc.tc.devRef Cert.QkvIdeal.main_arg3)) (ix2 R (colOf p j))
        = product m c (ix2 R (colOf p j)) := by
    intro R p j
    rw [product_at]
    fin_cases p
    · exact whole_q _ _ _ _ R j
    · exact (whole_k _ _ _ _ R j).trans (mul_one _).symm
    · exact (whole_v _ _ _ _ R j).trans (mul_one _).symm
  have h' : ∀ (R : Fin 16384) (y : Fin 3072),
      whole (m (c, Proc.tc.devRef Cert.QkvIdeal.main_arg0)) (m (c, Proc.tc.devRef Cert.QkvIdeal.main_arg1))
        (m (c, Proc.tc.devRef Cert.QkvIdeal.main_arg2)) (m (c, Proc.tc.devRef Cert.QkvIdeal.main_arg3)) (ix2 R y) = product m c (ix2 R y) := by
    intro R y
    obtain ⟨p, j, rfl⟩ : ∃ p j, y = colOf p j :=
      ⟨⟨y.val / 1024, by omega⟩, ⟨y.val % 1024, by omega⟩, Fin.ext (by show y.val = y.val / 1024 * 1024 + y.val % 1024; omega)⟩
    exact h R p j
  funext y
  rw [eq_ix2 y]
  exact h' _ _

theorem frame_pi : Cert.quiescent_QkvIdeal := fun m ρ _ => Cert.QkvIdeal.Gen.frame m ρ

theorem frame_p : Cert.quiescent_Qkv := by
  have same : (∀ (m : (ℓ : Loc Cert.QkvIdeal.nD Cert.QkvIdeal.τ Cert.QkvIdeal.sig) → Buf (Elt Bits) ℓ) (ρ : Dev Cert.QkvIdeal.nD → PrngReg), True →
      θ_run (Cert.QkvIdeal.defs (F := Bits)) (onTc (τ := Cert.QkvIdeal.τ) (Cert.QkvIdeal.main (F := Bits))) ⟨m, fun _ => 0, ρ⟩
      (fun r => (∀ c : Dev Cert.QkvIdeal.nD,
        r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
        ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
        ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
        ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
        ∧ r.2.sem = fun _ => 0)) = Cert.quiescent_Qkv := by sl_kernel_rfl
  exact same ▸ fun m ρ _ => Cert.QkvIdeal.Gen.frame m ρ

theorem frame_ri : Cert.quiescent_QkvReferenceIdeal := fun m ρ _ =>
  (θ_run Cert.QkvReferenceIdeal.defs _ _).mono (fun r h => ⟨fun c => (h c).2, sem_eq_zero_of_no_sems (by decide) r.2⟩)
    (Cert.QkvReferenceIdeal.Value.run (F := Ideal) m ρ)

theorem algebraic : Cert.algebraic_QkvIdeal_QkvReferenceIdeal := by
  intro m ρ m' ρ' _ hagree
  refine ⟨fun c => product m c, (θ_run Cert.QkvIdeal.defs _ _).mono (fun _ h c => ⟨(h c).1.trans (final m c), (h c).2⟩)
    (Cert.QkvIdeal.Value.run_blocks m ρ), ?_⟩
  refine (θ_run Cert.QkvReferenceIdeal.defs _ _).mono (fun _ h c => ⟨(h c).1.trans ?_, (h c).2⟩)
    (Cert.QkvReferenceIdeal.Value.run (F := Ideal) m' ρ')
  obtain ⟨h0, h1, h2, h3⟩ := hagree c
  rw [h0, h1, h2, h3]
  exact whole_eq m c

end Cert.Proof.Qkv

end
-- ==== Proof.Product.Gate.lean ====
module

public import proofs.«01_k».proof.Defs
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.Gate
public import Idealize.ShloMosaic.Lib.StableHlo.ReadAt
public import Idealize.ShloMosaic.Lib.Pipeline.ValueKit

@[expose] public section

set_option maxRecDepth 16384

noncomputable section

/-! A product with a weight, `x · w`, 2048 tokens at a time. -/

namespace Cert.Proof.Gate

open Idealize.ShloMosaic Idealize.ShloMosaic.TcCoe Idealize.SL.Sem

section Value

open Cert.GateIdeal Cert.GateIdeal.Gen Cert.GateIdeal.Value

variable (m : (ℓ : Loc nD τ sig) → Buf (Elt Ideal) ℓ) (c : Dev nD)

abbrev x (t : Fin 16384) (k : Fin 1024) : EReal := m (c, Proc.tc.devRef main_arg0) (ix2 t k)
abbrev w (k : Fin 1024) (j : Fin 1024) : EReal := m (c, Proc.tc.devRef main_arg1) (ix2 k j)

/-- The product. -/
def product : S16384x1024.Idx → EReal := fun i => ∑ k : Fin 1024, x m c (i 0) k * w m c k (i 1)

theorem hz : (![0, 0] : Fin 2 → Nat) = fun _ => 0 := by funext a; fin_cases a <;> rfl

theorem tile_at (u : FVec Ideal S2048x1024 .bf16) (v : FVec Ideal S1024x1024 .bf16) (i : Fin 2048) (j : Fin 1024) :
    out0_2 (F := Ideal) u v (ix2 i j) = ∑ k : Fin 1024, u (ix2 i k) * v (ix2 k j) := by
  unfold out0_2 r0_0 r0_1
  rw [View.canon_unit_zero (S := S2048x1024) hz, View.ld_unit_zero (S := S2048x1024) hz, View.ld_unit_zero (S := S1024x1024) hz]
  pointwise [k0_pay1]

theorem index_at : ∀ t : Fin cfg0.N, win0_0.index t = ![t.val, 0] ∧ win0_1.index t = ![0, 0] ∧ win0_2.index t = ![t.val, 0] :=
  (by decide +kernel : ∀ t : Fin grid0.N, _)

variable (t : Fin cfg0.N)

def rowOf (i : Fin 2048) : Fin 16384 := ⟨t.val * 2048 + i.val, by have : cfg0.N = 8 := N_0; omega⟩

theorem block_x (i : Fin 2048) (k : Fin 1024) : iblk m c 0 t (ix2 i k) = x m c (rowOf t i) k := by
  have hx : ∀ (X : FVec Ideal S16384x1024 .bf16), V m c main_v0 = X → X (ix2 (rowOf t i) k) = x m c (rowOf t i) k := by
    rintro X rfl
    unfold V
    simp only [hostOps0]
    after_reads_at
  rw [← hx _ rfl]
  have e := (index_at t).1
  blk_ext [iblk, rowOf, e]

theorem block_w (k j : Fin 1024) : iblk m c 1 t (ix2 k j) = w m c k j := by
  have hx : ∀ (X : FVec Ideal S1024x1024 .bf16), V m c main_v1 = X → X (ix2 k j) = w m c k j := by
    rintro X rfl
    unfold V
    simp only [hostOps0]
    after_reads_at
  rw [← hx _ rfl]
  have e := (index_at t).2.1
  blk_ext [iblk, e]

theorem final : (dats m 0 c).arrAt 2 cfg0.N = product m c := by
  refine (dats m 0 c).arrAt_eq_of_covers 2 _ (by decide +kernel) fun t hf y => ?_
  blk_simp
  rw [after0_2]
  revert y
  suffices h : ∀ (i : Fin 2048) (j : Fin 1024), out0_2 (iblk m c 0 t) (iblk m c 1 t) (ix2 i j) = product m c ((win0_2.blk t).view.emb (ix2 i j)) from
    fun y => by rw [eq_ix2 (y : S2048x1024.Idx)]; exact h _ _
  intro i j
  have e : (win0_2.blk t).view.emb (ix2 i j) = ix2 (rowOf t i) j := by
    have := (index_at t).2.2
    blk_ext [this, rowOf]
  rw [e, tile_at]
  exact Finset.sum_congr rfl fun k _ => by rw [block_x, block_w]; rfl

end Value

theorem result (u : FVec Ideal Cert.GateReferenceIdeal.S16384x1024 .f32) (v : FVec Ideal Cert.GateReferenceIdeal.S1024x1024 .f32)
    (i : Fin 16384) (j : Fin 1024) :
    Host.dotGeneral Cert.GateReferenceIdeal.dot_S16384x1024_S1024x1024_S16384x1024_1_0_0_1_n_n none u v (ix2 i j)
      = ∑ k : Fin 1024, u (ix2 i k) * v (ix2 k j) := by
  pointwise

theorem frame_pi : Cert.quiescent_GateIdeal := fun m ρ _ => Cert.GateIdeal.Gen.frame m ρ

theorem frame_p : Cert.quiescent_Gate := by
  have same : (∀ (m : (ℓ : Loc Cert.GateIdeal.nD Cert.GateIdeal.τ Cert.GateIdeal.sig) → Buf (Elt Bits) ℓ) (ρ : Dev Cert.GateIdeal.nD → PrngReg), True →
      θ_run (Cert.GateIdeal.defs (F := Bits)) (onTc (τ := Cert.GateIdeal.τ) (Cert.GateIdeal.main (F := Bits))) ⟨m, fun _ => 0, ρ⟩
      (fun r => (∀ c : Dev Cert.GateIdeal.nD,
        r.2.mem ((c.tc : Thread Cert.GateIdeal.nD Cert.GateIdeal.τ).loc Cert.GateIdeal.main_arg0) = m ((c.tc : Thread Cert.GateIdeal.nD Cert.GateIdeal.τ).loc Cert.GateIdeal.main_arg0)
        ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
        ∧ r.2.sem = fun _ => 0)) = Cert.quiescent_Gate := by sl_kernel_rfl
  exact same ▸ fun m ρ _ => Cert.GateIdeal.Gen.frame m ρ

theorem frame_ri : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Value.run (F := Ideal) m ρ)

theorem algebraic : Cert.algebraic_GateIdeal_GateReferenceIdeal := by
  intro m ρ m' ρ' _ hagree
  refine ⟨fun c => product m c, (θ_run Cert.GateIdeal.defs _ _).mono (fun _ h c => ⟨(h c).1.trans (final m c), (h c).2⟩)
    (Cert.GateIdeal.Value.run_blocks m ρ), ?_⟩
  refine (θ_run Cert.GateReferenceIdeal.defs _ _).mono (fun _ h c => ⟨(h c).1.trans ?_, (h c).2⟩)
    (Cert.GateReferenceIdeal.Value.run (F := Ideal) m' ρ')
  obtain ⟨h0, h1⟩ := hagree c
  rw [h0, h1]
  have e := fun i j => result (m ((c.tc : Thread Cert.GateIdeal.nD Cert.GateIdeal.τ).loc Cert.GateIdeal.main_arg0))
    (m ((c.tc : Thread Cert.GateIdeal.nD Cert.GateIdeal.τ).loc Cert.GateIdeal.main_arg1)) i j
  funext y
  rw [eq_ix2 y]
  exact e _ _

end Cert.Proof.Gate

end
-- ==== Proof.Stream.Stage.lean ====
module

public import proofs.«01_k».proof.Proof.Gen.StreamIdeal.Frame
public import Idealize.ShloMosaic.Lib.StableHlo.ReadAt
public import Idealize.ShloMosaic.Lib.Pipeline.ValueKit

@[expose] public section

set_option maxRecDepth 16384

noncomputable section

/-! The scratch buffer that the call sums the groups' gradients in: its stores one after the other, and what they leave. -/

namespace Cert.Proof.Stream

open Idealize.ShloMosaic Idealize.ShloMosaic.TcCoe Idealize.SL.Sem
open Cert.StreamIdeal Cert.StreamIdeal.Gen

variable {F : FTy → Type} [FloatOps F]

/-- Chunk `k` of the scratch, 128 columns of every row. -/
def chunk (k : Nat) : Rect S8x256x128 :=
  Rect.unit ![k % 8, 0, 0] S1x256x128.size (fun a => by
    have := Nat.mod_lt k (show 8 > 0 by decide)
    fin_cases a
    · show k % 8 + 1 ≤ 8; omega
    · show 0 + 256 ≤ 256; omega
    · show 0 + 128 ≤ 128; omega)

/-- The rows of residue `k / 8` modulo 4 in chunk `k % 8`. -/
def rows4 (k : Nat) : Rect S8x256x128 where
  off := ![k % 8, k / 8 % 4, 0]
  size := S1x64x128.size
  stride := ![1, 4, 1]
  inb := fun a => by
    have := Nat.mod_lt k (show 8 > 0 by decide)
    have := Nat.mod_lt (k / 8) (show 4 > 0 by decide)
    right
    fin_cases a
    · show k % 8 + 1 * 0 < 8; omega
    · show k / 8 % 4 + 4 * 63 < 256; omega
    · show 0 + 1 * 127 < 128; omega
  stride_pos := spos_1_4_1

/-- The rows of residue `k / 8` modulo 16 in chunk `k % 8`. -/
def rows16 (k : Nat) : Rect S8x256x128 where
  off := ![k % 8, k / 8 % 16, 0]
  size := S1x16x128.size
  stride := ![1, 16, 1]
  inb := fun a => by
    have := Nat.mod_lt k (show 8 > 0 by decide)
    have := Nat.mod_lt (k / 8) (show 16 > 0 by decide)
    right
    fin_cases a
    · show k % 8 + 1 * 0 < 8; omega
    · show k / 8 % 16 + 16 * 15 < 256; omega
    · show 0 + 1 * 127 < 128; omega
  stride_pos := spos_1_16_1

theorem slices (n r c : Nat) (hr : r + n ≤ 256) (hc : c + 128 ≤ 1024) :
    S256x1024.Slices ![r, c] (⟨2, ![n, 128]⟩ : Shape) := by
  refine ⟨rfl, fun a => ?_⟩
  fin_cases a
  · exact hr
  · exact hc

/-- The stores of the first `k` chunks of `base`, last first. -/
def stored (base : FVec F S256x1024 .f32) : Nat → List (View.Piece (Elt F) S8x256x128 .f32)
  | 0 => []
  | k + 1 => ⟨chunk k, shapeCast S1x256x128 (extractStridedSlice S256x128 ![0, k % 8 * 128] base
      (slices 256 0 (k % 8 * 128) (by omega) (by omega))) shapeCasts_S256x128_S1x256x128⟩ :: stored base k

/-- The sum at its place: what stood there plus the rows of `part`, residues modulo 4. -/
def add4 {κ : Kind} {sp : Space} (v : View sig κ sp S8x256x128 .f32) (part : FVec F S256x1024 .f32) (k : Nat)
    (L : List (View.Piece (Elt F) S8x256x128 .f32)) : List (View.Piece (Elt F) S8x256x128 .f32) :=
  ⟨rows4 k, shapeCast S1x64x128 (addf
      (shapeCast S64x128 (v.readCov L (rows4 k).toLoadRect) shapeCasts_S1x64x128_S64x128)
      (extractStridedSlice S64x128 ![k / 8 % 4 * 64, k % 8 * 128] part
        (slices 64 (k / 8 % 4 * 64) (k % 8 * 128) (by omega) (by omega)))) shapeCasts_S64x128_S1x64x128⟩ :: L

/-- The same, residues modulo 16. -/
def add16 {κ : Kind} {sp : Space} (v : View sig κ sp S8x256x128 .f32) (part : FVec F S256x1024 .f32) (k : Nat)
    (L : List (View.Piece (Elt F) S8x256x128 .f32)) : List (View.Piece (Elt F) S8x256x128 .f32) :=
  ⟨rows16 k, shapeCast S1x16x128 (addf
      (shapeCast S16x128 (v.readCov L (rows16 k).toLoadRect) shapeCasts_S1x16x128_S16x128)
      (extractStridedSlice S16x128 ![k / 8 % 16 * 16, k % 8 * 128] part
        (slices 16 (k / 8 % 16 * 16) (k % 8 * 128) (by omega) (by omega)))) shapeCasts_S16x128_S1x16x128⟩ :: L

/-- After the chunks, the first `k` sums of the residues modulo 4 with the rows of `part`. -/
def added4 {κ : Kind} {sp : Space} (v : View sig κ sp S8x256x128 .f32) (base part : FVec F S256x1024 .f32) (k : Nat) :
    List (View.Piece (Elt F) S8x256x128 .f32) :=
  Nat.rec (stored base 8) (fun k L => add4 v part k L) k

/-- And after these, the first `k` sums of the residues modulo 16 with the rows of `part'`. -/
def added16 {κ : Kind} {sp : Space} (v : View sig κ sp S8x256x128 .f32) (base part part' : FVec F S256x1024 .f32) (k : Nat) :
    List (View.Piece (Elt F) S8x256x128 .f32) :=
  Nat.rec (added4 v base part 32) (fun k L => add16 v part' k L) k

/-! ### Where they stand -/

theorem chunk_emb (k : Nat) (cc : Fin 8) (R : Fin 256) (l : Fin 128) (h : cc.val = k % 8) :
    (chunk k).emb (ix3 (0 : Fin 1) R l) = ix3 cc R l := by
  refine funext fun a => Fin.ext ?_
  match a with
  | ⟨0, _⟩ => show k % 8 + 1 * 0 = cc.val; omega
  | ⟨1, _⟩ => show 0 + 1 * R.val = R.val; omega
  | ⟨2, _⟩ => show 0 + 1 * l.val = l.val; omega

theorem chunk_mem {k : Nat} {cc : Fin 8} {R : Fin 256} {l : Fin 128} (h : ix3 cc R l ∈ (chunk k).set) : cc.val = k % 8 := by
  obtain ⟨j, hj, e⟩ := (chunk k).mem_set.mp h 0
  have hj' : j < 1 := hj
  have e' : cc.val = k % 8 + 1 * j := e
  omega

theorem rows4_emb (k : Nat) (cc : Fin 8) (R : Fin 256) (l : Fin 128) (h : cc.val = k % 8) (h' : R.val % 4 = k / 8 % 4) :
    (rows4 k).emb (ix3 (0 : Fin 1) (⟨R.val / 4, by omega⟩ : Fin 64) l) = ix3 cc R l := by
  refine funext fun a => Fin.ext ?_
  match a with
  | ⟨0, _⟩ => show k % 8 + 1 * 0 = cc.val; omega
  | ⟨1, _⟩ => show k / 8 % 4 + 4 * (R.val / 4) = R.val; omega
  | ⟨2, _⟩ => show 0 + 1 * l.val = l.val; omega

theorem rows4_mem {k : Nat} {cc : Fin 8} {R : Fin 256} {l : Fin 128} (h : ix3 cc R l ∈ (rows4 k).set) :
    cc.val = k % 8 ∧ R.val % 4 = k / 8 % 4 := by
  obtain ⟨j, hj, e⟩ := (rows4 k).mem_set.mp h 0
  obtain ⟨j', _, e'⟩ := (rows4 k).mem_set.mp h 1
  have hj : j < 1 := hj
  have e : cc.val = k % 8 + 1 * j := e
  have e' : R.val = k / 8 % 4 + 4 * j' := e'
  omega

theorem rows16_emb (k : Nat) (cc : Fin 8) (R : Fin 256) (l : Fin 128) (h : cc.val = k % 8) (h' : R.val % 16 = k / 8 % 16) :
    (rows16 k).emb (ix3 (0 : Fin 1) (⟨R.val / 16, by omega⟩ : Fin 16) l) = ix3 cc R l := by
  refine funext fun a => Fin.ext ?_
  match a with
  | ⟨0, _⟩ => show k % 8 + 1 * 0 = cc.val; omega
  | ⟨1, _⟩ => show k / 8 % 16 + 16 * (R.val / 16) = R.val; omega
  | ⟨2, _⟩ => show 0 + 1 * l.val = l.val; omega

theorem rows16_mem {k : Nat} {cc : Fin 8} {R : Fin 256} {l : Fin 128} (h : ix3 cc R l ∈ (rows16 k).set) :
    cc.val = k % 8 ∧ R.val % 16 = k / 8 % 16 := by
  obtain ⟨j, hj, e⟩ := (rows16 k).mem_set.mp h 0
  obtain ⟨j', _, e'⟩ := (rows16 k).mem_set.mp h 1
  have hj : j < 1 := hj
  have e : cc.val = k % 8 + 1 * j := e
  have e' : R.val = k / 8 % 16 + 16 * j' := e'
  omega

/-- A matrix seen as one layer of a three-axis array: row and lane stay. -/
theorem layer_apply {α : Type} {n : Nat} (x : (⟨2, ![n, 128]⟩ : Shape).Idx → α)
    (h : (⟨2, ![n, 128]⟩ : Shape).ShapeCasts ⟨3, ![1, n, 128]⟩) (r : Fin n) (l : Fin 128) :
    shapeCast (⟨3, ![1, n, 128]⟩ : Shape) x h (ix3 (0 : Fin 1) r l) = x (ix2 r l) := by
  refine shapeCast_apply x h _ _ ?_
  rw [Shape.rowMajor_val_two, Shape.rowMajor_val_three]
  show r.val * 128 + l.val = (0 * n + r.val) * 128 + l.val
  omega

theorem unlayer_apply {α : Type} {n : Nat} (x : (⟨3, ![1, n, 128]⟩ : Shape).Idx → α)
    (h : (⟨3, ![1, n, 128]⟩ : Shape).ShapeCasts ⟨2, ![n, 128]⟩) (r : Fin n) (l : Fin 128) :
    shapeCast (⟨2, ![n, 128]⟩ : Shape) x h (ix2 r l) = x (ix3 (0 : Fin 1) r l) := by
  refine shapeCast_apply x h _ _ ?_
  rw [Shape.rowMajor_val_two, Shape.rowMajor_val_three]
  show (0 * n + r.val) * 128 + l.val = r.val * 128 + l.val
  omega

theorem slice_apply (base : FVec Ideal S256x1024 .f32) {n r c : Nat} (h : S256x1024.Slices ![r, c] (⟨2, ![n, 128]⟩ : Shape))
    (i : Fin n) (l : Fin 128) (R : Fin 256) (C : Fin 1024) (hR : R.val = r + i.val) (hC : C.val = c + l.val) :
    extractStridedSlice (⟨2, ![n, 128]⟩ : Shape) ![r, c] base h (ix2 i l) = base (ix2 R C) := by
  unfold extractStridedSlice
  refine congrArg base (funext fun a => Fin.ext ?_)
  match a with
  | ⟨0, _⟩ => exact hR.symm
  | ⟨1, _⟩ => exact hC.symm

/-- Column `l` of chunk `cc`. -/
abbrev lane (cc : Fin 8) (l : Fin 128) : Fin 1024 := ⟨cc.val * 128 + l.val, by omega⟩

/-- Row `R` of a tile as its residue modulo 4 sorts it. -/
abbrev sorted4 (R : Fin 256) : Fin 256 := ⟨R.val % 4 * 64 + R.val / 4, by omega⟩

/-- Row `R` of a tile as its residue modulo 16 sorts it. -/
abbrev sorted16 (R : Fin 256) : Fin 256 := ⟨R.val % 16 * 16 + R.val / 16, by omega⟩

theorem canon_stored (base : FVec Ideal S256x1024 .f32) (cc : Fin 8) (R : Fin 256) (l : Fin 128) :
    ∀ k : Nat, k ≤ 8 → cc.val < k → View.canon (stored base k) (ix3 cc R l) = base (ix2 R (lane cc l)) := by
  intro k
  induction k with
  | zero => intro _ h; omega
  | succ k ih =>
    intro hk h
    rw [stored]
    by_cases e : cc.val = k
    · have e' : cc.val = k % 8 := by omega
      refine (congrArg (View.canon _) (chunk_emb k cc R l e').symm).trans
        ((View.canon_cons_emb (chunk k) _ _ _).trans ((layer_apply _ _ R l).trans ?_))
      exact slice_apply base _ R l R (lane cc l) (by omega) (by show cc.val * 128 + l.val = _; rw [e'])
    · rw [View.canon_cons_of_not_mem _ _ (fun hm => e (by have := chunk_mem hm; omega))]
      exact ih (by omega) (by omega)

variable {κ : Kind} {sp : Space} (v : View sig κ sp S8x256x128 .f32) (base part part' : FVec Ideal S256x1024 .f32)

theorem canon_added4 (cc : Fin 8) (R : Fin 256) (l : Fin 128) :
    ∀ k : Nat, k ≤ 32 → View.canon (added4 v base part k) (ix3 cc R l) = (base (ix2 R (lane cc l)) : EReal)
      + (if R.val % 4 * 8 + cc.val < k then (part (ix2 (sorted4 R) (lane cc l)) : EReal) else 0) := by
  intro k
  induction k with
  | zero => intro _; rw [if_neg (by omega), add_zero]; exact canon_stored base cc R l 8 (by omega) cc.isLt
  | succ k ih =>
    intro hk
    have step : added4 v base part (k + 1) = add4 v part k (added4 v base part k) := rfl
    rw [step, add4]
    by_cases e : R.val % 4 * 8 + cc.val = k
    · have e1 : cc.val = k % 8 := by omega
      have e2 : R.val % 4 = k / 8 % 4 := by omega
      rw [if_pos (by omega)]
      refine (congrArg (View.canon _) (rows4_emb k cc R l e1 e2).symm).trans
        ((View.canon_cons_emb (rows4 k) _ _ _).trans ((layer_apply _ _ _ l).trans ?_))
      refine congrArg₂ (fun a b : EReal => a + b) ?_ ?_
      · refine (unlayer_apply _ _ _ l).trans ((congrFun (View.readCov_eq_canon' v _ _) _).trans
          ((congrArg (View.canon _) (rows4_emb k cc R l e1 e2)).trans ?_))
        rw [ih (by omega), if_neg (by omega), add_zero]
      · exact slice_apply part _ _ l (sorted4 R) (lane cc l) (by show R.val % 4 * 64 + R.val / 4 = _; rw [e2])
          (by show cc.val * 128 + l.val = _; rw [e1])
    · rw [View.canon_cons_of_not_mem _ _ (fun hm => e (by have := rows4_mem hm; omega)), ih (by omega)]
      refine congrArg _ (if_congr (by omega) rfl rfl)

theorem canon_added16 (cc : Fin 8) (R : Fin 256) (l : Fin 128) :
    ∀ k : Nat, k ≤ 128 → View.canon (added16 v base part part' k) (ix3 cc R l)
      = ((base (ix2 R (lane cc l)) : EReal) + (part (ix2 (sorted4 R) (lane cc l)) : EReal))
      + (if R.val % 16 * 8 + cc.val < k then (part' (ix2 (sorted16 R) (lane cc l)) : EReal) else 0) := by
  intro k
  induction k with
  | zero =>
    intro _
    rw [if_neg (by omega), add_zero]
    exact (canon_added4 v base part cc R l 32 (by omega)).trans (by rw [if_pos (by omega)])
  | succ k ih =>
    intro hk
    have step : added16 v base part part' (k + 1) = add16 v part' k (added16 v base part part' k) := rfl
    rw [step, add16]
    by_cases e : R.val % 16 * 8 + cc.val = k
    · have e1 : cc.val = k % 8 := by omega
      have e2 : R.val % 16 = k / 8 % 16 := by omega
      rw [if_pos (by omega)]
      refine (congrArg (View.canon _) (rows16_emb k cc R l e1 e2).symm).trans
        ((View.canon_cons_emb (rows16 k) _ _ _).trans ((layer_apply _ _ _ l).trans ?_))
      refine congrArg₂ (fun a b : EReal => a + b) ?_ ?_
      · refine (unlayer_apply _ _ _ l).trans ((congrFun (View.readCov_eq_canon' v _ _) _).trans
          ((congrArg (View.canon _) (rows16_emb k cc R l e1 e2)).trans ?_))
        rw [ih (by omega), if_neg (by omega), add_zero]
      · exact slice_apply part' _ _ l (sorted16 R) (lane cc l) (by show R.val % 16 * 16 + R.val / 16 = _; rw [e2])
          (by show cc.val * 128 + l.val = _; rw [e1])
    · rw [View.canon_cons_of_not_mem _ _ (fun hm => e (by have := rows16_mem hm; omega)), ih (by omega)]
      refine congrArg _ (if_congr (by omega) rfl rfl)

/-- Chunk `cc` read back once every sum is in place. -/
theorem read_chunk (cc : Fin 8) (R : Fin 256) (l : Fin 128) (h : S1x256x128.ShapeCasts S256x128) :
    (shapeCast S256x128 (v.readCov (added16 v base part part' 128) (chunk cc.val).toLoadRect) h (ix2 R l) : EReal)
      = ((base (ix2 R (lane cc l)) : EReal) + (part (ix2 (sorted4 R) (lane cc l)) : EReal))
        + (part' (ix2 (sorted16 R) (lane cc l)) : EReal) := by
  refine (unlayer_apply _ _ R l).trans ((congrFun (View.readCov_eq_canon' v _ _) _).trans
    ((congrArg (View.canon _) (chunk_emb cc.val cc R l (by omega))).trans ?_))
  rw [canon_added16 v base part part' cc R l 128 (by omega), if_pos (by omega)]

end Cert.Proof.Stream
-- ==== Proof.Stream.Tile.lean ====
module

public import proofs.«01_k».proof.Defs
public import proofs.«01_k».proof.Proof.Stream.Stage
public import Idealize.ShloMosaic.Lib.Pipeline.Value

@[expose] public section

set_option maxRecDepth 16384

noncomputable section

/-! What a point of the grid leaves in its three output blocks, as terms of the blocks it is given. -/

namespace Cert.Proof.Stream

open Cert.StreamIdeal Cert.StreamIdeal.Gen
open Idealize.ShloMosaic Idealize.ShloMosaic.TcCoe Idealize.SL.Sem

variable {F : FTy → Type} [FloatOps F]

/-- A load from a block buffer that holds `x`. -/
abbrev rd {S : Shape} {e : EltTy} (a : Memref sig .tc .vmem S e) (h : a.IsWhole) (x : S.Idx → Elt F e) (R : Rect S) :=
  View.readAt (Elt F) a.view R.toLoadRect (h.unread x)

section Sums

variable {κ : Kind} {sp : Space} (v : View sig κ sp S8x256x128 .f32) (base part part' : FVec F S256x1024 .f32)

/-- A chunk read back from the scratch after all the sums. -/
def back (cc : Nat) : Vec F S1x256x128 .f32 := v.readCov (added16 v base part part' 128) (chunk cc).toLoadRect

def back2 (cc : Nat) : FVec F S256x128 .f32 := shapeCast S256x128 (back v base part part' cc) shapeCasts_S1x256x128_S256x128

/-- The gradient of the layer's input: the eight chunks side by side. -/
def grad : FVec F S256x1024 .f32 :=
  k0_pay204 (back2 v base part part' 0) (back2 v base part part' 1) (back2 v base part part' 2) (back2 v base part part' 3)
    (back2 v base part part' 4) (back2 v base part part' 5) (back2 v base part part' 6) (back v base part part' 7)

/-- The gradient before the norm, from the norm's own values. -/
def normed (xh : Vec F S256x1024 .f32) (g : Vec F S1x1024 .f32) (rs : Vec F S256x1 .f32) : FVec F S256x1024 .f32 :=
  k0_pay206 (back2 v base part part' 0) (back2 v base part part' 1) (back2 v base part part' 2) (back2 v base part part' 3)
    (back2 v base part part' 4) (back2 v base part part' 5) (back2 v base part part' 6) (back v base part part' 7) xh g rs

/-- The first row of sums. -/
def scaleSum (xh : Vec F S256x1024 .f32) (old : Vec F S1x1024 .f32) : FVec F S1x1024 .f32 :=
  k0_pay209 (back2 v base part part' 0) (back2 v base part part' 1) (back2 v base part part' 2) (back2 v base part part' 3)
    (back2 v base part part' 4) (back2 v base part part' 5) (back2 v base part part' 6) (back v base part part' 7) xh old

end Sums

variable (m : (ℓ : Loc nD τ sig) → Buf (Elt F) ℓ) (c : Dev nD) (t : Fin cfg0.N)

abbrev left (o : Nat) (h : ∀ a, ![0, o] a + S1024x1024.size a ≤ S1024x3072.size a) : Rect S1024x3072 := Rect.unit ![0, o] S1024x1024.size h

/-- What the tile starts from: the residual's share, the gate's and the first group's. -/
def base : FVec F S256x1024 .f32 :=
  k0_pay2 (rd (ms0_0 t) (hs0_0 t) (iblk m c 0 t) (Rect.unit ![0, 0] S256x1024.size inb_S256x1024_S256x1024_0_0))
    (rd (ms0_1 t) (hs0_1 t) (iblk m c 1 t) (Rect.unit ![0, 0] S256x1024.size inb_S256x1024_S256x1024_0_0))
    (rd (ms0_10 t) (hs0_10 t) (iblk m c 10 t) (Rect.unit ![0, 0] S1024x1024.size inb_S1024x1024_S1024x1024_0_0))
    (rd (ms0_2 t) (hs0_2 t) (iblk m c 2 t) (Rect.unit ![0, 0] S256x1024.size inb_S256x1024_S256x1024_0_0))
    (rd (ms0_3 t) (hs0_3 t) (iblk m c 3 t) (Rect.unit ![0, 0] S256x2048.size inb_S256x2048_S256x2048_0_0))
    (rd (ms0_11 t) (hs0_11 t) (iblk m c 11 t) (left 0 inb_S1024x3072_S1024x1024_0_0))
    (rd (ms0_11 t) (hs0_11 t) (iblk m c 11 t) (left 1024 inb_S1024x3072_S1024x1024_0_1024))
    (rd (ms0_11 t) (hs0_11 t) (iblk m c 11 t) (left 2048 inb_S1024x3072_S1024x1024_0_2048))

/-- The second group's share, its rows sorted by their residue modulo 4. -/
def second : FVec F S256x1024 .f32 :=
  k0_pay13 (k0_pay12 (rd (ms0_4 t) (hs0_4 t) (iblk m c 4 t) (Rect.unit ![0, 0, 0] S4x64x1024.size inb_S4x64x1024_S4x64x1024_0_0_0)))
    (rd (ms0_5 t) (hs0_5 t) (iblk m c 5 t) (Rect.unit ![0, 0, 0] S4x64x2048.size inb_S4x64x2048_S4x64x2048_0_0_0))
    (rd (ms0_12 t) (hs0_12 t) (iblk m c 12 t) (left 0 inb_S1024x3072_S1024x1024_0_0))
    (rd (ms0_12 t) (hs0_12 t) (iblk m c 12 t) (left 1024 inb_S1024x3072_S1024x1024_0_1024))
    (rd (ms0_12 t) (hs0_12 t) (iblk m c 12 t) (left 2048 inb_S1024x3072_S1024x1024_0_2048))

/-- The third group's share, its rows sorted by their residue modulo 16. -/
def third : FVec F S256x1024 .f32 :=
  k0_pay51 (k0_pay50 (rd (ms0_6 t) (hs0_6 t) (iblk m c 6 t) (Rect.unit ![0, 0, 0] S16x16x1024.size inb_S16x16x1024_S16x16x1024_0_0_0)))
    (rd (ms0_7 t) (hs0_7 t) (iblk m c 7 t) (Rect.unit ![0, 0, 0] S16x16x2048.size inb_S16x16x2048_S16x16x2048_0_0_0))
    (rd (ms0_13 t) (hs0_13 t) (iblk m c 13 t) (left 0 inb_S1024x3072_S1024x1024_0_0))
    (rd (ms0_13 t) (hs0_13 t) (iblk m c 13 t) (left 1024 inb_S1024x3072_S1024x1024_0_1024))
    (rd (ms0_13 t) (hs0_13 t) (iblk m c 13 t) (left 2048 inb_S1024x3072_S1024x1024_0_2048))

abbrev scratch : View sig .tc .vmem S8x256x128 .f32 := scM0_0.view

def xhat : Vec F S256x1024 .f32 := rd (ms0_8 t) (hs0_8 t) (iblk m c 8 t) (Rect.unit ![0, 0] S256x1024.size inb_S256x1024_S256x1024_0_0)
def scale : Vec F S1x1024 .f32 := rd (ms0_14 t) (hs0_14 t) (iblk m c 14 t) (Rect.unit ![0, 0] S1x1024.size inb_S1x1024_S1x1024_0_0)
def inv : Vec F S256x1 .f32 := rd (ms0_9 t) (hs0_9 t) (iblk m c 9 t) (Rect.unit ![0, 0] S256x1.size inb_S256x1_S256x1_0_0)

/-- The tile's gradient before the norm. -/
def ds1 : FVec F S256x1024 .f32 :=
  normed scratch (base m c t) (second m c t) (third m c t) (xhat m c t) (scale m c t) (inv m c t)

theorem hz : (![0, 0] : Fin 2 → Nat) = fun _ => 0 := by decide

theorem first_B (h0 : ¬t.val % 64 = 0) : (outsAt0 m c t.val t.isLt).1 = ds1 m c t := by
  rw [outsAt0_B m c t h0]
  refine Eq.trans ?_ (View.canon_unit_zero (Val := Elt F) (S := S256x1024) (e := .f32) hz inb_S256x1024_S256x1024_0_0 (ds1 m c t))
  dsimp only
  unfold out0_B_15
  rw [View.read_writes_junk_eq_canon]
  refine congrArg View.canon ?_
  sl_kernel_rfl

theorem first_A (h0 : t.val % 64 = 0) : (outsAt0 m c t.val t.isLt).1 = ds1 m c t := by
  rw [outsAt0_A m c t h0]
  refine Eq.trans ?_ (View.canon_unit_zero (Val := Elt F) (S := S256x1024) (e := .f32) hz inb_S256x1024_S256x1024_0_0 (ds1 m c t))
  dsimp only
  unfold out0_A_15
  rw [View.read_writes_junk_eq_canon]
  refine congrArg View.canon ?_
  sl_kernel_rfl

/-- The same block narrowed. -/
def ds1b : FVec F S256x1024 .bf16 := truncf .bf16 (ds1 m c t) bitsLt_bf16_f32

theorem second_B (h0 : ¬t.val % 64 = 0) : (outsAt0 m c t.val t.isLt).2.1 = ds1b m c t := by
  rw [outsAt0_B m c t h0]
  refine Eq.trans ?_ (View.canon_unit_zero (Val := Elt F) (S := S256x1024) (e := .bf16) hz inb_S256x1024_S256x1024_0_0 (ds1b m c t))
  dsimp only
  unfold out0_B_16
  rw [View.read_writes_junk_eq_canon]
  refine congrArg View.canon ?_
  sl_kernel_rfl

theorem second_A (h0 : t.val % 64 = 0) : (outsAt0 m c t.val t.isLt).2.1 = ds1b m c t := by
  rw [outsAt0_A m c t h0]
  refine Eq.trans ?_ (View.canon_unit_zero (Val := Elt F) (S := S256x1024) (e := .bf16) hz inb_S256x1024_S256x1024_0_0 (ds1b m c t))
  dsimp only
  unfold out0_A_16
  rw [View.read_writes_junk_eq_canon]
  refine congrArg View.canon ?_
  sl_kernel_rfl

/-! ### The sums -/

abbrev line (r : Nat) (h : ∀ a, ![r, 0] a + S1x1024.size a ≤ S8x1024.size a) : Rect S8x1024 := Rect.unit ![r, 0] S1x1024.size h
abbrev line0 : Rect S8x1024 := line 0 inb_S8x1024_S1x1024_0_0
abbrev line1 : Rect S8x1024 := line 1 inb_S8x1024_S1x1024_1_0
abbrev line2 : Rect S8x1024 := line 2 inb_S8x1024_S1x1024_2_0

def dx1 : FVec F S256x1024 .f32 := grad scratch (base m c t) (second m c t) (third m c t)

def piece0 (old : Vec F S1x1024 .f32) : View.Piece (Elt F) S8x1024 .f32 :=
  ⟨line0, scaleSum scratch (base m c t) (second m c t) (third m c t) (xhat m c t) old⟩
def piece1 (old : Vec F S1x1024 .f32) : View.Piece (Elt F) S8x1024 .f32 := ⟨line1, k0_pay210 (dx1 m c t) old⟩
def piece2 (old : Vec F S1x1024 .f32) : View.Piece (Elt F) S8x1024 .f32 := ⟨line2, k0_pay1 (ds1 m c t) old⟩

/-- What the sums' buffer holds when the body starts. -/
abbrev before (h0 : ¬t.val % 64 = 0) : Vec F S8x1024 .f32 := (outsAt0 m c (t.val - 1) (Nat.lt_of_le_of_lt (Nat.sub_le _ _) t.isLt)).2.2

theorem third_B (h0 : ¬t.val % 64 = 0) : (outsAt0 m c t.val t.isLt).2.2
    = (ms0_17 t).view.read (Elt F) ((ms0_17 t).view.writes (Elt F) ((hs0_17 t).unread (before m c t h0))
      [piece2 m c t (rd (ms0_17 t) (hs0_17 t) (before m c t h0) line2), piece1 m c t (rd (ms0_17 t) (hs0_17 t) (before m c t h0) line1),
        piece0 m c t (rd (ms0_17 t) (hs0_17 t) (before m c t h0) line0)]) := by
  rw [outsAt0_B m c t h0]
  dsimp only
  unfold out0_B_17
  refine congrArg (fun L => (ms0_17 t).view.read (Elt F) ((ms0_17 t).view.writes (Elt F) _ L)) ?_
  sl_kernel_rfl

/-- The pieces of the first point: zero, then each sum over the ones before. -/
def cleared : List (View.Piece (Elt F) S8x1024 .f32) := [⟨Rect.unit ![0, 0] S8x1024.size inb_S8x1024_S8x1024_0_0, k0_pay208⟩]
def cleared0 : List (View.Piece (Elt F) S8x1024 .f32) := piece0 m c t ((ms0_17 t).view.readCov cleared line0.toLoadRect) :: cleared
def cleared1 : List (View.Piece (Elt F) S8x1024 .f32) := piece1 m c t ((ms0_17 t).view.readCov (cleared0 m c t) line1.toLoadRect) :: cleared0 m c t
def cleared2 : List (View.Piece (Elt F) S8x1024 .f32) := piece2 m c t ((ms0_17 t).view.readCov (cleared1 m c t) line2.toLoadRect) :: cleared1 m c t

theorem third_A (h0 : t.val % 64 = 0) : (outsAt0 m c t.val t.isLt).2.2 = View.canon (cleared2 m c t) := by
  rw [outsAt0_A m c t h0]
  dsimp only
  unfold out0_A_17
  rw [View.read_writes_junk_eq_canon]
  refine congrArg View.canon ?_
  sl_kernel_rfl

end Cert.Proof.Stream
-- ==== Proof.Stream.Norm.lean ====
module

public import Idealize.ShloMosaic.Lib.Pipeline.ValueKit

@[expose] public section

noncomputable section

/-! The layer norm's own values at a row, over the extended reals. -/

namespace Cert.Proof.Stream

open Idealize.ShloMosaic

/-- The residual's factor. -/
abbrev alpha : EReal := Ideal.ofBits .f32 0x3FB504F3#32

/-- The number of channels. -/
abbrev width : EReal := Ideal.ofBits .f32 0x44800000#32

/-- What keeps the variance away from zero. -/
abbrev eps : EReal := Ideal.ofBits .f32 0x3727C5AC#32

/-- A row less its mean. -/
def centred (x : Fin 1024 → EReal) (i : Fin 1024) : EReal := x i - Ideal.div (∑ j, x j) width

/-- Its variance, kept away from zero. -/
def spread (x : Fin 1024 → EReal) : EReal := Ideal.div (∑ j, centred x j * centred x j) width + eps

/-- One over its deviation. -/
def inverse (x : Fin 1024 → EReal) : EReal := Ideal.rsqrt (spread x)

end Cert.Proof.Stream
-- ==== Proof.Stream.Point.lean ====
module

public import proofs.«01_k».proof.Defs
public import proofs.«01_k».proof.Proof.Stream.Tile
public import proofs.«01_k».proof.Proof.Stream.Norm
public import Idealize.ShloMosaic.Lib.Pipeline.ValueKit

@[expose] public section

set_option maxRecDepth 16384

noncomputable section

/-! The same terms at an index, over the extended reals. -/

namespace Cert.Proof.Stream

open Cert.StreamIdeal Cert.StreamIdeal.Gen
open Idealize.ShloMosaic Idealize.ShloMosaic.TcCoe Idealize.SL.Sem

abbrev at0 (j : Fin 1024) : Fin 2048 := ⟨j.val, by omega⟩
abbrev at1 (j : Fin 1024) : Fin 2048 := ⟨1024 + j.val, by omega⟩

/-- One group's share of a row's gradient: its queries', keys' and values' cotangents times their weights. -/
abbrev share (q : Fin 1024 → EReal) (kv : Fin 2048 → EReal) (wq wk wv : Fin 1024 → EReal) : EReal :=
  ∑ j, q j * wq j + ∑ j, kv (at0 j) * wk j + ∑ j, kv (at1 j) * wv j

theorem base_at (x0 : FVec Ideal S256x1024 .f32) (x1 x2 : FVec Ideal S256x1024 .bf16) (x3 : FVec Ideal S256x2048 .bf16)
    (wz w0 w1 w2 : FVec Ideal S1024x1024 .bf16) (R : Fin 256) (C : Fin 1024) :
    k0_pay2 (F := Ideal) x0 x1 wz x2 x3 w0 w1 w2 (ix2 R C) = (alpha * x0 (ix2 R C) + ∑ j : Fin 1024, x1 (ix2 R j) * wz (ix2 C j))
      + share (fun j => x2 (ix2 R j)) (fun j => x3 (ix2 R j)) (fun j => w0 (ix2 C j)) (fun j => w1 (ix2 C j)) (fun j => w2 (ix2 C j)) := by
  pointwise [k0_pay2, share]

theorem second_at (x4 : FVec Ideal S4x64x1024 .bf16) (x5 : FVec Ideal S4x64x2048 .bf16) (w0 w1 w2 : FVec Ideal S1024x1024 .bf16)
    (r : Fin 4) (l : Fin 64) (R : Fin 256) (hR : R.val = r.val * 64 + l.val) (C : Fin 1024) :
    k0_pay13 (F := Ideal) (k0_pay12 x4) x5 w0 w1 w2 (ix2 R C)
      = share (fun j => x4 (ix3 r l j)) (fun j => x5 (ix3 r l j)) (fun j => w0 (ix2 C j)) (fun j => w1 (ix2 C j)) (fun j => w2 (ix2 C j)) := by
  have er : ∀ h, (⟨R.val / 64, h⟩ : Fin _) = r := fun _ => Fin.ext (by show R.val / 64 = r.val; omega)
  have el : ∀ h, (⟨R.val % 64, h⟩ : Fin _) = l := fun _ => Fin.ext (by show R.val % 64 = l.val; omega)
  pointwise [k0_pay13, k0_pay12, share]
  simp only [er, el]

theorem third_at (x4 : FVec Ideal S16x16x1024 .bf16) (x5 : FVec Ideal S16x16x2048 .bf16) (w0 w1 w2 : FVec Ideal S1024x1024 .bf16)
    (r : Fin 16) (l : Fin 16) (R : Fin 256) (hR : R.val = r.val * 16 + l.val) (C : Fin 1024) :
    k0_pay51 (F := Ideal) (k0_pay50 x4) x5 w0 w1 w2 (ix2 R C)
      = share (fun j => x4 (ix3 r l j)) (fun j => x5 (ix3 r l j)) (fun j => w0 (ix2 C j)) (fun j => w1 (ix2 C j)) (fun j => w2 (ix2 C j)) := by
  have er : ∀ h, (⟨R.val / 16, h⟩ : Fin _) = r := fun _ => Fin.ext (by show R.val / 16 = r.val; omega)
  have el : ∀ h, (⟨R.val % 16, h⟩ : Fin _) = l := fun _ => Fin.ext (by show R.val % 16 = l.val; omega)
  pointwise [k0_pay51, k0_pay50, share]
  simp only [er, el]

section Sums

variable (v : View sig .tc .vmem S8x256x128 .f32) (b p q : FVec Ideal S256x1024 .f32)

/-- The gradient at a row: the base plus the groups' shares at the row's sorted places. -/
theorem grad_at (R : Fin 256) (C : Fin 1024) : (grad v b p q (ix2 R C) : EReal)
    = ((b (ix2 R C) : EReal) + (p (ix2 (sorted4 R) C) : EReal)) + (q (ix2 (sorted16 R) C) : EReal) := by
  have h : grad v b p q (ix2 R C) = back2 v b p q (C.val / 128) (ix2 R (⟨C.val % 128, by omega⟩ : Fin 128)) := by
    exact concatenate_ofFn_apply (t := S256x1024) (s₁ := S256x128) 1 (fun n : Fin 8 => back2 v b p q n.val)
      concatenates_S256x128_S256x128_S256x128_S256x128_S256x128_S256x128_S256x128_S256x128_S256x1024_d1 rfl 128 rfl (ix2 R C)
      ⟨C.val / 128, by omega⟩ rfl (ix2 R (⟨C.val % 128, by omega⟩ : Fin 128)) rfl (fun a ha => by
        match a with
        | ⟨0, _⟩ => rfl
        | ⟨1, _⟩ => exact absurd rfl ha)
  rw [h]
  have e : lane ⟨C.val / 128, by omega⟩ ⟨C.val % 128, by omega⟩ = C := Fin.ext (by show C.val / 128 * 128 + C.val % 128 = C.val; omega)
  refine (read_chunk v b p q ⟨C.val / 128, by omega⟩ R ⟨C.val % 128, by omega⟩ _).trans ?_
  rw [e]

theorem normed_at (xh : FVec Ideal S256x1024 .f32) (g : FVec Ideal S1x1024 .f32) (rs : FVec Ideal S256x1 .f32) (R : Fin 256) (C : Fin 1024) :
    normed v b p q xh g rs (ix2 R C) = rs (ix2 R 0) * (grad v b p q (ix2 R C) * g (ix2 0 C)
      - Ideal.div (∑ j : Fin 1024, grad v b p q (ix2 R j) * g (ix2 0 j)) width
      - xh (ix2 R C) * Ideal.div (∑ j : Fin 1024, grad v b p q (ix2 R j) * g (ix2 0 j) * xh (ix2 R j)) width) := by
  unfold normed k0_pay206
  rw [show k0_pay204 (back2 v b p q 0) (back2 v b p q 1) (back2 v b p q 2) (back2 v b p q 3) (back2 v b p q 4) (back2 v b p q 5)
    (back2 v b p q 6) (back v b p q 7) = grad v b p q from rfl]
  generalize grad v b p q = y
  pointwise [k0_pay205]

theorem scaleSum_at (xh : FVec Ideal S256x1024 .f32) (old : FVec Ideal S1x1024 .f32) (C : Fin 1024) :
    scaleSum v b p q xh old (ix2 0 C) = old (ix2 0 C) + ∑ R : Fin 256, grad v b p q (ix2 R C) * xh (ix2 R C) := by
  unfold scaleSum k0_pay209
  rw [show k0_pay204 (back2 v b p q 0) (back2 v b p q 1) (back2 v b p q 2) (back2 v b p q 3) (back2 v b p q 4) (back2 v b p q 5)
    (back2 v b p q 6) (back v b p q 7) = grad v b p q from rfl]
  generalize grad v b p q = y
  pointwise [k0_pay205]

end Sums

theorem shiftSum_at (y : FVec Ideal S256x1024 .f32) (old : FVec Ideal S1x1024 .f32) (C : Fin 1024) :
    k0_pay210 y old (ix2 0 C) = old (ix2 0 C) + ∑ R : Fin 256, y (ix2 R C) := by
  pointwise [k0_pay210]

theorem biasSum_at (y : FVec Ideal S256x1024 .f32) (old : FVec Ideal S1x1024 .f32) (C : Fin 1024) :
    k0_pay1 y old (ix2 0 C) = old (ix2 0 C) + ∑ R : Fin 256, y (ix2 R C) := by
  pointwise [k0_pay1]

end Cert.Proof.Stream
-- ==== Proof.Stream.Host.lean ====
module

public import proofs.«01_k».proof.Defs
public import proofs.«01_k».proof.Proof.Stream.Point
public import Idealize.ShloMosaic.Lib.StableHlo.ReadAt

@[expose] public section

set_option maxRecDepth 16384

noncomputable section

/-! What the host hands the kernel, at an index. -/

namespace Cert.Proof.Stream

open Cert.StreamIdeal Cert.StreamIdeal.Gen
open Idealize.ShloMosaic Idealize.ShloMosaic.TcCoe Idealize.SL.Sem

variable (m : (ℓ : Loc nD τ sig) → Buf (Elt Ideal) ℓ) (c : Dev nD)

abbrev stream (t : Fin 16384) (i : Fin 1024) : EReal := m (c, Proc.tc.devRef main_arg0) (ix2 t i)
abbrev bias (i : Fin 1024) : EReal := m (c, Proc.tc.devRef main_arg1) (ix1 i)
/-- A row of the norm's input. -/
def row (t : Fin 16384) (i : Fin 1024) : EReal := stream m c t i + bias m c i
abbrev gain (i : Fin 1024) : EReal := m (c, Proc.tc.devRef main_arg2) (ix1 i)
abbrev win (i : Fin 1024) (j : Fin 4096) : EReal := m (c, Proc.tc.devRef main_arg3) (ix2 i j)
abbrev wkv (i : Fin 1024) (j : Fin 6144) : EReal := m (c, Proc.tc.devRef main_arg4) (ix2 i j)
abbrev ds2 (t : Fin 16384) (i : Fin 1024) : EReal := m (c, Proc.tc.devRef main_arg5) (ix2 t i)
abbrev dh (t : Fin 16384) (j : Fin 4096) : EReal := m (c, Proc.tc.devRef main_arg6) (ix2 t j)
abbrev dkv (t : Fin 16384) (j : Fin 6144) : EReal := m (c, Proc.tc.devRef main_arg7) (ix2 t j)

/-- Columns of the two wide arrays, by a piece's first column. -/
abbrev col4 (o : Nat) (j : Fin 1024) (h : o + 1024 ≤ 4096 := by decide) : Fin 4096 := ⟨o + j.val, by omega⟩
abbrev col6 (o : Nat) (j : Fin 1024) (h : o + 1024 ≤ 6144 := by decide) : Fin 6144 := ⟨o + j.val, by omega⟩
abbrev col3 (o : Nat) (j : Fin 1024) (h : o + 1024 ≤ 3072 := by decide) : Fin 3072 := ⟨o + j.val, by omega⟩

theorem host_inv (t : Fin 16384) (X : FVec Ideal S16384x1 .f32) (hX : V m c main_v16 = X) : X (ix2 t 0) = inverse (row m c t) := by
  subst hX
  unfold V
  simp only [hostOps0]
  after_reads_at
  rfl

theorem host_xhat (t : Fin 16384) (i : Fin 1024) (X : FVec Ideal S16384x1024 .f32) (hX : V m c main_v18 = X) :
    X (ix2 t i) = centred (row m c t) i * inverse (row m c t) := by
  subst hX
  unfold V
  simp only [hostOps0]
  after_reads_at
  rfl

theorem host_gain (i : Fin 1024) (X : FVec Ideal S1x1024 .f32) (hX : V m c main_v64 = X) : X (ix2 0 i) = gain m c i := by
  subst hX
  unfold V
  simp only [hostOps0]
  after_reads_at

theorem host_ds2 (t : Fin 16384) (i : Fin 1024) (X : FVec Ideal S16384x1024 .f32) (hX : V m c main_arg5 = X) : X (ix2 t i) = ds2 m c t i := by
  subst hX
  unfold V
  simp only [hostOps0]
  after_reads_at

theorem host_z (t : Fin 16384) (j : Fin 1024) (X : FVec Ideal S16384x1024 .bf16) (hX : V m c main_v61 = X) :
    X (ix2 t j) = dh m c t (col4 3072 j) := by
  subst hX
  unfold V
  simp only [hostOps0]
  after_reads_at

theorem host_wz (i j : Fin 1024) (X : FVec Ideal S1024x1024 .bf16) (hX : V m c main_v63 = X) :
    X (ix2 i j) = win m c i (col4 3072 j) := by
  subst hX
  unfold V
  simp only [hostOps0]
  after_reads_at

/-! ### The first group -/

theorem host_q0 (t : Fin 16384) (j : Fin 1024) (X : FVec Ideal S16384x1024 .bf16) (hX : V m c main_v20 = X) :
    X (ix2 t j) = dh m c t ⟨j.val, by omega⟩ := by
  subst hX
  unfold V
  simp only [hostOps0]
  after_reads_at

theorem host_kv0 (t : Fin 16384) (j : Fin 1024) (X : FVec Ideal S16384x2048 .bf16) (hX : V m c main_v24 = X) :
    X (ix2 t (at0 j)) = dkv m c t ⟨j.val, by omega⟩ ∧ X (ix2 t (at1 j)) = dkv m c t (col6 3072 j) := by
  subst hX
  unfold V
  simp only [hostOps0]
  constructor
  · after_reads_at
    after_reads_at
  · after_reads_at
    after_reads_at

theorem host_w0 (i j : Fin 1024) (X : FVec Ideal S1024x3072 .bf16) (hX : V m c main_v29 = X) :
    X (ix2 i (col3 0 j)) = win m c i ⟨j.val, by omega⟩ ∧ X (ix2 i (col3 1024 j)) = wkv m c i ⟨j.val, by omega⟩ ∧ X (ix2 i (col3 2048 j)) = wkv m c i (col6 3072 j) := by
  subst hX
  unfold V
  simp only [hostOps0]
  refine ⟨?_, ?_, ?_⟩
  · after_reads_at
    after_reads_at
  · after_reads_at
    after_reads_at
  · after_reads_at
    rw [dif_neg (by omega), dif_neg (by omega)]
    after_reads_at
    refine congrArg (fun z => m (c, Proc.tc.devRef main_arg4) (ix2 i z)) (Fin.ext ?_)
    dsimp only
    omega

/-! ### The second group, one token of every four at a time -/

theorem host_q1 (r : Fin 4) (l : Fin 4096) (j : Fin 1024) (X : FVec Ideal S4x4096x1024 .bf16) (hX : V m c main_v37 = X) :
    X (ix3 r l j) = dh m c ⟨l.val * 4 + r.val, by omega⟩ (col4 1024 j) := by
  subst hX
  unfold V
  simp only [hostOps0]
  after_reads_at

theorem host_kv1 (r : Fin 4) (l : Fin 4096) (j : Fin 1024) (X : FVec Ideal S4x4096x2048 .bf16) (hX : V m c main_v39 = X) :
    X (ix3 r l (at0 j)) = dkv m c ⟨l.val * 4 + r.val, by omega⟩ (col6 1024 j) ∧ X (ix3 r l (at1 j)) = dkv m c ⟨l.val * 4 + r.val, by omega⟩ (col6 4096 j) := by
  subst hX
  unfold V
  simp only [hostOps0]
  constructor
  · after_reads_at
    after_reads_at
  · after_reads_at
    after_reads_at

theorem host_w1 (i j : Fin 1024) (X : FVec Ideal S1024x3072 .bf16) (hX : V m c main_v44 = X) :
    X (ix2 i (col3 0 j)) = win m c i (col4 1024 j) ∧ X (ix2 i (col3 1024 j)) = wkv m c i (col6 1024 j) ∧ X (ix2 i (col3 2048 j)) = wkv m c i (col6 4096 j) := by
  subst hX
  unfold V
  simp only [hostOps0]
  refine ⟨?_, ?_, ?_⟩
  · after_reads_at
    after_reads_at
  · after_reads_at
    after_reads_at
  · after_reads_at
    rw [dif_neg (by omega), dif_neg (by omega)]
    after_reads_at
    refine congrArg (fun z => m (c, Proc.tc.devRef main_arg4) (ix2 i z)) (Fin.ext ?_)
    dsimp only
    omega

/-! ### The third group, one token of every sixteen at a time -/

theorem host_q2 (r : Fin 16) (l : Fin 1024) (j : Fin 1024) (X : FVec Ideal S16x1024x1024 .bf16) (hX : V m c main_v52 = X) :
    X (ix3 r l j) = dh m c ⟨l.val * 16 + r.val, by omega⟩ (col4 2048 j) := by
  subst hX
  unfold V
  simp only [hostOps0]
  after_reads_at

theorem host_kv2 (r : Fin 16) (l : Fin 1024) (j : Fin 1024) (X : FVec Ideal S16x1024x2048 .bf16) (hX : V m c main_v54 = X) :
    X (ix3 r l (at0 j)) = dkv m c ⟨l.val * 16 + r.val, by omega⟩ (col6 2048 j) ∧ X (ix3 r l (at1 j)) = dkv m c ⟨l.val * 16 + r.val, by omega⟩ (col6 5120 j) := by
  subst hX
  unfold V
  simp only [hostOps0]
  constructor
  · after_reads_at
    after_reads_at
  · after_reads_at
    after_reads_at

theorem host_w2 (i j : Fin 1024) (X : FVec Ideal S1024x3072 .bf16) (hX : V m c main_v59 = X) :
    X (ix2 i (col3 0 j)) = win m c i (col4 2048 j) ∧ X (ix2 i (col3 1024 j)) = wkv m c i (col6 2048 j) ∧ X (ix2 i (col3 2048 j)) = wkv m c i (col6 5120 j) := by
  subst hX
  unfold V
  simp only [hostOps0]
  refine ⟨?_, ?_, ?_⟩
  · after_reads_at
    after_reads_at
  · after_reads_at
    after_reads_at
  · after_reads_at
    rw [dif_neg (by omega), dif_neg (by omega)]
    after_reads_at
    refine congrArg (fun z => m (c, Proc.tc.devRef main_arg4) (ix2 i z)) (Fin.ext ?_)
    dsimp only
    omega

end Cert.Proof.Stream
-- ==== Proof.Stream.Loads.lean ====
module

public import proofs.«01_k».proof.Proof.Stream.Tile
public import Idealize.ShloMosaic.Lib.Pipeline.ValueKit

@[expose] public section

set_option maxRecDepth 16384

noncomputable section

/-! Loads from a block's buffer: the whole block, or 1024 of a weight's columns. -/

namespace Cert.Proof.Stream

open Cert.StreamIdeal Cert.StreamIdeal.Gen
open Idealize.ShloMosaic Idealize.ShloMosaic.TcCoe Idealize.SL.Sem

variable {F : FTy → Type} [FloatOps F] {e : EltTy}

theorem rd_all {S : Shape} (a : Memref sig .tc .vmem S e) (h : a.IsWhole) (x : S.Idx → Elt F e) {o : Fin S.rank → Nat}
    (ho : o = fun _ => 0) (inb : ∀ i, o i + S.size i ≤ S.size i) : rd a h x (Rect.unit o S.size inb) = x := by
  unfold rd
  rw [View.readAt_eq_ld, h.read_unread]
  exact View.ld_unit_zero ho inb x

theorem hz3 : (![0, 0, 0] : Fin 3 → Nat) = fun _ => 0 := by decide

theorem rd_two {s : Fin 2 → Nat} (a : Memref sig .tc .vmem ⟨2, s⟩ e) (h : a.IsWhole) (x : (⟨2, s⟩ : Shape).Idx → Elt F e)
    (inb : ∀ i, ![0, 0] i + s i ≤ s i) : rd a h x (Rect.unit ![0, 0] s inb) = x :=
  rd_all (S := ⟨2, s⟩) a h x hz inb

theorem rd_three {s : Fin 3 → Nat} (a : Memref sig .tc .vmem ⟨3, s⟩ e) (h : a.IsWhole) (x : (⟨3, s⟩ : Shape).Idx → Elt F e)
    (inb : ∀ i, ![0, 0, 0] i + s i ≤ s i) : rd a h x (Rect.unit ![0, 0, 0] s inb) = x :=
  rd_all (S := ⟨3, s⟩) a h x hz3 inb

theorem rd_left (a : Memref sig .tc .vmem S1024x3072 e) (h : a.IsWhole) (x : S1024x3072.Idx → Elt F e) (o : Nat)
    (inb : ∀ i, ![0, o] i + S1024x1024.size i ≤ S1024x3072.size i) (ho : o + 1024 ≤ 3072) (i j : Fin 1024) :
    rd a h x (left o inb) (ix2 i j) = x (ix2 i ⟨o + j.val, by omega⟩) := by
  unfold rd
  rw [View.readAt_eq_ld, h.read_unread]
  refine congrArg x (funext fun b => Fin.ext ?_)
  match b with
  | ⟨0, _⟩ => show 0 + 1 * i.val = i.val; omega
  | ⟨1, _⟩ => show o + 1 * j.val = o + j.val; omega

end Cert.Proof.Stream
-- ==== Proof.Stream.Blocks.lean ====
module

public import proofs.«01_k».proof.Proof.Stream.Host
public import proofs.«01_k».proof.Proof.Stream.Loads

@[expose] public section

set_option maxRecDepth 16384

noncomputable section

/-! The blocks a point is given, and its tile of the gradient of the layer's input. -/

namespace Cert.Proof.Stream

open Cert.StreamIdeal Cert.StreamIdeal.Gen
open Idealize.ShloMosaic Idealize.ShloMosaic.TcCoe Idealize.SL.Sem

variable (m : (ℓ : Loc nD τ sig) → Buf (Elt Ideal) ℓ) (c : Dev nD) (t : Fin cfg0.N)

/-- The token of a tile's row. -/
def tok (R : Fin 256) : Fin 16384 := ⟨t.val * 256 + R.val, by have : cfg0.N = 64 := N_0; omega⟩

theorem by_tokens : ∀ t : Fin cfg0.N, win0_0.index t = ![t.val, 0] ∧ win0_1.index t = ![t.val, 0] ∧ win0_2.index t = ![t.val, 0]
    ∧ win0_3.index t = ![t.val, 0] ∧ win0_8.index t = ![t.val, 0] ∧ win0_9.index t = ![t.val, 0] :=
  (by decide +kernel : ∀ t : Fin grid0.N, _)

theorem by_residue : ∀ t : Fin cfg0.N, win0_4.index t = ![0, t.val, 0] ∧ win0_5.index t = ![0, t.val, 0]
    ∧ win0_6.index t = ![0, t.val, 0] ∧ win0_7.index t = ![0, t.val, 0] :=
  (by decide +kernel : ∀ t : Fin grid0.N, _)

theorem by_none : ∀ t : Fin cfg0.N, win0_10.index t = ![0, 0] ∧ win0_11.index t = ![0, 0] ∧ win0_12.index t = ![0, 0]
    ∧ win0_13.index t = ![0, 0] ∧ win0_14.index t = ![0, 0] :=
  (by decide +kernel : ∀ t : Fin grid0.N, _)

theorem block_ds2 (R : Fin 256) (C : Fin 1024) : iblk m c 0 t (ix2 R C) = ds2 m c (tok t R) C := by
  rw [← host_ds2 m c _ _ _ rfl]
  have e := (by_tokens t).1
  blk_ext [iblk, tok, e]

theorem block_z (R : Fin 256) (C : Fin 1024) : iblk m c 1 t (ix2 R C) = dh m c (tok t R) (col4 3072 C) := by
  rw [← host_z m c _ _ _ rfl]
  have e := (by_tokens t).2.1
  blk_ext [iblk, tok, e]

theorem block_q0 (R : Fin 256) (C : Fin 1024) : iblk m c 2 t (ix2 R C) = dh m c (tok t R) ⟨C.val, by omega⟩ := by
  rw [← host_q0 m c _ _ _ rfl]
  have e := (by_tokens t).2.2.1
  blk_ext [iblk, tok, e]

theorem block_kv0 (R : Fin 256) (C : Fin 1024) : iblk m c 3 t (ix2 R (at0 C)) = dkv m c (tok t R) ⟨C.val, by omega⟩
    ∧ iblk m c 3 t (ix2 R (at1 C)) = dkv m c (tok t R) (col6 3072 C) := by
  have e := (by_tokens t).2.2.2.1
  rw [← (host_kv0 m c _ _ _ rfl).1, ← (host_kv0 m c _ _ _ rfl).2]
  constructor <;> blk_ext [iblk, tok, e]

/-- Row `l` of residue `r` in a tile's block, the residue modulo 4. -/
theorem tok4 (R : Fin 256) (h : (t.val * 64 + R.val / 4) * 4 + R.val % 4 < 16384) :
    (⟨(t.val * 64 + R.val / 4) * 4 + R.val % 4, h⟩ : Fin 16384) = tok t R :=
  Fin.ext (by show (t.val * 64 + R.val / 4) * 4 + R.val % 4 = t.val * 256 + R.val; omega)

theorem tok16 (R : Fin 256) (h : (t.val * 16 + R.val / 16) * 16 + R.val % 16 < 16384) :
    (⟨(t.val * 16 + R.val / 16) * 16 + R.val % 16, h⟩ : Fin 16384) = tok t R :=
  Fin.ext (by show (t.val * 16 + R.val / 16) * 16 + R.val % 16 = t.val * 256 + R.val; omega)

abbrev res4 (R : Fin 256) : Fin 4 := ⟨R.val % 4, by omega⟩
abbrev row4 (R : Fin 256) : Fin 64 := ⟨R.val / 4, by omega⟩
abbrev res16 (R : Fin 256) : Fin 16 := ⟨R.val % 16, by omega⟩
abbrev row16 (R : Fin 256) : Fin 16 := ⟨R.val / 16, by omega⟩

abbrev seq4 (R : Fin 256) : Fin 4096 := ⟨t.val * 64 + R.val / 4, by have : cfg0.N = 64 := N_0; omega⟩
abbrev seq16 (R : Fin 256) : Fin 1024 := ⟨t.val * 16 + R.val / 16, by have : cfg0.N = 64 := N_0; omega⟩

theorem block_q1 (R : Fin 256) (C : Fin 1024) : iblk m c 4 t (ix3 (res4 R) (row4 R) C) = dh m c (tok t R) (col4 1024 C) := by
  have h := host_q1 m c (res4 R) (seq4 t R) C _ rfl
  rw [tok4] at h
  rw [← h]
  have e := (by_residue t).1
  blk_ext [iblk, e]

theorem block_kv1 (R : Fin 256) (C : Fin 1024) :
    iblk m c 5 t (ix3 (res4 R) (row4 R) (at0 C)) = dkv m c (tok t R) (col6 1024 C)
      ∧ iblk m c 5 t (ix3 (res4 R) (row4 R) (at1 C)) = dkv m c (tok t R) (col6 4096 C) := by
  have h := host_kv1 m c (res4 R) (seq4 t R) C _ rfl
  rw [tok4] at h
  rw [← h.1, ← h.2]
  have e := (by_residue t).2.1
  constructor <;> blk_ext [iblk, e]

theorem block_q2 (R : Fin 256) (C : Fin 1024) : iblk m c 6 t (ix3 (res16 R) (row16 R) C) = dh m c (tok t R) (col4 2048 C) := by
  have h := host_q2 m c (res16 R) (seq16 t R) C _ rfl
  rw [tok16] at h
  rw [← h]
  have e := (by_residue t).2.2.1
  blk_ext [iblk, e]

set_option maxHeartbeats 1000000 in
theorem block_kv2 (R : Fin 256) (C : Fin 1024) :
    iblk m c 7 t (ix3 (res16 R) (row16 R) (at0 C)) = dkv m c (tok t R) (col6 2048 C)
      ∧ iblk m c 7 t (ix3 (res16 R) (row16 R) (at1 C)) = dkv m c (tok t R) (col6 5120 C) := by
  have h := host_kv2 m c (res16 R) (seq16 t R) C _ rfl
  rw [tok16] at h
  rw [← h.1, ← h.2]
  have e := (by_residue t).2.2.2
  constructor <;> blk_ext [iblk, e]

theorem block_xhat (R : Fin 256) (C : Fin 1024) :
    iblk m c 8 t (ix2 R C) = centred (row m c (tok t R)) C * inverse (row m c (tok t R)) := by
  rw [← host_xhat m c _ _ _ rfl]
  have e := (by_tokens t).2.2.2.2.1
  blk_ext [iblk, tok, e]

theorem block_inv (R : Fin 256) : iblk m c 9 t (ix2 R 0) = inverse (row m c (tok t R)) := by
  rw [← host_inv m c _ _ rfl]
  have e := (by_tokens t).2.2.2.2.2
  blk_ext [iblk, tok, e]

theorem block_gain (C : Fin 1024) : iblk m c 14 t (ix2 0 C) = gain m c C := by
  rw [← host_gain m c _ _ rfl]
  have e := (by_none t).2.2.2.2
  blk_ext [iblk, e]

theorem block_wz (i j : Fin 1024) : iblk m c 10 t (ix2 i j) = win m c i (col4 3072 j) := by
  rw [← host_wz m c _ _ _ rfl]
  have e := (by_none t).1
  blk_ext [iblk, e]

theorem block_w0 : iblk m c 11 t = V m c main_v29 := by
  funext x
  have e := (by_none t).2.1
  blk_ext [iblk, e]

theorem block_w1 : iblk m c 12 t = V m c main_v44 := by
  funext x
  have e := (by_none t).2.2.1
  blk_ext [iblk, e]

theorem block_w2 : iblk m c 13 t = V m c main_v59 := by
  funext x
  have e := (by_none t).2.2.2.1
  blk_ext [iblk, e]

end Cert.Proof.Stream
-- ==== Proof.Stream.Grad.lean ====
module

public import proofs.«01_k».proof.Proof.Stream.Blocks

@[expose] public section

set_option maxRecDepth 16384

noncomputable section

/-! A point's tile of the gradient of the layer's input, and of the gradient before the norm, in the arguments. -/

namespace Cert.Proof.Stream

open Cert.StreamIdeal Cert.StreamIdeal.Gen
open Idealize.ShloMosaic Idealize.ShloMosaic.TcCoe Idealize.SL.Sem

variable (m : (ℓ : Loc nD τ sig) → Buf (Elt Ideal) ℓ) (c : Dev nD)

/-- One group's share at a token: its queries', keys' and values' cotangents times their weights. -/
def group (q : Fin 1024 → Fin 4096) (k v : Fin 1024 → Fin 6144) (t : Fin 16384) (C : Fin 1024) : EReal :=
  ∑ j, dh m c t (q j) * win m c C (q j) + ∑ j, dkv m c t (k j) * wkv m c C (k j) + ∑ j, dkv m c t (v j) * wkv m c C (v j)

/-- The gradient of the layer's input at a token, summed as the call sums it. -/
def dx (t : Fin 16384) (C : Fin 1024) : EReal :=
  (((alpha * ds2 m c t C + ∑ j : Fin 1024, dh m c t (col4 3072 j) * win m c C (col4 3072 j))
    + group m c (fun j => ⟨j.val, by omega⟩) (fun j => ⟨j.val, by omega⟩) (fun j => col6 3072 j) t C)
    + group m c (fun j => col4 1024 j) (fun j => col6 1024 j) (fun j => col6 4096 j) t C)
    + group m c (fun j => col4 2048 j) (fun j => col6 2048 j) (fun j => col6 5120 j) t C

variable (t : Fin cfg0.N) (R : Fin 256) (C : Fin 1024)

theorem base_eq : base m c t (ix2 R C) = (alpha * ds2 m c (tok t R) C + ∑ j : Fin 1024, dh m c (tok t R) (col4 3072 j) * win m c C (col4 3072 j))
    + group m c (fun j => ⟨j.val, by omega⟩) (fun j => ⟨j.val, by omega⟩) (fun j => col6 3072 j) (tok t R) C := by
  unfold base group
  refine (base_at _ _ _ _ _ _ _ _ R C).trans ?_
  unfold share
  simp only [rd_two, rd_left _ _ _ 0 _ (by decide), rd_left _ _ _ 1024 _ (by decide), rd_left _ _ _ 2048 _ (by decide),
    block_ds2, block_z, block_q0, (block_kv0 m c t _ _).1, (block_kv0 m c t _ _).2, block_wz, block_w0,
    (host_w0 m c _ _ _ rfl).1, (host_w0 m c _ _ _ rfl).2.1, (host_w0 m c _ _ _ rfl).2.2]

theorem second_eq : second m c t (ix2 (sorted4 R) C)
    = group m c (fun j => col4 1024 j) (fun j => col6 1024 j) (fun j => col6 4096 j) (tok t R) C := by
  unfold second group
  refine (second_at _ _ _ _ _ (res4 R) (row4 R) (sorted4 R) rfl C).trans ?_
  unfold share
  simp only [rd_three, rd_left _ _ _ 0 _ (by decide), rd_left _ _ _ 1024 _ (by decide), rd_left _ _ _ 2048 _ (by decide),
    block_q1, (block_kv1 m c t _ _).1, (block_kv1 m c t _ _).2, block_w1,
    (host_w1 m c _ _ _ rfl).1, (host_w1 m c _ _ _ rfl).2.1, (host_w1 m c _ _ _ rfl).2.2]

theorem third_eq : third m c t (ix2 (sorted16 R) C)
    = group m c (fun j => col4 2048 j) (fun j => col6 2048 j) (fun j => col6 5120 j) (tok t R) C := by
  unfold third group
  refine (third_at _ _ _ _ _ (res16 R) (row16 R) (sorted16 R) rfl C).trans ?_
  unfold share
  simp only [rd_three, rd_left _ _ _ 0 _ (by decide), rd_left _ _ _ 1024 _ (by decide), rd_left _ _ _ 2048 _ (by decide),
    block_q2, (block_kv2 m c t _ _).1, (block_kv2 m c t _ _).2, block_w2,
    (host_w2 m c _ _ _ rfl).1, (host_w2 m c _ _ _ rfl).2.1, (host_w2 m c _ _ _ rfl).2.2]

theorem dx1_at : dx1 m c t (ix2 R C) = dx m c (tok t R) C := by
  unfold dx1 dx
  rw [grad_at, base_eq, second_eq, third_eq]

theorem xhat_at : xhat m c t (ix2 R C) = centred (row m c (tok t R)) C * inverse (row m c (tok t R)) := by
  unfold xhat
  rw [rd_two, block_xhat]

theorem inv_at : inv m c t (ix2 R 0) = inverse (row m c (tok t R)) := by
  unfold inv
  rw [rd_two, block_inv]

theorem scale_at : scale m c t (ix2 0 C) = gain m c C := by
  unfold scale
  rw [rd_two, block_gain]

/-- The gradient through the norm of a row `x` whose output has the gradient `h`, as the call computes it. -/
def through (x h : Fin 1024 → EReal) (C : Fin 1024) : EReal :=
  inverse x * (h C - Ideal.div (∑ j, h j) width
    - centred x C * inverse x * Ideal.div (∑ j, h j * (centred x j * inverse x)) width)

/-- The gradient before the norm at a token. -/
def ds (t : Fin 16384) (C : Fin 1024) : EReal := through (row m c t) (fun j => dx m c t j * gain m c j) C

theorem ds1_at : ds1 m c t (ix2 R C) = ds m c (tok t R) C := by
  have h : ∀ C, grad scratch (base m c t) (second m c t) (third m c t) (ix2 R C) = dx m c (tok t R) C := fun C => dx1_at m c t R C
  unfold ds1 ds through
  rw [normed_at, inv_at, xhat_at, scale_at]
  simp only [h, scale_at, xhat_at]

end Cert.Proof.Stream
-- ==== Proof.Stream.Through.lean ====
module

public import proofs.«01_k».proof.Proof.Stream.Grad
public import Mathlib.Tactic.Abel
public import Mathlib.Tactic.FieldSimp
public import Mathlib.Tactic.Ring
public import Mathlib.Tactic.Linarith
public import Mathlib.Tactic.Positivity

@[expose] public section

noncomputable section

/-! The gradient through the layer norm: the call's closed form equals the one that the derivative's rules give. -/

namespace Cert.Proof.Stream

open Idealize.ShloMosaic

/-- A value that is a real number. -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem Real'.sum {ι : Type} [Fintype ι] {f : ι → EReal} (h : ∀ i, Real' (f i)) : Real' (∑ i, f i) := by
  choose g hg using h
  refine ⟨∑ i, g i, ?_⟩
  rw [← coe_sum]
  exact Finset.sum_congr rfl fun i _ => hg i

theorem real_of_finite {x : EReal} (h : x ≠ ⊤) (h' : x ≠ ⊥) : Real' x := ⟨x.toReal, (EReal.coe_toReal h h').symm⟩

theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

theorem zero_div' {y : EReal} (hy : y ≠ 0) : Ideal.div 0 y = 0 := by
  unfold Ideal.div
  rw [if_neg hy, zero_mul]

theorem width_bits : width = ((1024 : ℝ) : EReal) := by
  simp [width, Ideal.ofBits, Ideal.ieee, -EReal.coe_mul, -EReal.coe_neg]
  norm_num

theorem alpha_real : Real' alpha := by
  refine ⟨11863283 / 8388608, ?_⟩
  simp [alpha, Ideal.ofBits, Ideal.ieee, -EReal.coe_mul, -EReal.coe_neg]
  norm_num

theorem eps_bits : ∃ e : ℝ, 0 < e ∧ eps = (e : EReal) := by
  refine ⟨10995116 / 2 ^ 40, by norm_num, ?_⟩
  simp [eps, Ideal.ofBits, Ideal.ieee, -EReal.coe_mul, -EReal.coe_neg]
  norm_num

/-- The rule's factor of the variance. -/
abbrev minusHalf : EReal := Ideal.ofBits .f32 0xBF000000#32

theorem minusHalf_bits : minusHalf = ((-(1 / 2) : ℝ) : EReal) := by
  simp [minusHalf, Ideal.ofBits, Ideal.ieee, -EReal.coe_mul, -EReal.coe_neg]
  norm_num

/-- The variance's share of the derivative. -/
def slope (x h : Fin 1024 → EReal) : EReal :=
  Ideal.div ((∑ j, centred x j * h j) * (minusHalf * Ideal.div (inverse x) (spread x))) width

/-- The gradient of the row less its mean. -/
def ofCentred (x h : Fin 1024 → EReal) (C : Fin 1024) : EReal :=
  h C * inverse x + centred x C * slope x h + slope x h * centred x C

/-- The gradient of the row as the derivative's rules give it. -/
def byRules (x h : Fin 1024 → EReal) (C : Fin 1024) : EReal :=
  ofCentred x h C + Ideal.div (∑ j, -ofCentred x h j) width

/-! ### A row with an infinite entry -/

theorem infinite_centred {x : Fin 1024 → EReal} {j : Fin 1024} (h : x j = ⊤ ∨ x j = ⊥) :
    centred x j * centred x j = ⊤ := by
  unfold centred
  generalize Ideal.div (∑ j, x j) width = M
  rcases h with h | h <;> rw [h]
  · induction M using EReal.rec <;> simp
  · simp

theorem square_nonneg (y : EReal) : 0 ≤ y * y := by
  induction y using EReal.rec with
  | bot => simp
  | top => simp
  | coe r => rw [← EReal.coe_mul]; exact EReal.coe_nonneg.mpr (mul_self_nonneg r)

theorem infinite_spread {x : Fin 1024 → EReal} {j : Fin 1024} (h : x j = ⊤ ∨ x j = ⊥) : spread x = ⊤ := by
  have hs : ∑ i, centred x i * centred x i = ⊤ := by
    refine top_le_iff.mp ?_
    rw [← infinite_centred h]
    exact Finset.single_le_sum (f := fun i => centred x i * centred x i) (fun i _ => square_nonneg _) (Finset.mem_univ j)
  obtain ⟨e, -, he⟩ := eps_bits
  unfold spread
  rw [hs, he, width_bits]
  unfold Ideal.div
  rw [if_neg (by norm_num), ← EReal.coe_inv, EReal.top_mul_coe_of_pos (by norm_num), EReal.top_add_coe]

theorem infinite {x h : Fin 1024 → EReal} {j : Fin 1024} (hj : x j = ⊤ ∨ x j = ⊥) (C : Fin 1024) :
    byRules x h C = through x h C := by
  have hv := infinite_spread hj
  have hr : inverse x = 0 := by unfold inverse; rw [hv]; rfl
  have hw : width ≠ 0 := by rw [width_bits]; norm_num
  have hq : slope x h = 0 := by
    unfold slope
    rw [hr, hv, zero_div' (by simp), mul_zero, mul_zero, zero_div' hw]
  have ho : ∀ C, ofCentred x h C = 0 := fun C => by
    unfold ofCentred
    rw [hr, hq, mul_zero, mul_zero, zero_mul, add_zero, add_zero]
  unfold byRules through
  simp only [ho, hr, zero_mul, neg_zero, Finset.sum_const_zero, zero_div' hw, add_zero]

/-! ### A row of real numbers -/

section Reals

variable (a b : Fin 1024 → ℝ)

def centredR (i : Fin 1024) : ℝ := a i - (∑ j, a j) / 1024

theorem sum_centredR : ∑ i, centredR a i = 0 := by
  unfold centredR
  rw [Finset.sum_sub_distrib, Finset.sum_const, Finset.card_univ, Fintype.card_fin, nsmul_eq_mul]
  push_cast
  ring

theorem centred_coe (i : Fin 1024) : centred (fun i => (a i : EReal)) i = (centredR a i : EReal) := by
  unfold centred centredR
  rw [coe_sum, width_bits, div_coe _ _ (by norm_num), ← EReal.coe_sub]

theorem finite (C : Fin 1024) :
    byRules (fun i => (a i : EReal)) (fun i => (b i : EReal)) C = through (fun i => (a i : EReal)) (fun i => (b i : EReal)) C := by
  obtain ⟨e, he, heps⟩ := eps_bits
  have hw : (1024 : ℝ) ≠ 0 := by norm_num
  set v : ℝ := (∑ j, centredR a j * centredR a j) / 1024 + e with hv
  have hv0 : 0 < v := by
    have : 0 ≤ ∑ j, centredR a j * centredR a j := Finset.sum_nonneg fun j _ => mul_self_nonneg _
    positivity
  have hspread : spread (fun i => (a i : EReal)) = (v : EReal) := by
    unfold spread
    simp only [centred_coe, ← EReal.coe_mul]
    rw [coe_sum, width_bits, div_coe _ _ hw, heps, ← EReal.coe_add]
  set r : ℝ := (Real.sqrt v)⁻¹ with hr
  have hinv : inverse (fun i => (a i : EReal)) = (r : EReal) := by
    unfold inverse
    rw [hspread, Ideal.rsqrt_coe, if_neg (not_lt.mpr hv0.le), if_neg hv0.ne']
  have hrr : r / v = r * r * r := by
    have : r * r = v⁻¹ := by rw [hr, ← mul_inv, Real.mul_self_sqrt hv0.le]
    rw [this, div_eq_mul_inv, mul_comm]
  set S : ℝ := ∑ j, centredR a j * b j with hS
  set q : ℝ := S * (-(1 / 2) * (r / v)) / 1024 with hq
  have hslope : slope (fun i => (a i : EReal)) (fun i => (b i : EReal)) = (q : EReal) := by
    unfold slope
    simp only [centred_coe, ← EReal.coe_mul]
    rw [coe_sum, hinv, hspread, minusHalf_bits, div_coe _ _ hv0.ne', ← EReal.coe_mul, ← EReal.coe_mul, width_bits, div_coe _ _ hw]
  have hof : ∀ C, ofCentred (fun i => (a i : EReal)) (fun i => (b i : EReal)) C
      = ((b C * r + centredR a C * q + q * centredR a C : ℝ) : EReal) := fun C => by
    unfold ofCentred
    rw [centred_coe, hinv, hslope]
    simp only [← EReal.coe_mul, ← EReal.coe_add]
  unfold byRules through
  simp only [hof, centred_coe, hinv, ← EReal.coe_mul, ← EReal.coe_neg]
  rw [coe_sum, coe_sum, coe_sum, width_bits, div_coe _ _ hw, div_coe _ _ hw, div_coe _ _ hw]
  simp only [← EReal.coe_mul, ← EReal.coe_sub, ← EReal.coe_add]
  refine congrArg _ ?_
  have h1 : ∑ j, -(b j * r + centredR a j * q + q * centredR a j) = -(r * ∑ j, b j) := by
    rw [Finset.sum_neg_distrib, Finset.sum_add_distrib, Finset.sum_add_distrib, ← Finset.sum_mul, ← Finset.sum_mul, ← Finset.mul_sum,
      sum_centredR]
    ring
  have h2 : ∑ j, b j * (centredR a j * r) = S * r := by
    rw [hS, Finset.sum_mul]
    exact Finset.sum_congr rfl fun j _ => by ring
  rw [h1, h2, hq, hrr]
  ring

end Reals

/-- The two agree for a real gradient, whatever the row. -/
theorem byRules_eq (x h : Fin 1024 → EReal) (hh : ∀ j, Real' (h j)) (C : Fin 1024) : byRules x h C = through x h C := by
  choose b hb using hh
  obtain rfl : h = fun j => (b j : EReal) := funext hb
  by_cases hx : ∃ j, x j = ⊤ ∨ x j = ⊥
  · obtain ⟨j, hj⟩ := hx
    exact infinite hj C
  · have hx' : ∀ j, Real' (x j) := fun j => real_of_finite (fun e => hx ⟨j, .inl e⟩) (fun e => hx ⟨j, .inr e⟩)
    choose a ha using hx'
    obtain rfl : x = fun j => (a j : EReal) := funext ha
    exact finite a b C

end Cert.Proof.Stream
-- ==== Proof.Stream.Split.lean ====
module

public import proofs.«01_k».proof.Proof.Stream.Through

@[expose] public section

noncomputable section

/-! The gradient of the layer's input, by whole rows of the cotangents instead of groups of heads. -/

namespace Cert.Proof.Stream

open Cert.StreamIdeal Cert.StreamIdeal.Gen
open Idealize.ShloMosaic Idealize.ShloMosaic.TcCoe Idealize.SL.Sem

/-- A sum over `n` blocks of 1024, block by block. -/
theorem sum_blocks (n : Nat) (f : Fin (n * 1024) → EReal) :
    ∑ j, f j = ∑ p : Fin n, ∑ j : Fin 1024, f ⟨p.val * 1024 + j.val, by omega⟩ := by
  rw [← Fintype.sum_prod_type' (f := fun (p : Fin n) (j : Fin 1024) => f ⟨p.val * 1024 + j.val, by omega⟩)]
  refine (Fintype.sum_equiv (finProdFinEquiv (m := n) (n := 1024)) _ _ fun p => ?_).symm
  congr 1
  apply Fin.ext
  show p.1.val * 1024 + p.2.val = p.2.val + 1024 * p.1.val
  omega

theorem sum_four (f : Fin 4096 → EReal) : ∑ j, f j
    = ∑ j : Fin 1024, f ⟨j.val, by omega⟩ + ∑ j, f (col4 1024 j) + ∑ j, f (col4 2048 j) + ∑ j, f (col4 3072 j) := by
  refine (sum_blocks 4 f).trans ?_
  rw [Fin.sum_univ_four]
  simp only [Fin.val_zero, zero_mul, zero_add]
  rfl

theorem sum_six (f : Fin 6144 → EReal) : ∑ j, f j
    = ∑ j : Fin 1024, f ⟨j.val, by omega⟩ + ∑ j, f (col6 1024 j) + ∑ j, f (col6 2048 j) + ∑ j, f (col6 3072 j)
      + ∑ j, f (col6 4096 j) + ∑ j, f (col6 5120 j) := by
  refine (sum_blocks 6 f).trans ?_
  rw [Fin.sum_univ_six]
  simp only [Fin.val_zero, zero_mul, zero_add]
  rfl

variable (m : (ℓ : Loc nD τ sig) → Buf (Elt Ideal) ℓ) (c : Dev nD) (t : Fin 16384) (C : Fin 1024)

theorem dx_eq : dx m c t C = (∑ j : Fin 6144, dkv m c t j * wkv m c C j + ∑ j : Fin 4096, dh m c t j * win m c C j) + alpha * ds2 m c t C := by
  rw [sum_four, sum_six]
  unfold dx group
  abel

theorem dx_real (hw : ∀ j, Real' (win m c C j)) (hk : ∀ j, Real' (wkv m c C j)) (hs : Real' (ds2 m c t C)) (hh : ∀ j, Real' (dh m c t j))
    (hd : ∀ j, Real' (dkv m c t j)) : Real' (dx m c t C) := by
  rw [dx_eq]
  exact ((Real'.sum fun j => (hd j).mul (hk j)).add (Real'.sum fun j => (hh j).mul (hw j))).add (alpha_real.mul hs)

/-- The gradient before the norm, as the derivative's rules give it. -/
theorem ds_eq (hx : ∀ j, Real' (dx m c t j)) (hg : ∀ j, Real' (gain m c j)) :
    ds m c t C = byRules (row m c t) (fun j => dx m c t j * gain m c j) C :=
  (byRules_eq _ _ (fun j => (hx j).mul (hg j)) C).symm

end Cert.Proof.Stream
-- ==== Proof.Stream.Sums.lean ====
module

public import proofs.«01_k».proof.Proof.Stream.Grad
public import Idealize.ShloMosaic.Lib.WritesUnit

@[expose] public section

set_option maxRecDepth 16384

noncomputable section

/-! The three rows of sums, which every point adds its tile to. -/

namespace Cert.Proof.Stream

open Cert.StreamIdeal Cert.StreamIdeal.Gen
open Idealize.ShloMosaic Idealize.ShloMosaic.TcCoe Idealize.SL.Sem

section Lines

theorem line_emb (o : Nat) (h : ∀ a, ![o, 0] a + S1x1024.size a ≤ S8x1024.size a) (r : Fin 8) (hr : r.val = o) (C : Fin 1024) :
    (line o h).emb (ix2 (0 : Fin 1) C) = ix2 r C := by
  refine funext fun b => Fin.ext ?_
  match b with
  | ⟨0, _⟩ => show o + 1 * 0 = r.val; omega
  | ⟨1, _⟩ => show 0 + 1 * C.val = C.val; omega

theorem line_mem (o : Nat) (h : ∀ a, ![o, 0] a + S1x1024.size a ≤ S8x1024.size a) (r : Fin 8) (C : Fin 1024)
    (hm : ix2 r C ∈ (line o h).set) : r.val = o := by
  obtain ⟨j, hj, e⟩ := (line o h).mem_set.mp hm 0
  have hj : j < 1 := hj
  have e : r.val = o + 1 * j := e
  omega

variable {κ : Kind} {sp : Space} (v : View sig κ sp S8x1024 .f32) (f : v.ty.Contents (Elt Ideal))

/-- A line just written, and the rest as it was. -/
theorem read_line (o : Nat) (h : ∀ a, ![o, 0] a + S1x1024.size a ≤ S8x1024.size a) (w : (line o h).shape.Idx → Elt Ideal .f32)
    (L : List (View.Piece (Elt Ideal) S8x1024 .f32)) (r : Fin 8) (C : Fin 1024) :
    v.read (Elt Ideal) (v.writes (Elt Ideal) f (⟨line o h, w⟩ :: L)) (ix2 r C)
      = if r.val = o then w (ix2 (0 : Fin 1) C) else v.read (Elt Ideal) (v.writes (Elt Ideal) f L) (ix2 r C) := by
  by_cases hr : r.val = o
  · rw [if_pos hr]
    exact View.read_writes_cons_rows_of_mem v f h w L (ix2 r C) (ix2 (0 : Fin 1) C) rfl (by show r.val = o + 0; omega) rfl
  · rw [if_neg hr]
    exact View.read_writes_cons_rows_of_not_mem v f h w L (ix2 r C) rfl (W := 1) rfl (by show r.val < o ∨ o + 1 ≤ r.val; omega)

theorem canon_line (o : Nat) (h : ∀ a, ![o, 0] a + S1x1024.size a ≤ S8x1024.size a) (w : (line o h).shape.Idx → Elt Ideal .f32)
    (L : List (View.Piece (Elt Ideal) S8x1024 .f32)) (r : Fin 8) (C : Fin 1024) :
    View.canon (⟨line o h, w⟩ :: L) (ix2 r C) = if r.val = o then w (ix2 (0 : Fin 1) C) else View.canon L (ix2 r C) := by
  by_cases hr : r.val = o
  · rw [if_pos hr]
    refine (congrArg (View.canon _) (line_emb o h r hr C).symm).trans (View.canon_cons_emb (line o h) _ _ _)
  · rw [if_neg hr]
    exact View.canon_cons_of_not_mem _ _ (fun hm => hr (line_mem o h r C hm))

theorem rd_line (a : Memref sig .tc .vmem S8x1024 .f32) (ha : a.IsWhole) (x : S8x1024.Idx → Elt Ideal .f32) (o : Nat)
    (h : ∀ a, ![o, 0] a + S1x1024.size a ≤ S8x1024.size a) (r : Fin 8) (hr : r.val = o) (C : Fin 1024) :
    rd a ha x (line o h) (ix2 (0 : Fin 1) C) = x (ix2 r C) := by
  unfold rd
  rw [View.readAt_eq_ld, ha.read_unread]
  exact congrArg x (line_emb o h r hr C)

theorem cov_line (L : List (View.Piece (Elt Ideal) S8x1024 .f32)) (o : Nat)
    (h : ∀ a, ![o, 0] a + S1x1024.size a ≤ S8x1024.size a) (r : Fin 8) (hr : r.val = o) (C : Fin 1024) :
    v.readCov L (line o h).toLoadRect (ix2 (0 : Fin 1) C) = View.canon L (ix2 r C) :=
  (congrFun (View.readCov_eq_canon' v _ _) _).trans (congrArg (View.canon L) (line_emb o h r hr C))

end Lines

variable (m : (ℓ : Loc nD τ sig) → Buf (Elt Ideal) ℓ) (c : Dev nD)

/-- What a token adds to each row of sums: to the scale's, the shift's and the bias's gradient. -/
def term (r : Fin 8) (t : Fin 16384) (C : Fin 1024) : EReal :=
  if r.val = 2 then ds m c t C else if r.val = 1 then dx m c t C
    else if r.val = 0 then dx m c t C * (centred (row m c t) C * inverse (row m c t)) else 0

theorem cleared_at (r : Fin 8) (C : Fin 1024) : View.canon (cleared (F := Ideal)) (ix2 r C) = (0 : EReal) := by
  unfold cleared
  refine (congrFun (View.canon_unit_zero (Val := Elt Ideal) (S := S8x1024) (e := .f32) hz inb_S8x1024_S8x1024_0_0 _) _).trans ?_
  pointwise [k0_pay208]

variable (t : Fin cfg0.N)

theorem scaleSum_eq (old : Vec Ideal S1x1024 .f32) (C : Fin 1024) :
    scaleSum scratch (base m c t) (second m c t) (third m c t) (xhat m c t) old (ix2 0 C)
      = old (ix2 0 C) + ∑ R : Fin 256, term m c 0 (tok t R) C := by
  refine (scaleSum_at _ _ _ _ _ _ C).trans (congrArg _ (Finset.sum_congr rfl fun R _ => ?_))
  exact congrArg₂ (fun a b : EReal => a * b) (dx1_at m c t R C) (xhat_at m c t R C)

theorem shiftSum_eq (old : Vec Ideal S1x1024 .f32) (C : Fin 1024) :
    k0_pay210 (dx1 m c t) old (ix2 0 C) = old (ix2 0 C) + ∑ R : Fin 256, term m c 1 (tok t R) C := by
  refine (shiftSum_at _ _ C).trans (congrArg _ (Finset.sum_congr rfl fun R _ => ?_))
  exact dx1_at m c t R C

theorem biasSum_eq (old : Vec Ideal S1x1024 .f32) (C : Fin 1024) :
    k0_pay1 (ds1 m c t) old (ix2 0 C) = old (ix2 0 C) + ∑ R : Fin 256, term m c 2 (tok t R) C := by
  refine (biasSum_at _ _ C).trans (congrArg _ (Finset.sum_congr rfl fun R _ => ?_))
  exact ds1_at m c t R C

/-- What a point adds. -/
def tile (r : Fin 8) (C : Fin 1024) : EReal := ∑ R : Fin 256, term m c r (tok t R) C

theorem tile_rest (r : Fin 8) (C : Fin 1024) (h0 : ¬r.val = 0) (h1 : ¬r.val = 1) (h2 : ¬r.val = 2) : tile m c t r C = 0 := by
  unfold tile term
  simp only [if_neg h2, if_neg h1, if_neg h0]
  exact Finset.sum_const_zero

theorem sums_B (h0 : ¬t.val % 64 = 0) (r : Fin 8) (C : Fin 1024) :
    (outsAt0 m c t.val t.isLt).2.2 (ix2 r C) = (before m c t h0 (ix2 r C) : EReal) + tile m c t r C := by
  rw [third_B m c t h0]
  unfold piece0 piece1 piece2
  rw [read_line, read_line, read_line]
  split
  · next h =>
    obtain rfl : r = 2 := Fin.ext h
    rw [biasSum_eq, rd_line _ _ _ 2 _ 2 rfl]
    rfl
  split
  · next h =>
    obtain rfl : r = 1 := Fin.ext h
    rw [shiftSum_eq, rd_line _ _ _ 1 _ 1 rfl]
    rfl
  split
  · next h =>
    obtain rfl : r = 0 := Fin.ext h
    rw [scaleSum_eq, rd_line _ _ _ 0 _ 0 rfl]
    rfl
  · next h2 h1 h0 =>
    rw [tile_rest m c t r C h0 h1 h2, add_zero, View.writes_nil, (hs0_17 t).read_unread]

theorem sums_A (h0 : t.val % 64 = 0) (r : Fin 8) (C : Fin 1024) :
    (outsAt0 m c t.val t.isLt).2.2 (ix2 r C) = tile m c t r C := by
  rw [third_A m c t h0]
  unfold cleared2 piece2
  rw [canon_line]
  split
  · next h =>
    obtain rfl : r = 2 := Fin.ext h
    rw [biasSum_eq, cov_line _ _ 2 _ 2 rfl]
    unfold cleared1 cleared0 piece1 piece0
    rw [canon_line, canon_line, if_neg (by decide), if_neg (by decide), cleared_at, zero_add]
    rfl
  unfold cleared1 piece1
  rw [canon_line]
  split
  · next h =>
    obtain rfl : r = 1 := Fin.ext h
    rw [shiftSum_eq, cov_line _ _ 1 _ 1 rfl]
    unfold cleared0 piece0
    rw [canon_line, if_neg (by decide), cleared_at, zero_add]
    rfl
  unfold cleared0 piece0
  rw [canon_line]
  split
  · next h =>
    obtain rfl : r = 0 := Fin.ext h
    rw [scaleSum_eq, cov_line _ _ 0 _ 0 rfl, cleared_at, zero_add]
    rfl
  · next h2 h1 h0 => rw [tile_rest m c t r C h0 h1 h2, cleared_at]

/-- After a point, the sums over all its and the earlier points' tokens. -/
theorem sums_at (r : Fin 8) (C : Fin 1024) : ∀ (n : Nat) (hn : n < cfg0.N),
    (outsAt0 m c n hn).2.2 (ix2 r C) = ∑ s : Fin (n + 1), tile m c ⟨s.val, by omega⟩ r C := by
  have hN : cfg0.N = 64 := N_0
  intro n
  induction n with
  | zero =>
    intro hn
    refine (sums_A m c ⟨0, hn⟩ rfl r C).trans ?_
    rw [Fin.sum_univ_one]
    rfl
  | succ n ih =>
    intro hn
    have h : ¬ (⟨n + 1, hn⟩ : Fin cfg0.N).val % 64 = 0 := by show ¬ (n + 1) % 64 = 0; omega
    refine (sums_B m c ⟨n + 1, hn⟩ h r C).trans ?_
    rw [Fin.sum_univ_castSucc]
    exact congrArg₂ (fun a b : EReal => a + b) (ih (by omega)) rfl

theorem tok_equiv (f : Fin 16384 → EReal) : ∑ t : Fin 64, ∑ R : Fin 256, f ⟨t.val * 256 + R.val, by omega⟩ = ∑ t : Fin 16384, f t := by
  rw [← Fintype.sum_prod_type' (f := fun (t : Fin 64) (R : Fin 256) => f ⟨t.val * 256 + R.val, by omega⟩)]
  refine Fintype.sum_equiv (finProdFinEquiv (m := 64) (n := 256)) _ _ fun p => ?_
  congr 1
  apply Fin.ext
  show p.1.val * 256 + p.2.val = p.2.val + 256 * p.1.val
  omega

/-- After the last point, the sums over all tokens. -/
theorem sums_end (r : Fin 8) (C : Fin 1024) (n : Nat) (h : n = 63) (hn : n < cfg0.N) :
    (outsAt0 m c n hn).2.2 (ix2 r C) = ∑ t : Fin 16384, term m c r t C := by
  subst h
  rw [sums_at]
  exact tok_equiv (fun t => term m c r t C)

end Cert.Proof.Stream
-- ==== Proof.Stream.Final.lean ====
module

public import proofs.«01_k».proof.Proof.Stream.Sums
public import proofs.«01_k».proof.Proof.Gen.StreamIdeal.Value

@[expose] public section

set_option maxRecDepth 16384

noncomputable section

/-! The call's three results, index by index. -/

namespace Cert.Proof.Stream

open Cert.StreamIdeal Cert.StreamIdeal.Gen Cert.StreamIdeal.Value
open Idealize.ShloMosaic Idealize.ShloMosaic.TcCoe Idealize.SL.Sem

variable (m : (ℓ : Loc nD τ sig) → Buf (Elt Ideal) ℓ) (c : Dev nD)

/-- The gradient before the norm, its rounded copy and the sums. -/
def result1 : Vec Ideal S16384x1024 .f32 := fun y => ds m c (y 0) (y 1)
def result2 : Vec Ideal S16384x1024 .bf16 := fun y => ds m c (y 0) (y 1)
def result3 : Vec Ideal S8x1024 .f32 := fun y => ∑ t : Fin 16384, term m c (y 0) t (y 1)

theorem outputs_by : ∀ t : Fin cfg0.N, win0_15.index t = ![t.val, 0] ∧ win0_16.index t = ![t.val, 0] ∧ win0_17.index t = ![0, 0] :=
  (by decide +kernel : ∀ t : Fin grid0.N, _)

theorem out1 (t : Fin cfg0.N) : (outsAt0 m c t.val t.isLt).1 = ds1 m c t := by
  by_cases h : t.val % 64 = 0
  · exact first_A m c t h
  · exact first_B m c t h

theorem out2 (t : Fin cfg0.N) : (outsAt0 m c t.val t.isLt).2.1 = ds1b m c t := by
  by_cases h : t.val % 64 = 0
  · exact second_A m c t h
  · exact second_B m c t h

theorem final1 : (dats m 0 c).arrAt 15 cfg0.N = result1 m c := by
  refine (dats m 0 c).arrAt_eq_of_covers 15 _ (by decide +kernel) fun t hf y => ?_
  blk_simp
  rw [after0_15, out1]
  revert y
  suffices h : ∀ (i : Fin 256) (j : Fin 1024), ds1 m c t (ix2 i j) = result1 m c ((win0_15.blk t).view.emb (ix2 i j)) from
    fun y => by rw [eq_ix2 (y : S256x1024.Idx)]; exact h _ _
  intro i j
  have e : (win0_15.blk t).view.emb (ix2 i j) = ix2 (tok t i) j := by
    have := (outputs_by t).1
    blk_ext [this, tok]
  rw [e, ds1_at]
  rfl

theorem final2 : (dats m 0 c).arrAt 16 cfg0.N = result2 m c := by
  refine (dats m 0 c).arrAt_eq_of_covers 16 _ (by decide +kernel) fun t hf y => ?_
  blk_simp
  rw [after0_16, out2]
  revert y
  suffices h : ∀ (i : Fin 256) (j : Fin 1024), ds1b m c t (ix2 i j) = result2 m c ((win0_16.blk t).view.emb (ix2 i j)) from
    fun y => by rw [eq_ix2 (y : S256x1024.Idx)]; exact h _ _
  intro i j
  have e : (win0_16.blk t).view.emb (ix2 i j) = ix2 (tok t i) j := by
    have := (outputs_by t).2.1
    blk_ext [this, tok]
  rw [e]
  exact ds1_at m c t i j

theorem last_of_flush : ∀ t : Fin cfg0.N, (cfg0.win 17).flush t = true → t.val = 63 :=
  (by decide +kernel : ∀ t : Fin grid0.N, _)

theorem final3 : (dats m 0 c).arrAt 17 cfg0.N = result3 m c := by
  refine (dats m 0 c).arrAt_eq_of_covers 17 _ (by decide +kernel) fun t hf y => ?_
  blk_simp
  rw [after0_17]
  revert y
  suffices h : ∀ (i : Fin 8) (j : Fin 1024), (outsAt0 m c t.val t.isLt).2.2 (ix2 i j) = result3 m c ((win0_17.blk t).view.emb (ix2 i j)) from
    fun y => by rw [eq_ix2 (y : S8x1024.Idx)]; exact h _ _
  intro i j
  have e : (win0_17.blk t).view.emb (ix2 i j) = ix2 i j := by
    have := (outputs_by t).2.2
    blk_ext [this]
  rw [e, sums_end m c i j t.val (last_of_flush t hf)]
  rfl

end Cert.Proof.Stream
-- ==== Proof.Stream.Finite.lean ====
module

public import proofs.«01_k».proof.Pre_finite
public import proofs.«01_k».proof.Proof.Stream.Through

@[expose] public section

set_option maxRecDepth 16384

noncomputable section

/-! What the precondition says: every entry of the gains, the weights and the cotangents is a real number. -/

namespace Cert.Proof.Stream.Finite

open Idealize.ShloMosaic Cert.Pre_finite

theorem facts : Cert.Pre_finite.Facts where
  bcast_S_S1024 := by decide
  reducesTo_S1024_S_d0 := by decide
  h_S_ := by decide
  bcast_S_S1024x4096 := by decide
  reducesTo_S1024x4096_S_d0_1 := by decide
  bcast_S_S1024x6144 := by decide
  reducesTo_S1024x6144_S_d0_1 := by decide
  bcast_S_S16384x1024 := by decide
  reducesTo_S16384x1024_S_d0_1 := by decide
  bcast_S_S16384x4096 := by decide
  reducesTo_S16384x4096_S_d0_1 := by decide
  bcast_S_S16384x6144 := by decide
  reducesTo_S16384x6144_S_d0_1 := by decide

attribute [local instance] facts

theorem both : ∀ a b : BitVec 1, IntOp.andi a b = 1#1 → a = 1#1 ∧ b = 1#1 := by
  unfold IntOp.andi
  decide

theorem all_of_fold {ι : Type} (x : ι → BitVec 1) : ∀ (l : List ι) (a : BitVec 1),
    l.foldl (fun r n => IntOp.andi r (x n)) a = 1#1 → a = 1#1 ∧ ∀ n ∈ l, x n = 1#1
  | [], _, h => ⟨h, fun _ hn => nomatch hn⟩
  | n :: l, a, h => by
    obtain ⟨h1, h2⟩ := all_of_fold x l _ h
    obtain ⟨ha, hn⟩ := both _ _ h1
    exact ⟨ha, fun k hk => (List.mem_cons.mp hk).elim (fun e => e ▸ hn) (h2 k)⟩

/-- If all the entries' conjunction holds, each does. -/
theorem all_of_reduce {S : Shape} {dims : List (Fin S.rank)} (x : IVec S 1) (init : IVec S_ 1) (h : S.ReducesTo dims S_) (hu : 0 < S_.numel) (j : S_.Idx)
    (e : Host.reduce IntOp.andi x init h hu j = 1#1) (i : S.Idx) : x i = 1#1 := by
  have hj : h.drop i = j := funext fun a => a.elim0
  have := (all_of_fold (fun n => x (S.rowMajor.symm n)) _ _ e).2 (S.rowMajor i)
    (List.mem_filter.mpr ⟨List.mem_finRange _, by rw [Equiv.symm_apply_apply]; exact decide_eq_true hj⟩)
  rwa [Equiv.symm_apply_apply] at this

theorem real_of_below (a : EReal) (h : Ideal.cmp .olt (max a (-a)) (Ideal.ofBits .f32 0x7F800000#32) = 1#1) : Real' a := by
  have ht : Ideal.ofBits .f32 0x7F800000#32 = ⊤ := by simp [Ideal.ofBits, Ideal.ieee, -EReal.coe_mul, -EReal.coe_neg]
  rw [ht] at h
  have hlt : max a (-a) < ⊤ := by
    by_contra hn
    simp [Ideal.cmp, hn] at h
  refine real_of_finite (fun e => ?_) (fun e => ?_) <;> rw [e] at hlt <;> simp at hlt

/-- The entries of an array that passes the test. -/
theorem real_of_test {S : Shape} {dims : List (Fin S.rank)} (x : FVec Ideal S .f32) (hb : S_.BroadcastsInDim S (![] : Fin 0 → Fin S.rank))
    (h : S.ReducesTo dims S_) (hu : 0 < S_.numel) (j : S_.Idx)
    (e : Host.reduce IntOp.andi (cmpf .olt (Host.absf x) (broadcastInDim S ![] hb (constant S_ .f32 0x7F800000#32))) (constantI S_ 1 1#1) h hu j = 1#1)
    (i : S.Idx) : Real' (x i) :=
  real_of_below (x i) (all_of_reduce _ _ h hu j e i)

theorem all_real (a0 : FVec Ideal S16384x1024 .f32) (a1 a2 : FVec Ideal S1024 .f32) (a3 : FVec Ideal S1024x4096 .f32) (a4 : FVec Ideal S1024x6144 .f32)
    (a5 : FVec Ideal S16384x1024 .f32) (a6 : FVec Ideal S16384x4096 .f32) (a7 : FVec Ideal S16384x6144 .f32)
    (h : fn a0 a1 a2 a3 a4 a5 a6 a7 = fun _ => 1#1) :
    (∀ i, Real' (a2 i)) ∧ (∀ i, Real' (a3 i)) ∧ (∀ i, Real' (a4 i)) ∧ (∀ i, Real' (a5 i)) ∧ (∀ i, Real' (a6 i)) ∧ ∀ i, Real' (a7 i) := by
  have j : S_.Idx := fun a => a.elim0
  have h := congrFun h j
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨_, h2⟩ := both _ _ h
  exact ⟨real_of_test a2 _ _ _ j h2, real_of_test a3 _ _ _ j h3, real_of_test a4 _ _ _ j h4, real_of_test a5 _ _ _ j h5,
    real_of_test a6 _ _ _ j h6, real_of_test a7 _ _ _ j h7⟩

end Cert.Proof.Stream.Finite

end
-- ==== Proof.Stream.Reference.lean ====
module

public import proofs.«01_k».proof.Proof.Stream.Through
public import proofs.«01_k».proof.Proof.Gen.StreamReferenceIdeal.Run

@[expose] public section

set_option maxRecDepth 16384

noncomputable section

/-! The reference's results, step by step and index by index. -/

namespace Cert.Proof.Stream.Reference

open Cert.StreamReferenceIdeal Cert.StreamReferenceIdeal.Gen
open Idealize.ShloMosaic Idealize.ShloMosaic.TcCoe Idealize.SL.Sem

abbrev Rows := FVec Ideal S16384x1024 .f32
abbrev Column := FVec Ideal S16384x1 .f32
abbrev Line := FVec Ideal S1024 .f32

/-- The scalars' array of zeros that every sum starts from. -/
abbrev zero : FVec Ideal S_ .f32 := constant S_ .f32 0x00000000#32
abbrev columnOf (n : BitVec 32) : Column := broadcastInDim S16384x1 ![] bcast_S_S16384x1 (constant S_ .f32 n)
abbrev wide (x : Column) : Rows := broadcastInDim S16384x1024 ![0, 1] bcast_S16384x1_S16384x1024_0_1 x
abbrev line (g : Line) : Rows := broadcastInDim S16384x1024 ![0, 1] bcast_S1x1024_S16384x1024_0_1 (broadcastInDim S1x1024 ![1] bcast_S1024_S1x1024_1 g)

def rows (s : Rows) (b : Line) : Rows := addf s (line b)

theorem rows_at (s : Rows) (b : Line) (t : Fin 16384) (C : Fin 1024) : rows s b (ix2 t C) = s (ix2 t C) + b (ix1 C) := by
  pointwise [rows]

/-- The mean of each row. -/
def meanOf (x : Rows) : Column :=
  Host.divf (broadcastInDim S16384x1 ![0] bcast_S16384_S16384x1_0 (Host.reduceAdd x zero reducesTo_S16384x1024_S16384_d1 h_S_)) (columnOf 0x44800000#32)

theorem meanOf_at (x : Rows) (t : Fin 16384) : meanOf x (ix2 t 0) = Ideal.div (∑ j : Fin 1024, x (ix2 t j)) width := by
  pointwise [meanOf]

def less (x : Rows) : Rows := subf x (wide (meanOf x))

theorem less_at (x : Rows) (t : Fin 16384) (C : Fin 1024) : less x (ix2 t C) = centred (fun j => x (ix2 t j)) C := by
  pointwise [less]
  rw [meanOf_at]
  rfl

def variance (x : Rows) : Column := addf (meanOf (mulf (less x) (less x))) (columnOf 0x3727C5AC#32)

theorem variance_at (x : Rows) (t : Fin 16384) : variance x (ix2 t 0) = spread (fun j => x (ix2 t j)) := by
  pointwise [variance]
  rw [meanOf_at]
  unfold spread
  simp only [← less_at]
  rfl

def root (x : Rows) : Column := Host.rsqrt (variance x)

theorem root_at (x : Rows) (t : Fin 16384) : root x (ix2 t 0) = inverse (fun j => x (ix2 t j)) := by
  pointwise [root]
  rw [variance_at]
  rfl

/-- The gradient of the layer's input. -/
def input (win : FVec Ideal S1024x4096 .f32) (wkv : FVec Ideal S1024x6144 .f32) (ds2 : Rows) (dh : FVec Ideal S16384x4096 .f32)
    (dkv : FVec Ideal S16384x6144 .f32) : Rows :=
  addf (addf (Host.dotGeneral dot_S16384x6144_S1024x6144_S16384x1024_1_1_0_0_n_n none dkv wkv)
      (Host.dotGeneral dot_S16384x4096_S1024x4096_S16384x1024_1_1_0_0_n_n none dh win))
    (mulf (broadcastInDim S16384x1024 ![] bcast_S_S16384x1024 (constant S_ .f32 0x3FB504F3#32)) ds2)

theorem input_at (win : FVec Ideal S1024x4096 .f32) (wkv : FVec Ideal S1024x6144 .f32) (ds2 : Rows) (dh : FVec Ideal S16384x4096 .f32)
    (dkv : FVec Ideal S16384x6144 .f32) (t : Fin 16384) (C : Fin 1024) :
    input win wkv ds2 dh dkv (ix2 t C) = (∑ j : Fin 6144, dkv (ix2 t j) * wkv (ix2 C j) + ∑ j : Fin 4096, dh (ix2 t j) * win (ix2 C j))
      + alpha * ds2 (ix2 t C) := by
  pointwise [input]

/-- The variance's share of the derivative, from the rows and the gradient of the norm's output. -/
def share (x h : Rows) : Column :=
  Host.divf (mulf (shapeCast _ (Host.reduceAdd (mulf (less x) h) zero reducesTo_S16384x1024_S16384_d1 h_S_) shapeCasts_S16384_S16384x1)
    (mulf (columnOf 0xBF000000#32) (Host.divf (root x) (variance x)))) (columnOf 0x44800000#32)

theorem share_at (x h : Rows) (t : Fin 16384) : share x h (ix2 t 0) = slope (fun j => x (ix2 t j)) (fun j => h (ix2 t j)) := by
  pointwise [share]
  rw [root_at, variance_at]
  unfold slope
  simp only [← less_at]

/-- A column spread over the rows, by a sum over its one entry. -/
abbrev spreadOut (x : Column) : Rows :=
  broadcastInDim S16384x1024 ![0] bcast_S16384_S16384x1024_0 (Host.reduceAdd x zero reducesTo_S16384x1_S16384_d1 h_S_)

theorem spreadOut_at (x : Column) (t : Fin 16384) (C : Fin 1024) : spreadOut x (ix2 t C) = x (ix2 t 0) := by
  pointwise []
  exact Fin.sum_univ_one _

def before (x h : Rows) : Rows :=
  addf (addf (mulf h (wide (root x))) (mulf (less x) (spreadOut (share x h)))) (mulf (spreadOut (share x h)) (less x))

theorem before_at (x h : Rows) (t : Fin 16384) (C : Fin 1024) :
    before x h (ix2 t C) = ofCentred (fun j => x (ix2 t j)) (fun j => h (ix2 t j)) C := by
  have e : wide (root x) (ix2 t C) = root x (ix2 t 0) := by pointwise []
  unfold ofCentred
  rw [← share_at, ← root_at, ← less_at, ← e, ← spreadOut_at (share x h) t C]
  rfl

def after (x h : Rows) : Rows :=
  addf (before x h) (spreadOut (Host.divf
    (shapeCast _ (Host.reduceAdd (Host.negf (before x h)) zero reducesTo_S16384x1024_S16384_d1 h_S_) shapeCasts_S16384_S16384x1) (columnOf 0x44800000#32)))

theorem after_at (x h : Rows) (t : Fin 16384) (C : Fin 1024) :
    after x h (ix2 t C) = byRules (fun j => x (ix2 t j)) (fun j => h (ix2 t j)) C := by
  unfold byRules
  simp only [← before_at]
  refine congrArg (fun z => before x h (ix2 t C) + z) ((spreadOut_at _ t C).trans ?_)
  pointwise []

/-- The sum of the rows. -/
def total (x : Rows) : Line :=
  Host.reduceAdd (shapeCast _ (Host.reduceAdd x zero reducesTo_S16384x1024_S1024_d0 h_S_) shapeCasts_S1024_S1x1024) zero reducesTo_S1x1024_S1024_d0 h_S_

theorem total_at (x : Rows) (C : Fin 1024) : total x (ix1 C) = ∑ t : Fin 16384, x (ix2 t C) := by
  pointwise [total]
  exact Fin.sum_univ_one _

def stack (a b d : Line) : FVec Ideal S8x1024 .f32 :=
  pad S8x1024 ![0, 0] ![5, 0] ![0, 0] (concatenate S3x1024 0 [⟨S1x1024, broadcastInDim S1x1024 ![1] bcast_S1024_S1x1024_1 a⟩,
    ⟨S1x1024, broadcastInDim S1x1024 ![1] bcast_S1024_S1x1024_1 b⟩, ⟨S1x1024, broadcastInDim S1x1024 ![1] bcast_S1024_S1x1024_1 d⟩]
    concatenates_S1x1024_S1x1024_S1x1024_S3x1024_d0) (sitofp .f32 (constantI S_ 32 0#32)) pads_S3x1024_S8x1024_050_000 h_S_

theorem stack_at (a b d : Line) (r : Fin 8) (C : Fin 1024) :
    stack a b d (ix2 r C) = if r.val = 0 then a (ix1 C) else if r.val = 1 then b (ix1 C) else if r.val = 2 then d (ix1 C) else 0 := by
  have z : (FloatOps.sitofp .f32 0#32 : Ideal .f32) = 0 := by
    show (((0#32 : BitVec 32).toInt : ℝ) : EReal) = 0
    simp
  fin_cases r <;> pointwise [stack] <;> exact z

section Run

variable (m : (ℓ : Loc nD τ sig) → Buf (Elt Ideal) ℓ) (c : Dev nD)

abbrev X : Rows := rows (m ((c.tc : Thread nD τ).loc main_arg0)) (m ((c.tc : Thread nD τ).loc main_arg1))
abbrev Y : Rows := input (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))
abbrev H : Rows := mulf (Y m c) (line (m ((c.tc : Thread nD τ).loc main_arg2)))

theorem first : Value.res_out0 m c = after (X m c) (H m c) := by
  unfold Value.res_out0 Value.res_main_v69
  rfl

theorem second : Value.res_out1 m c = truncf .bf16 (after (X m c) (H m c)) bitsLt_bf16_f32 := by
  unfold Value.res_out1 Value.res_main_v73
  rfl

theorem third : Value.res_out2 m c
    = stack (total (mulf (mulf (less (X m c)) (wide (root (X m c)))) (Y m c))) (total (Y m c)) (total (after (X m c) (H m c))) := by
  unfold Value.res_out2 Value.res_main_v78
  rfl

end Run

end Cert.Proof.Stream.Reference

end
-- ==== Proof.Stream.Claims.lean ====
module

public import proofs.«01_k».proof.Proof.Stream.Split
public import proofs.«01_k».proof.Proof.Stream.Final
public import proofs.«01_k».proof.Proof.Stream.Finite
public import proofs.«01_k».proof.Proof.Stream.Reference
public import proofs.«01_k».proof.Proof.Gen.Stream
public import proofs.«01_k».proof.Proof.Gen.StreamIdeal.Frame

@[expose] public section

set_option maxRecDepth 16384

noncomputable section

/-! The claims about the gradient through the layer's first norm. -/

namespace Cert.Proof.Stream

open Cert.StreamIdeal
open Idealize.ShloMosaic Idealize.ShloMosaic.TcCoe Idealize.SL.Sem

section Value

variable (m : (ℓ : Loc nD τ sig) → Buf (Elt Ideal) ℓ) (c : Dev nD)

/-- The reference's rows, its gradient of the layer's input and that of the norm's scaled output, of this program's arguments. -/
def rowsOf : Reference.Rows := Reference.rows (m (c, Proc.tc.devRef main_arg0)) (m (c, Proc.tc.devRef main_arg1))
def inputOf : Reference.Rows := Reference.input (m (c, Proc.tc.devRef main_arg3)) (m (c, Proc.tc.devRef main_arg4)) (m (c, Proc.tc.devRef main_arg5))
  (m (c, Proc.tc.devRef main_arg6)) (m (c, Proc.tc.devRef main_arg7))
def scaledOf : Reference.Rows := mulf (inputOf m c) (Reference.line (m (c, Proc.tc.devRef main_arg2)))

variable (t : Fin 16384) (C : Fin 1024)

theorem rowsOf_at : rowsOf m c (ix2 t C) = row m c t C := Reference.rows_at _ _ t C

theorem inputOf_at : inputOf m c (ix2 t C) = dx m c t C := (Reference.input_at _ _ _ _ _ t C).trans (dx_eq m c t C).symm

theorem scaledOf_at : scaledOf m c (ix2 t C) = dx m c t C * gain m c C := by
  rw [← inputOf_at]
  pointwise [scaledOf]

/-- Every entry that the precondition is about is a real number. -/
structure Real : Prop where
  gain : ∀ j, Real' (gain m c j)
  dx : ∀ t C, Real' (dx m c t C)

variable {m c} (hr : Real m c)

include hr

theorem after_ds : Reference.after (rowsOf m c) (scaledOf m c) (ix2 t C) = ds m c t C := by
  rw [Reference.after_at, ds_eq m c t C (hr.dx t) hr.gain]
  simp only [rowsOf_at, scaledOf_at]

theorem value1 : Reference.after (rowsOf m c) (scaledOf m c) = result1 m c := by
  funext y
  rw [eq_ix2 y]
  exact after_ds _ _ hr

theorem value2 : truncf .bf16 (Reference.after (rowsOf m c) (scaledOf m c)) Cert.StreamReferenceIdeal.Gen.bitsLt_bf16_f32 = result2 m c := by
  funext y
  rw [eq_ix2 y]
  exact after_ds _ _ hr

omit hr in
theorem scale_sum : Reference.total (mulf (mulf (Reference.less (rowsOf m c)) (Reference.wide (Reference.root (rowsOf m c)))) (inputOf m c)) (ix1 C)
    = ∑ t : Fin 16384, dx m c t C * (centred (row m c t) C * inverse (row m c t)) := by
  rw [Reference.total_at]
  refine Finset.sum_congr rfl fun t _ => ?_
  rw [← inputOf_at, ← funext (rowsOf_at t (m := m) (c := c)), ← Reference.less_at, ← Reference.root_at]
  pointwise []
  exact mul_comm _ _

/-- The reference's sums. -/
def sumsOf (m : (ℓ : Loc nD τ sig) → Buf (Elt Ideal) ℓ) (c : Dev nD) : FVec Ideal Cert.StreamReferenceIdeal.S8x1024 .f32 :=
  Reference.stack (Reference.total (mulf (mulf (Reference.less (rowsOf m c)) (Reference.wide (Reference.root (rowsOf m c)))) (inputOf m c)))
    (Reference.total (inputOf m c)) (Reference.total (Reference.after (rowsOf m c) (scaledOf m c)))

theorem sumsOf_at (r : Fin 8) : sumsOf m c (ix2 r C) = ∑ t : Fin 16384, term m c r t C := by
  unfold sumsOf term
  rw [Reference.stack_at, scale_sum, Reference.total_at, Reference.total_at]
  simp only [inputOf_at, after_ds _ _ hr]
  by_cases h0 : r.val = 0
  · simp [h0]
  by_cases h1 : r.val = 1
  · simp [h1]
  by_cases h2 : r.val = 2
  · simp [h2]
  simp [h0, h1, h2]

theorem value3 : sumsOf m c = result3 m c := by
  funext y
  rw [eq_ix2 y]
  exact sumsOf_at _ hr _

end Value

theorem real_of_pre {m : (ℓ : Loc nD τ sig) → Buf (Elt Ideal) ℓ} (h : Cert.Pre_StreamIdeal_finite (hPre_finite := Finite.facts) m) (c : Dev nD) :
    Real m c := by
  obtain ⟨h2, h3, h4, h5, h6, h7⟩ := Finite.all_real _ _ _ _ _ _ _ _ (h c)
  exact ⟨fun j => h2 _, fun t C => dx_real m c t C (fun j => h3 _) (fun j => h4 _) (h5 _) (fun j => h6 _) fun j => h7 _⟩

theorem frame_pi : Cert.quiescent_StreamIdeal := fun m ρ _ => Cert.StreamIdeal.Gen.frame m ρ

theorem frame_pi_pre : Cert.quiescent_StreamIdeal_pre_finite (hPre_finite := Finite.facts) := fun m ρ _ => Cert.StreamIdeal.Gen.frame m ρ

theorem frame_p : Cert.quiescent_Stream := by
  have same : (∀ (m : (ℓ : Loc nD τ sig) → Buf (Elt Bits) ℓ) (ρ : Dev nD → PrngReg), True →
      θ_run (defs (F := Bits)) (onTc (τ := τ) (main (F := Bits))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
        ∧ r.2.sem = fun _ => 0)) = Cert.quiescent_Stream := by sl_kernel_rfl
  exact same ▸ fun m ρ _ => Cert.StreamIdeal.Gen.frame m ρ

theorem frame_ri : Cert.quiescent_StreamReferenceIdeal := fun m ρ _ =>
  (θ_run Cert.StreamReferenceIdeal.defs _ _).mono (fun r h => ⟨fun c => (h c).2.2.2, sem_eq_zero_of_no_sems (by decide) r.2⟩)
    (Cert.StreamReferenceIdeal.Value.run (F := Ideal) m ρ)

theorem frame_ri_pre : Cert.quiescent_StreamReferenceIdeal_pre_finite (hPre_finite := Finite.facts) := fun m ρ _ => frame_ri m ρ trivial

theorem algebraic : Cert.algebraic_StreamIdeal_StreamReferenceIdeal_pre_finite (hPre_finite := Finite.facts) := by
  intro m ρ m' ρ' hpre hagree
  refine ⟨fun c => result1 m c, fun c => result2 m c, fun c => result3 m c,
    (θ_run defs _ _).mono (fun _ h c => ⟨(h c).1.trans (final1 m c), (h c).2.1.trans (final2 m c), (h c).2.2.1.trans (final3 m c), (h c).2.2.2⟩)
      (Value.run_blocks m ρ), ?_⟩
  refine (θ_run Cert.StreamReferenceIdeal.defs _ _).mono (fun _ h c => ?_) (Cert.StreamReferenceIdeal.Value.run (F := Ideal) m' ρ')
  obtain ⟨h0, h1, h2, h3, h4, h5, h6, h7⟩ := hagree c
  have hr := real_of_pre hpre c
  have hX : Reference.X m' c = rowsOf m c := by unfold Reference.X rowsOf; rw [h0, h1]
  have hY : Reference.Y m' c = inputOf m c := by unfold Reference.Y inputOf; rw [h3, h4, h5, h6, h7]
  have hH : Reference.H m' c = scaledOf m c := by unfold Reference.H scaledOf; rw [hY, h2]
  refine ⟨(h c).1.trans ((Reference.first m' c).trans ?_), (h c).2.1.trans ((Reference.second m' c).trans ?_),
    (h c).2.2.1.trans ((Reference.third m' c).trans ?_), (h c).2.2.2⟩
  · rw [hX, hH]; exact value1 hr
  · rw [hX, hH]; exact value2 hr
  · rw [hX, hH, hY]; exact value3 hr

end Cert.Proof.Stream

end
-- ==== Proof.AttnFwd.Tile.lean ====
module

public import proofs.«01_k».proof.Proof.Gen.AttnFwdIdeal.Value
public import proofs.«01_k».proof.Proof.Attn.Stores

@[expose] public section

set_option maxRecDepth 16384

noncomputable section

/-! The two blocks one step of the attention kernel leaves, head by head. -/

namespace Cert.AttnFwdIdeal.Attn

open Cert.AttnFwdIdeal Cert.AttnFwdIdeal.Gen
open Idealize.ShloMosaic Idealize.ShloMosaic.TcCoe Idealize.SL.Sem
open Cert.KernelIdeal.Attn (lanesA lanesB zeros flat stack rowsDot slopeA slopeB cols slab tiles tiles_of tiles_cover)

variable {F : FTy → Type} [FloatOps F] [Named F]

/-- What a pair of heads is computed from. -/
structure Pair (F : FTy → Type) where
  σ : Fin 2 → F .f32
  bias : FVec F S128x256 .f32
  q : Vec F S128x128 .bf16
  kp : Vec F S128x128 .bf16
  kc : Vec F S128x128 .bf16
  vp : Vec F S128x128 .bf16
  vc : Vec F S128x128 .bf16

/-- The lanes of a pair's two heads. -/
def keeps : Fin 2 → IVec S128x128 1 := ![lanesA, lanesB]

section Head

variable (P : Pair F) (a : Fin 2)

def scores : FVec F S128x256 .f32 :=
  addf (rowsDot (select (keeps a) (flat P.q) (zeros (F := F))) (stack P.kp P.kc)) (mulf (broadcast S128x256 (P.σ a)) P.bias)

def tops : FVec F S128x1 .f32 :=
  shapeCast S128x1 (multiReduction .maximumf [1] S128 (scores P a) 0xFF800000#32 reduces_S128x256_S128 (.inl rfl) rfl) shapeCasts_S128_S128x1

def weights : FVec F S128x256 .f32 := exp (subf (scores P a) (broadcastTo S128x256 (tops P a) broadcasts_S128x1_S128x256))

def totals : FVec F S128x1 .f32 :=
  shapeCast S128x1 (multiReduction .add [1] S128 (weights P a) 0x00000000#32 reduces_S128x256_S128 (.inl rfl) rfl) shapeCasts_S128_S128x1

def mixed : FVec F S128x128 .f32 :=
  mulf (matmul dot_S128x256_S256x128_S128x128_1_0_0_1_n_n none (truncf .bf16 (weights P a) bitsLt_bf16_f32) (stack P.vp P.vc)
      (constant S128x128 .f32 0x00000000#32))
    (broadcastTo S128x128 (divf (broadcast S128x1 (Scalar.ofBits .f32 0x3F800000#32)) (totals P a)) broadcasts_S128x1_S128x128)

def logs : FVec F S128x1 .f32 := addf (tops P a) (log (totals P a))

end Head

/-- A pair's two heads' results side by side. -/
def tile (P : Pair F) : FVec F S128x128 .f32 := select lanesA (mixed P 0) (mixed P 1)

/-- The first columns filled, column after column. -/
def upTo (s : ℕ → FVec F S128x1 .f32) : ℕ → FVec F S128x128 .f32
  | 0 => broadcast S128x128 (Scalar.ofBits .f32 0x00000000#32)
  | k + 1 => select (cmpi .eq (iota .tc S128x128 32 [1] iota_S128x128_d1_w32) (broadcast S128x128 (BitVec.ofNat 32 k)))
      (broadcastTo S128x128 (shapeCast S128x1 (s k) shapeCasts_S128x1_S128x1) broadcasts_S128x1_S128x128) (upTo s k)

/-- The columns of a pair, as they are loaded. -/
def loaded (x : Vec F S128x1024 .bf16) (hp : Fin 8) : Vec F S128x128 .bf16 :=
  View.ld x (Rect.unit (s := S128x1024) ![0, 128 * hp.val] S128x128.size
    (Fin.forall_fin_two.mpr ⟨le_refl _, by show 128 * hp.val + 128 ≤ 1024; omega⟩))

theorem loaded_eq (x : Vec F S128x1024 .bf16) (hp : Fin 8) : loaded x hp = cols x hp := by
  funext j
  exact View.ld_unit_apply_of x _ _ _ j _ (Fin.forall_fin_two.mpr ⟨(Nat.zero_add _).symm, rfl⟩)

/-- A pair of heads' operands out of the step's blocks. -/
def pairOf (i : grid0.Coords) (x0 x1 x2 x3 x4 : Vec F S128x1024 .bf16) (hp : Fin 8) : Pair F where
  σ := ![slopeA hp, slopeB hp]
  bias := k0_pay7 i
  q := loaded x0 hp
  kp := loaded x1 hp
  kc := loaded x2 hp
  vp := loaded x3 hp
  vc := loaded x4 hp

/-- The pair and the place in it of the `k`-th head. -/
abbrev pairNo (k : ℕ) : Fin 8 := ⟨k / 2 % 8, Nat.mod_lt _ (by norm_num)⟩
abbrev placeNo (k : ℕ) : Fin 2 := ⟨k % 2, Nat.mod_lt _ (by norm_num)⟩

variable (i : grid0.Coords) (x0 x1 x2 x3 x4 : Vec F S128x1024 .bf16)

/-- The statistics' block. -/
def stats : FVec F S128x128 .f32 := upTo (fun k => logs (pairOf i x0 x1 x2 x3 x4 (pairNo k)) (placeNo k)) 16

theorem out5_tiles : out0_5 i x0 x1 x2 x3 x4 = View.canon (tiles fun hp => tile (pairOf i x0 x1 x2 x3 x4 hp)) := by
  sl_kernel_rfl

theorem out6_whole : out0_6 i x0 x1 x2 x3 x4 = View.canon [⟨r0_8, stats i x0 x1 x2 x3 x4⟩] := by
  sl_kernel_rfl

theorem out5_eq : out0_5 i x0 x1 x2 x3 x4 = slab fun hp => tile (pairOf i x0 x1 x2 x3 x4 hp) := by
  rw [out5_tiles]
  exact funext fun y => View.canon_apply_of_pieces (slab _) _ (tiles_of _).mem y (tiles_cover _ y)

theorem out6_eq : out0_6 i x0 x1 x2 x3 x4 = stats i x0 x1 x2 x3 x4 := by
  rw [out6_whole]
  have hz : (![0, 0] : Fin S128x128.rank → ℕ) = fun _ => 0 := by funext a; fin_cases a <;> rfl
  exact View.canon_unit_zero (Val := Elt F) (S := S128x128) (e := .f32) hz inb_S128x128_S128x128_0_0 _

end Cert.AttnFwdIdeal.Attn

end
-- ==== Proof.AttnFwd.Math.lean ====
module

public import proofs.«01_k».proof.Proof.Attn.Math
public import proofs.«01_k».proof.Proof.Stream.Through

@[expose] public section

noncomputable section

/-! One head's attention over one block of queries and the 256 keys it may attend. -/

namespace Cert.AttnFwd

open Idealize.ShloMosaic
open Cert.AttnGrad (Valid Head.dist)
open Cert.Proof.Stream (Real' coe_sum)

/-- A head's operands: the block's number, the slope, the scaled queries, the keys and the values. -/
structure Head where
  n : ℕ
  σ : ℝ
  Q : Fin 128 → Fin 64 → EReal
  K : Fin 256 → Fin 64 → EReal
  V : Fin 256 → Fin 64 → EReal

namespace Head

variable (T : Head)

def score (i : Fin 128) (j : Fin 256) : EReal :=
  if Valid T.n i j then (∑ e, T.Q i e * T.K j e) + ((-(T.σ * (4 * Head.dist i j)) : ℝ) : EReal) else ⊥

/-- A query's greatest score. -/
def top (i : Fin 128) : EReal := Finset.univ.fold max ⊥ fun j => T.score i j
def weight (i : Fin 128) (j : Fin 256) : EReal := Ideal.exp (T.score i j - T.top i)
def total (i : Fin 128) : EReal := ∑ j, T.weight i j
def out (i : Fin 128) (e : Fin 64) : EReal := (∑ j, T.weight i j * T.V j e) * Ideal.div 1 (T.total i)
def logTotal (i : Fin 128) : EReal := T.top i + Ideal.log (T.total i)

theorem weight_of_not {i : Fin 128} {j : Fin 256} (h : ¬ Valid T.n i j) : T.weight i j = 0 := by
  unfold weight score
  rw [if_neg h, EReal.bot_sub]
  rfl

/-- Two heads that agree but on keys and values out of the window have the same results. -/
theorem congr (T U : Head) (hn : T.n = U.n) (hσ : T.σ = U.σ) (hQ : T.Q = U.Q)
    (hK : ∀ j : Fin 256, (0 < T.n ∨ 128 ≤ j.val) → T.K j = U.K j) (hV : ∀ j : Fin 256, (0 < T.n ∨ 128 ≤ j.val) → T.V j = U.V j) :
    T.score = U.score ∧ T.out = U.out ∧ T.logTotal = U.logTotal := by
  have hs : T.score = U.score := by
    funext i j
    unfold score
    rw [← hn]
    split
    · rename_i h
      rw [hσ, hQ, hK j h.2.2]
    · rfl
  have ht : T.top = U.top := by unfold top; rw [hs]
  have hw : T.weight = U.weight := by unfold weight; rw [hs, ht]
  have hl : T.total = U.total := by unfold total; rw [hw]
  refine ⟨hs, ?_, by unfold logTotal; rw [ht, hl]⟩
  funext i e
  unfold out
  rw [hl]
  congr 1
  refine Finset.sum_congr rfl fun j _ => ?_
  by_cases h : Valid T.n i j
  · rw [hw, hV j h.2.2]
  · rw [← hw, T.weight_of_not h, zero_mul, zero_mul]

variable {T} (hQ : ∀ i e, Real' (T.Q i e)) (hK : ∀ j, (0 < T.n ∨ 128 ≤ j.val) → ∀ e, Real' (T.K j e)) (i : Fin 128)

include hQ hK in
theorem score_real {j : Fin 256} (h : Valid T.n i j) : Real' (T.score i j) := by
  unfold score
  rw [if_pos h]
  exact (Real'.sum fun e => (hQ i e).mul (hK j h.2.2 e)).add ⟨_, rfl⟩

/-- A query's own key. -/
def own (i : Fin 128) : Fin 256 := ⟨i.val + 128, by omega⟩

theorem own_valid (n : ℕ) : Valid n i (own i) := ⟨le_refl _, Nat.le_add_right _ _, .inr (Nat.le_add_left _ _)⟩

include hQ hK

theorem top_real : Real' (T.top i) := by
  refine Cert.Proof.Stream.real_of_finite (ne_of_lt ?_) (ne_of_gt ?_)
  · refine Finset.fold_max_lt _ |>.2 ⟨bot_lt_top, fun j _ => ?_⟩
    by_cases h : Valid T.n i j
    · obtain ⟨x, hx⟩ := score_real hQ hK i h
      rw [hx]; exact EReal.coe_lt_top x
    · unfold score; rw [if_neg h]; exact bot_lt_top
  · obtain ⟨x, hx⟩ := score_real hQ hK i (own_valid i T.n)
    refine Finset.lt_fold_max _ |>.2 (.inr ⟨own i, Finset.mem_univ _, ?_⟩)
    rw [hx]; exact EReal.bot_lt_coe x

/-- The weights' sum is a positive number. -/
theorem total_pos : ∃ l : ℝ, 0 < l ∧ T.total i = (l : EReal) := by
  obtain ⟨t, ht⟩ := top_real hQ hK i
  have hw : ∀ j, ∃ p : ℝ, (0 ≤ p ∧ (Valid T.n i j → 0 < p)) ∧ T.weight i j = (p : EReal) := by
    intro j
    by_cases h : Valid T.n i j
    · obtain ⟨x, hx⟩ := score_real hQ hK i h
      refine ⟨Real.exp (x - t), ⟨(Real.exp_pos _).le, fun _ => Real.exp_pos _⟩, ?_⟩
      unfold weight
      rw [hx, ht, ← EReal.coe_sub, Ideal.exp_coe]
    · exact ⟨0, ⟨le_refl _, fun h' => absurd h' h⟩, by rw [T.weight_of_not h, EReal.coe_zero]⟩
  choose p hp he using hw
  refine ⟨∑ j, p j, Finset.sum_pos' (fun j _ => (hp j).1) ⟨own i, Finset.mem_univ _, (hp _).2 (own_valid i T.n)⟩, ?_⟩
  unfold total
  rw [← coe_sum]
  exact Finset.sum_congr rfl fun j _ => he j

/-- The weights divided before the values are summed, or the sum after. -/
theorem out_eq (e : Fin 64) : T.out i e = ∑ j, T.V j e * Ideal.div (T.weight i j) (T.total i) := by
  obtain ⟨l, hl, h⟩ := total_pos hQ hK i
  have hl' : ((l : ℝ) : EReal) ≠ 0 := by simpa using hl.ne'
  unfold out
  rw [h]
  unfold Ideal.div
  rw [if_neg hl', one_mul, ← EReal.coe_inv]
  have distrib : ∀ (s : Finset (Fin 256)) (f : Fin 256 → EReal), (∑ k ∈ s, f k) * ((l⁻¹ : ℝ) : EReal) = ∑ k ∈ s, f k * ((l⁻¹ : ℝ) : EReal) := by
    classical
    intro s f
    induction s using Finset.induction_on with
    | empty => simp
    | insert a s ha ih =>
      rw [Finset.sum_insert ha, Finset.sum_insert ha, ← ih]
      exact EReal.right_distrib_of_nonneg_of_ne_top (EReal.coe_nonneg.2 (inv_pos.2 hl).le) (EReal.coe_ne_top _) _ _
  rw [distrib]
  refine Finset.sum_congr rfl fun j _ => ?_
  rw [if_neg hl']
  ac_rfl

end Head

end Cert.AttnFwd

end
-- ==== Proof.AttnFwd.TileValue.lean ====
module

public import proofs.«01_k».proof.Proof.AttnFwd.Tile
public import proofs.«01_k».proof.Proof.AttnFwd.Math
public import proofs.«01_k».proof.Proof.Attn.TileValue
public import proofs.«01_k».proof.Proof.Attn.Bias

@[expose] public section

set_option maxRecDepth 16384

noncomputable section

/-! A pair of heads' results, read element by element. -/

namespace Cert.AttnFwdIdeal.Attn

open Cert.AttnFwdIdeal Cert.AttnFwdIdeal.Gen
open Idealize.ShloMosaic
open Cert.AttnGrad (Valid Head.dist bot_bits)
open Cert.AttnFwd (Head)
open Cert.KernelIdeal.Attn (lanesA lanesB zeros flat stack rowsDot lane Keeps lanesA_keeps lanesB_keeps sum_lanes select_lane)

/-- The head `a` of a pair, of slope `s`. -/
def headOf (P : Pair Ideal) (n : ℕ) (s : ℝ) (a : Fin 2) : Head where
  n := n
  σ := s
  Q i e := P.q (ix2 i (lane a e))
  K j e := if h : j.val < 128 then P.kp (ix2 ⟨j.val, h⟩ (lane a e)) else P.kc (ix2 ⟨j.val - 128, by omega⟩ (lane a e))
  V j e := if h : j.val < 128 then P.vp (ix2 ⟨j.val, h⟩ (lane a e)) else P.vc (ix2 ⟨j.val - 128, by omega⟩ (lane a e))

theorem keeps_keeps (a : Fin 2) : Keeps (keeps a) a := by
  have ha : a = 0 ∨ a = 1 := by omega
  rcases ha with rfl | rfl
  · exact lanesA_keeps
  · exact lanesB_keeps

/-- What the values of a pair's tile are read under. -/
structure Reads (P : Pair Ideal) (n : ℕ) (s : Fin 2 → ℝ) : Prop where
  bias : ∀ i j, P.bias (ix2 i j) = if Valid n i j then ((-(4 * Head.dist i j) : ℝ) : EReal) else ⊥
  slope : ∀ a, P.σ a = (s a : EReal)
  pos : ∀ a, 0 < s a

variable {P : Pair Ideal} {n : ℕ} {s : Fin 2 → ℝ} (hr : Reads P n s) (a : Fin 2) (i : Fin 128)

theorem one_bits : Ideal.ofBits .f32 1065353216#32 = 1 := by
  simp [Ideal.ofBits, Ideal.ieee, -EReal.coe_mul]
  norm_num

include hr

theorem scores_apply (j : Fin 256) : scores P a (ix2 i j) = (headOf P n (s a) a).score i j := by
  pointwise [scores, rowsDot, stack, flat, zeros]
  rw [sum_lanes (keeps_keeps a) i (fun x => P.q (ix2 i x) * if h : j.val < 128 then P.kp (ix2 ⟨j.val, h⟩ x) else P.kc (ix2 ⟨j.val - 128, by omega⟩ x)),
    hr.bias i j, hr.slope]
  unfold Head.score
  show _ = if Valid n i j then _ else _
  by_cases h : Valid n i j
  · rw [if_pos h, if_pos h, ← EReal.coe_mul, mul_neg]
    rfl
  · rw [if_neg h, if_neg h, EReal.coe_mul_bot_of_pos (hr.pos a), EReal.add_bot]

theorem tops_apply : tops P a (ix2 i 0) = (headOf P n (s a) a).top i := by
  pointwise [tops]
  rw [bot_bits]
  simp only [scores_apply hr]
  rfl

theorem weights_apply (j : Fin 256) : weights P a (ix2 i j) = (headOf P n (s a) a).weight i j := by
  pointwise [weights]
  rw [scores_apply hr, tops_apply hr]
  rfl

theorem totals_apply : totals P a (ix2 i 0) = (headOf P n (s a) a).total i := by
  pointwise [totals]
  simp only [weights_apply hr]
  rfl

theorem mixed_apply (e : Fin 64) : mixed P a (ix2 i (lane a e)) = (headOf P n (s a) a).out i e := by
  pointwise [mixed, stack, flat]
  simp only [weights_apply hr, totals_apply hr, one_bits]
  unfold Head.out
  rw [Fin.sum_univ_two_halves 128 128 rfl (fun j => (headOf P n (s a) a).weight i j * (headOf P n (s a) a).V j e)]
  congr 1

theorem logs_apply : logs P a (ix2 i 0) = (headOf P n (s a) a).logTotal i := by
  pointwise [logs]
  rw [tops_apply hr, totals_apply hr]
  rfl

theorem tile_apply (e : Fin 64) : tile P (ix2 i (lane a e)) = (headOf P n (s a) a).out i e := by
  pointwise [tile]
  refine select_lane lanesA_keeps i a e _ _ _ ?_ ?_
  · rintro rfl
    exact mixed_apply hr 0 i e
  · rintro rfl
    exact mixed_apply hr 1 i e

omit hr

theorem lane_word (x : Fin 128) (k : ℕ) (hk : k < 128) : IntOp.cmpi .eq (BitVec.ofNat 32 x.val) (BitVec.ofNat 32 k) = BitVec.ofBool (decide (x.val = k)) := by
  unfold IntOp.cmpi
  congr 1
  by_cases h : x.val = k
  · simp [h]
  · simp only [h, decide_false]
    refine beq_eq_false_iff_ne.2 fun e => h ?_
    have := congrArg BitVec.toNat e
    rw [BitVec.toNat_ofNat, BitVec.toNat_ofNat, Nat.mod_eq_of_lt (by omega), Nat.mod_eq_of_lt (by omega)] at this
    exact this

/-- Column `x` of the first `k` is the `x`-th head's, and the others are zero. -/
theorem upTo_apply (f : ℕ → FVec Ideal S128x1 .f32) (x : Fin 128) : ∀ k ≤ 128,
    upTo f k (ix2 i x) = if x.val < k then f x.val (ix2 i 0) else 0
  | 0, _ => by
    pointwise [upTo]
    simp
  | k + 1, hk => by
    have ih := upTo_apply f x k (by omega)
    unfold upTo
    generalize upTo f k = u at ih ⊢
    pointwise []
    rw [lane_word x k (by omega), ih]
    rcases Nat.lt_trichotomy x.val k with h | h | h
    · rw [if_pos h, if_pos (Nat.lt_succ_of_lt h), decide_eq_false (by omega)]; rfl
    · subst h
      rw [decide_eq_true rfl, if_pos (Nat.lt_succ_self x.val)]; rfl
    · rw [if_neg (Nat.lt_asymm h), if_neg (show ¬ x.val < k + 1 by omega), decide_eq_false (by omega)]; rfl

end Cert.AttnFwdIdeal.Attn

end
-- ==== Proof.AttnFwd.Args.lean ====
module

public import proofs.«01_k».proof.Proof.AttnFwd.Math
public import proofs.«01_k».proof.Proof.Attn.Args

@[expose] public section

noncomputable section

/-! The attention of one group of heads out of its three arguments. -/

namespace Cert.AttnFwd

open Idealize.ShloMosaic
open Cert.AttnGrad (token keyToken eighth byRow)

/-- The queries, keys and values, token by token. -/
structure Args where
  q : Fin 16384 → Fin 16 → Fin 64 → EReal
  k : Fin 16384 → Fin 16 → Fin 64 → EReal
  v : Fin 16384 → Fin 16 → Fin 64 → EReal

namespace Args

variable (A : Args)

/-- Head `h` over block `n` of residue class `r`. -/
def head (r : Fin 4) (n : Fin 32) (h : Fin 16) : Head where
  n := n.val
  σ := AttnGrad.slope h
  Q i e := A.q (token r n i) h e * eighth
  K j e := A.k (keyToken r n j) h e
  V j e := A.v (keyToken r n j) h e

/-- The results, row by row. -/
def outO : FVec Ideal ⟨2, ![16384, 1024]⟩ .f32 := fun y => byRow (fun r n i h e => (A.head r n h).out i e) (y 0) (y 1)

def logRow (R : Fin 16384) (h : Fin 16) : EReal :=
  (A.head ⟨R.val / 4096, by omega⟩ ⟨R.val % 4096 / 128, by omega⟩ h).logTotal ⟨R.val % 128, by omega⟩

/-- The sums' logarithms, row by row, in the first sixteen columns. -/
def outL : FVec Ideal ⟨2, ![16384, 128]⟩ .f32 := fun y => if h : (y 1).val < 16 then A.logRow (y 0) ⟨(y 1).val, h⟩ else 0

end Args

end Cert.AttnFwd

end
-- ==== Proof.AttnFwd.Blocks.lean ====
module

public import proofs.«01_k».proof.Proof.AttnFwd.TileValue
public import proofs.«01_k».proof.Proof.AttnFwd.Args
public import proofs.«01_k».proof.Proof.Attn.Result

@[expose] public section

set_option maxRecDepth 16384

noncomputable section

/-! The blocks staged at a point of the grid, out of the arguments. -/

namespace Cert.AttnFwdIdeal.Attn

open Cert.AttnFwdIdeal Cert.AttnFwdIdeal.Gen
open Cert.AttnGrad (token keyToken eighth)
open Cert.KernelIdeal.Attn (rowToken headIx laneIx rowOf rowToken_rowOf keyToken_cur keyToken_prev eighth_bits)
open Idealize.ShloMosaic Idealize.ShloMosaic.TcCoe

variable (m : (ℓ : Loc nD τ sig) → Buf (Elt Ideal) ℓ) (c : Dev nD)

def argsOf : Cert.AttnFwd.Args where
  q t h e := m (c, Proc.tc.devRef main_arg0) (ix4 0 t h e)
  k t h e := m (c, Proc.tc.devRef main_arg1) (ix4 0 t h e)
  v t h e := m (c, Proc.tc.devRef main_arg2) (ix4 0 t h e)

section Arrays

variable (R : Fin 16384) (x : Fin 1024) (X : FVec Ideal S16384x3072 .bf16) (hX : V m c main_v12 = X)
include hX

theorem q_at : X (ix2 R ⟨x.val, by omega⟩) = (argsOf m c).q (rowToken R) (headIx x) (laneIx x) * eighth := by
  rw [← hX, ← eighth_bits]
  unfold V
  simp only [hostOps0]
  after_reads_at
  simp only [StableHlo.upto, List.take_succ_cons, List.take_zero]
  after_reads_at
  rfl

theorem k_at : X (ix2 R ⟨1024 + x.val, by omega⟩) = (argsOf m c).k (rowToken R) (headIx x) (laneIx x) := by
  rw [← hX]
  unfold V
  simp only [hostOps0]
  after_reads_at
  simp only [StableHlo.upto, List.take_succ_cons, List.take_zero]
  after_reads_at
  rfl

theorem v_at : X (ix2 R ⟨2048 + x.val, by omega⟩) = (argsOf m c).v (rowToken R) (headIx x) (laneIx x) := by
  rw [← hX]
  unfold V
  simp only [hostOps0]
  after_reads_at
  rw [dif_neg (by omega), dif_neg (by omega)]
  simp only [StableHlo.upto, List.take_succ_cons, List.take_zero]
  after_reads_at
  unfold argsOf rowToken headIx laneIx
  congr 2
  · apply Fin.ext; show (2048 + x.val - 1024 - 1024) / 64 = x.val / 64; congr 1; omega
  · apply Fin.ext; show (2048 + x.val - 1024 - 1024) % 64 = x.val % 64; congr 1; omega

end Arrays

/-- The point of block `n` of residue class `r`. -/
def point (r : Fin 4) (n : Fin 32) : Fin cfg0.N := ⟨r.val * 32 + n.val, by show _ < 128; omega⟩

theorem index_in : ∀ (r : Fin 4) (n : Fin 32),
    win0_0.index (point r n) = ![r.val * 32 + n.val, 0]
    ∧ win0_1.index (point r n) = ![r.val * 32 + (n.val - 1), 1] ∧ win0_2.index (point r n) = ![r.val * 32 + n.val, 1]
    ∧ win0_3.index (point r n) = ![r.val * 32 + (n.val - 1), 2] ∧ win0_4.index (point r n) = ![r.val * 32 + n.val, 2] := by
  decide +kernel

variable (r : Fin 4) (n : Fin 32) (i : Fin 128) (x : Fin 1024)

theorem block_q : iblk m c 0 (point r n) (ix2 i x) = (argsOf m c).q (token r n i) (headIx x) (laneIx x) * eighth := by
  rw [← rowToken_rowOf, ← q_at m c _ x _ rfl]
  have e := (index_in r n).1
  blk_ext [iblk, e, rowOf]

theorem block_k : iblk m c 2 (point r n) (ix2 i x) = (argsOf m c).k (token r n i) (headIx x) (laneIx x) := by
  rw [← rowToken_rowOf, ← k_at m c _ x _ rfl]
  have e := (index_in r n).2.2.1
  blk_ext [iblk, e, rowOf]

theorem block_v : iblk m c 4 (point r n) (ix2 i x) = (argsOf m c).v (token r n i) (headIx x) (laneIx x) := by
  rw [← rowToken_rowOf, ← v_at m c _ x _ rfl]
  have e := (index_in r n).2.2.2.2
  blk_ext [iblk, e, rowOf]

section Before

variable (hn : 0 < n.val)
include hn

theorem block_kp : iblk m c 1 (point r n) (ix2 i x) = (argsOf m c).k (keyToken r n ⟨i.val, by omega⟩) (headIx x) (laneIx x) := by
  rw [keyToken_prev r n hn, ← rowToken_rowOf, ← k_at m c _ x _ rfl]
  have e := (index_in r n).2.1
  blk_ext [iblk, e, rowOf]

theorem block_vp : iblk m c 3 (point r n) (ix2 i x) = (argsOf m c).v (keyToken r n ⟨i.val, by omega⟩) (headIx x) (laneIx x) := by
  rw [keyToken_prev r n hn, ← rowToken_rowOf, ← v_at m c _ x _ rfl]
  have e := (index_in r n).2.2.2.1
  blk_ext [iblk, e, rowOf]

end Before

end Cert.AttnFwdIdeal.Attn

end
-- ==== Proof.AttnFwd.Final.lean ====
module

public import proofs.«01_k».proof.Proof.AttnFwd.Blocks

@[expose] public section

set_option maxRecDepth 16384

noncomputable section

/-! The two result arrays of the attention kernel after the run. -/

namespace Cert.AttnFwdIdeal.Attn

open Cert.AttnFwdIdeal Cert.AttnFwdIdeal.Gen
open Cert.AttnGrad (token keyToken byRow slope_pos)
open Cert.AttnFwd (Head)
open Cert.KernelIdeal.Attn (lane cols slab headIx laneIx rowOf keyToken_cur headOfPair column headIx_column laneIx_column
  slopeA slopeB slopeA_eq slopeB_eq pay6_apply byRow_rowOf pairIx laneOf laneOf_eq headOfPair_eq)
open Idealize.ShloMosaic Idealize.ShloMosaic.TcCoe

variable (m : (ℓ : Loc nD τ sig) → Buf (Elt Ideal) ℓ) (c : Dev nD)
variable (r : Fin 4) (n : Fin 32) (hp : Fin 8) (a : Fin 2) (i : Fin 128)

/-- A pair's operands at a block's point. -/
def pairAt : Pair Ideal :=
  pairOf (grid0.coords (point r n)) (iblk m c 0 (point r n)) (iblk m c 1 (point r n)) (iblk m c 2 (point r n)) (iblk m c 3 (point r n))
    (iblk m c 4 (point r n)) hp

abbrev slopes : Fin 2 → ℝ := fun a => AttnGrad.slope (headOfPair hp a)

theorem coord_point : (grid0.coords (point r n) 1).val = n.val := by
  revert r n; decide +kernel

theorem bias_word (p : grid0.Coords) : k0_pay7 (F := Ideal) p = Cert.KernelIdeal.Gen.k0_pay6 (F := Ideal) (BitVec.ofNat 32 (p 1).val) := rfl

theorem slopes_eq : (![slopeA hp, slopeB hp] : Fin 2 → Ideal .f32) a = ((slopes hp a : ℝ) : EReal) := by
  have ha : a = 0 ∨ a = 1 := by omega
  rcases ha with rfl | rfl
  · exact slopeA_eq hp
  · exact slopeB_eq hp

theorem pairAt_reads : Reads (pairAt m c r n hp) n.val (slopes hp) where
  bias i j := by
    show k0_pay7 (F := Ideal) (grid0.coords (point r n)) (ix2 i j) = _
    rw [bias_word, coord_point]
    exact pay6_apply n i j
  slope a := slopes_eq hp a
  pos _ := slope_pos _

/-- Blocks that agree with the tokens' are the keys of the window. -/
theorem window (before cur : FVec Ideal S128x1024 .bf16) (f : Fin 16384 → Fin 16 → Fin 64 → EReal)
    (hb : 0 < n.val → ∀ (i : Fin 128) (x : Fin 1024), before (ix2 i x) = f (keyToken r n ⟨i.val, by omega⟩) (headIx x) (laneIx x))
    (hc : ∀ (i : Fin 128) (x : Fin 1024), cur (ix2 i x) = f (token r n i) (headIx x) (laneIx x))
    (j : Fin 256) (hj : 0 < n.val ∨ 128 ≤ j.val) (e : Fin 64) :
    (if h : j.val < 128 then (loaded (F := Ideal) before hp (ix2 ⟨j.val, h⟩ (lane a e)) : EReal) else loaded (F := Ideal) cur hp (ix2 ⟨j.val - 128, by omega⟩ (lane a e)))
      = f (keyToken r n j) (headOfPair hp a) e := by
  rw [loaded_eq, loaded_eq]
  by_cases h : j.val < 128
  · rw [dif_pos h]
    show before (ix2 ⟨j.val, h⟩ (column hp a e)) = _
    rw [hb (hj.resolve_right (by omega)), headIx_column, laneIx_column]
  · rw [dif_neg h]
    show cur (ix2 ⟨j.val - 128, by omega⟩ (column hp a e)) = _
    rw [hc, headIx_column, laneIx_column, ← keyToken_cur]
    congr 2; apply Fin.ext; show 128 + (j.val - 128) = j.val; omega

theorem pairAt_head : (headOf (pairAt m c r n hp) n.val (slopes hp a) a).out = ((argsOf m c).head r n (headOfPair hp a)).out
    ∧ (headOf (pairAt m c r n hp) n.val (slopes hp a) a).logTotal = ((argsOf m c).head r n (headOfPair hp a)).logTotal := by
  refine (Head.congr (headOf (pairAt m c r n hp) n.val (slopes hp a) a) ((argsOf m c).head r n (headOfPair hp a)) rfl rfl ?_ ?_ ?_).2
  · funext i e
    show loaded (iblk m c 0 (point r n)) hp (ix2 i (lane a e)) = _
    rw [loaded_eq]
    show iblk m c 0 (point r n) (ix2 i (column hp a e)) = _
    rw [block_q, headIx_column, laneIx_column]; rfl
  · exact fun j hj => funext fun e => window r n hp a _ _ _ (fun hn i x => block_kp m c r n i x hn) (fun i x => block_k m c r n i x) j hj e
  · exact fun j hj => funext fun e => window r n hp a _ _ _ (fun hn i x => block_vp m c r n i x hn) (fun i x => block_v m c r n i x) j hj e

/-- The blocks a step leaves. -/
def outOf (t : Fin cfg0.N) : FVec Ideal S128x1024 .f32 :=
  out0_5 (grid0.coords t) (iblk m c 0 t) (iblk m c 1 t) (iblk m c 2 t) (iblk m c 3 t) (iblk m c 4 t)

def logsOf (t : Fin cfg0.N) : FVec Ideal S128x128 .f32 :=
  out0_6 (grid0.coords t) (iblk m c 0 t) (iblk m c 1 t) (iblk m c 2 t) (iblk m c 3 t) (iblk m c 4 t)

theorem outOf_point (x : Fin 1024) : outOf m c (point r n) (ix2 i x) = ((argsOf m c).head r n (headIx x)).out i (laneIx x) := by
  unfold outOf
  rw [out5_eq]
  show tile (pairAt m c r n (pairIx x)) (ix2 i (laneOf x)) = _
  rw [laneOf_eq, tile_apply (pairAt_reads m c r n (pairIx x)), (pairAt_head m c r n (pairIx x) _).1, headOfPair_eq]

theorem logsOf_point (x : Fin 128) :
    logsOf m c (point r n) (ix2 i x) = if h : x.val < 16 then ((argsOf m c).head r n ⟨x.val, h⟩).logTotal i else 0 := by
  unfold logsOf
  rw [out6_eq]
  unfold stats
  rw [upTo_apply i _ x 16 (by norm_num)]
  by_cases h : x.val < 16
  · rw [if_pos h, dif_pos h]
    show logs (pairAt m c r n (pairNo x.val)) (placeNo x.val) (ix2 i 0) = _
    rw [logs_apply (pairAt_reads m c r n (pairNo x.val)), (pairAt_head m c r n (pairNo x.val) (placeNo x.val)).2]
    congr 2
    apply Fin.ext; show 2 * (x.val / 2 % 8) + x.val % 2 = x.val; omega
  · rw [if_neg h, dif_neg h]

theorem index_out : ∀ (r : Fin 4) (n : Fin 32),
    win0_5.index (point r n) = ![r.val * 32 + n.val, 0] ∧ win0_6.index (point r n) = ![r.val * 32 + n.val, 0] := by
  decide +kernel

theorem point_eq (t : Fin cfg0.N) : ∃ (r : Fin 4) (n : Fin 32), t = point r n := by
  have ht : t.val < 128 := t.isLt
  exact ⟨⟨t.val / 32, by omega⟩, ⟨t.val % 32, by omega⟩, Fin.ext (by show t.val = t.val / 32 * 32 + t.val % 32; omega)⟩

theorem final_o : (dats m 0 c).arrAt 5 cfg0.N = (argsOf m c).outO := by
  refine (dats m 0 c).arrAt_eq_of_covers 5 _ (by decide +kernel) fun t hf y => ?_
  blk_simp
  rw [after0_5]
  revert y
  suffices h : ∀ (i : Fin 128) (x : Fin 1024), outOf m c t (ix2 i x) = (argsOf m c).outO ((win0_5.blk t).view.emb (ix2 i x)) from
    fun y => by rw [eq_ix2 (y : S128x1024.Idx)]; exact h _ _
  obtain ⟨r, n, rfl⟩ := point_eq t
  intro i x
  have e : (win0_5.blk (point r n)).view.emb (ix2 i x) = ix2 (rowOf r n i) x := by
    have := (index_out r n).1
    blk_ext [this, rowOf]
  rw [e, outOf_point]
  exact (byRow_rowOf (fun r n i h e => ((argsOf m c).head r n h).out i e) r n i x).symm

theorem logRow_rowOf (A : Cert.AttnFwd.Args) (h : Fin 16) : A.logRow (rowOf r n i) h = (A.head r n h).logTotal i := by
  unfold Cert.AttnFwd.Args.logRow
  congr 2
  · apply Fin.ext; show ((r.val * 32 + n.val) * 128 + i.val) / 4096 = r.val; omega
  · apply Fin.ext; show ((r.val * 32 + n.val) * 128 + i.val) % 4096 / 128 = n.val; omega
  · show ((r.val * 32 + n.val) * 128 + i.val) % 128 = i.val; omega

theorem final_l : (dats m 0 c).arrAt 6 cfg0.N = (argsOf m c).outL := by
  refine (dats m 0 c).arrAt_eq_of_covers 6 _ (by decide +kernel) fun t hf y => ?_
  blk_simp
  rw [after0_6]
  revert y
  suffices h : ∀ (i : Fin 128) (x : Fin 128), logsOf m c t (ix2 i x) = (argsOf m c).outL ((win0_6.blk t).view.emb (ix2 i x)) from
    fun y => by rw [eq_ix2 (y : S128x128.Idx)]; exact h _ _
  obtain ⟨r, n, rfl⟩ := point_eq t
  intro i x
  have e : (win0_6.blk (point r n)).view.emb (ix2 i x) = ix2 (rowOf r n i) x := by
    have := (index_out r n).2
    blk_ext [this, rowOf]
  rw [e, logsOf_point]
  show _ = if h : x.val < 16 then (argsOf m c).logRow (rowOf r n i) ⟨x.val, h⟩ else 0
  simp only [logRow_rowOf]

end Cert.AttnFwdIdeal.Attn

end
-- ==== Proof.AttnFwd.Reference.lean ====
module

public import proofs.«01_k».proof.Proof.AttnFwd.Args
public import proofs.«01_k».proof.Proof.Attn.Reference
public import proofs.«01_k».proof.Proof.Gen.AttnFwdReferenceIdeal.Run

@[expose] public section

set_option maxRecDepth 16384

noncomputable section

/-! The reference's results, read element by element. -/

namespace Cert.AttnFwdReferenceIdeal.Attn

open Cert.AttnFwdReferenceIdeal Cert.AttnFwdReferenceIdeal.Gen
open Cert.AttnGrad (token keyToken eighth byRow Valid sum_mul_eighth bot_bits)
open Cert.AttnFwd (Head)
open Cert.Proof.Stream (Real')
open Cert.ReferenceIdeal.Attn (Whole blocks keys mask biases blocks_apply keys_apply select_mask biases_apply eighth_word)
open Idealize.ShloMosaic Idealize.ShloMosaic.TcCoe

variable (q k v : Whole)

def scores : FVec Ideal S1x4x32x16x128x256 .f32 :=
  select mask
    (addf (mulf (Host.dotGeneral dot_S1x4x32x128x16x64_S1x4x32x256x16x64_S1x4x32x16x128x256_5_5_3_3_0124_0124 none (blocks q) (keys k))
      (broadcastInDim S1x4x32x16x128x256 ![] bcast_S_S1x4x32x16x128x256 (constant S_ .f32 0x3E000000#32))) biases)
    (broadcastInDim S1x4x32x16x128x256 ![] bcast_S_S1x4x32x16x128x256 (constant S_ .f32 0xFF800000#32))

/-- A value of every query, spread over the keys. -/
def spread (x : FVec Ideal S1x4x32x16x128x1 .f32) : FVec Ideal S1x4x32x16x128x256 .f32 :=
  broadcastInDim S1x4x32x16x128x256 ![0, 1, 2, 3, 4, 5] bcast_S1x4x32x16x128x1_S1x4x32x16x128x256_0_1_2_3_4_5 x

def tops : FVec Ideal S1x4x32x16x128x1 .f32 :=
  broadcastInDim S1x4x32x16x128x1 ![0, 1, 2, 3, 4] bcast_S1x4x32x16x128_S1x4x32x16x128x1_0_1_2_3_4
    (Host.reduce FloatOps.maximumf (scores q k) (constant S_ .f32 0xFF800000#32) reducesTo_S1x4x32x16x128x256_S1x4x32x16x128_d5 h_S_)

def weights : FVec Ideal S1x4x32x16x128x256 .f32 := Host.exp (subf (scores q k) (spread (tops q k)))

def totals : FVec Ideal S1x4x32x16x128x1 .f32 :=
  broadcastInDim S1x4x32x16x128x1 ![0, 1, 2, 3, 4] bcast_S1x4x32x16x128_S1x4x32x16x128x1_0_1_2_3_4
    (Host.reduceAdd (weights q k) (constant S_ .f32 0x00000000#32) reducesTo_S1x4x32x16x128x256_S1x4x32x16x128_d5 h_S_)

def mixed : FVec Ideal S1x4x32x128x16x64 .f32 :=
  transpose S1x4x32x128x16x64 [0, 1, 2, 5, 3, 4]
    (Host.dotGeneral dot_S1x4x32x256x16x64_S1x4x32x16x128x256_S1x4x32x16x64x128_3_5_5_4_0124_0123 none (keys v)
      (Host.divf (weights q k) (spread (totals q k))))
    transposes_S1x4x32x16x64x128_S1x4x32x128x16x64_0_1_2_5_3_4

def logs : FVec Ideal S1x4x32x128x16 .f32 :=
  transpose S1x4x32x128x16 [0, 1, 2, 4, 3] (shapeCast _ (addf (tops q k) (Host.log (totals q k))) shapeCasts_S1x4x32x16x128x1_S1x4x32x16x128)
    transposes_S1x4x32x16x128_S1x4x32x128x16_0_1_2_4_3

/-- The rows of the residue classes' order. -/
def rows (x : FVec Ideal S1x4x32x128x16x64 .f32) : FVec Ideal S16384x1024 .f32 :=
  shapeCast _ (transpose S4x4096x1024 [1, 0, 2] (shapeCast _ (shapeCast _ (transpose S1x4096x4x16x64 [0, 2, 1, 3, 4]
      (shapeCast _ x shapeCasts_S1x4x32x128x16x64_S1x4x4096x16x64) transposes_S1x4x4096x16x64_S1x4096x4x16x64_0_2_1_3_4)
      shapeCasts_S1x4096x4x16x64_S1x16384x16x64) shapeCasts_S1x16384x16x64_S4096x4x1024) transposes_S4096x4x1024_S4x4096x1024_1_0_2)
    shapeCasts_S4x4096x1024_S16384x1024

def logRows (x : FVec Ideal S1x4x32x128x16 .f32) : FVec Ideal S16384x16 .f32 :=
  shapeCast _ (transpose S4x4096x16 [1, 0, 2] (shapeCast _ (shapeCast _ (transpose S1x4096x4x16 [0, 2, 1, 3]
      (shapeCast _ x shapeCasts_S1x4x32x128x16_S1x4x4096x16) transposes_S1x4x4096x16_S1x4096x4x16_0_2_1_3)
      shapeCasts_S1x4096x4x16_S1x16384x16) shapeCasts_S1x16384x16_S4096x4x16) transposes_S4096x4x16_S4x4096x16_1_0_2)
    shapeCasts_S4x4096x16_S16384x16

def padded (x : FVec Ideal S16384x16 .f32) : FVec Ideal S16384x128 .f32 :=
  pad S16384x128 ![0, 0] ![0, 112] ![0, 0] x (sitofp .f32 (constantI S_ 32 0#32)) pads_S16384x16_S16384x128_000_01120 h_S_

section Read

variable (m : (ℓ : Loc nD τ sig) → Buf (Elt Ideal) ℓ) (c : Dev nD)

theorem res_o : Value.res_main_v97 m c = rows (mixed (m ((c.tc : Thread nD τ).loc main_arg0)) (m ((c.tc : Thread nD τ).loc main_arg1))
    (m ((c.tc : Thread nD τ).loc main_arg2))) := by
  sl_kernel_rfl

theorem res_l : Value.res_main_v101 m c = padded (logRows (logs (m ((c.tc : Thread nD τ).loc main_arg0)) (m ((c.tc : Thread nD τ).loc main_arg1)))) := by
  sl_kernel_rfl

end Read

/-- The arguments, token by token. -/
def argsOf : Cert.AttnFwd.Args where
  q t h e := q (ix4 0 t h e)
  k t h e := k (ix4 0 t h e)
  v t h e := v (ix4 0 t h e)

variable (r : Fin 4) (n : Fin 32) (h : Fin 16) (i : Fin 128) (j : Fin 256) (e : Fin 64)

/-- A head's operands, out of the blocks. -/
def headAt : Head where
  n := n.val
  σ := AttnGrad.slope h
  Q i e := blocks q (ix6 0 r n i h e) * eighth
  K j e := keys k (ix6 0 r n j h e)
  V j e := keys v (ix6 0 r n j h e)

theorem scores_apply : scores q k (ix6 0 r n h i j) = (headAt q k v r n h).score i j := by
  pointwise [scores]
  rw [select_mask, eighth_word, bot_bits, biases_apply, sum_mul_eighth]
  show _ = if Valid n.val i j then _ else _
  simp only [mul_right_comm _ _ eighth]
  rfl

theorem drop_key (y : S1x4x32x16x128x256.Idx) :
    reducesTo_S1x4x32x16x128x256_S1x4x32x16x128_d5.drop y = ix5 0 r n h i ↔ ∃ j, ix6 0 r n h i j = y := by
  constructor
  · intro hy
    refine ⟨y 5, ?_⟩
    funext a
    fin_cases a
    · exact Subsingleton.elim (α := Fin 1) _ _
    · exact (congrFun hy 1).symm
    · exact (congrFun hy 2).symm
    · exact (congrFun hy 3).symm
    · exact (congrFun hy 4).symm
    · rfl
  · rintro ⟨j, rfl⟩
    funext a
    fin_cases a <;> rfl

/-- A query's places, key by key. -/
def place : Fin 256 ↪ S1x4x32x16x128x256.Idx := ⟨fun j => ix6 0 r n h i j, fun _ _ e => congrFun e 5⟩

theorem places (p : S1x4x32x16x128x256.Idx → Prop) [DecidablePred p] (hp : ∀ y, p y ↔ ∃ j, ix6 0 r n h i j = y) :
    Finset.univ.filter p = Finset.univ.map (place r n h i) := by
  ext y
  rw [Finset.mem_filter, Finset.mem_map, hp y]
  exact ⟨fun ⟨_, j, e⟩ => ⟨j, Finset.mem_univ _, e⟩, fun ⟨j, _, e⟩ => ⟨Finset.mem_univ _, j, e⟩⟩

theorem tops_apply : tops q k (ix6 0 r n h i 0) = (headAt q k v r n h).top i := by
  pointwise [tops]
  rw [bot_bits, places r n h i _ (drop_key r n h i), Finset.fold_map]
  exact congrArg (fun f => Finset.fold max ⊥ f Finset.univ) (funext fun j => scores_apply q k v r n h i j)

theorem weights_apply : weights q k (ix6 0 r n h i j) = (headAt q k v r n h).weight i j := by
  pointwise [weights, spread]
  rw [scores_apply q k v, tops_apply q k v]
  rfl

theorem totals_apply : totals q k (ix6 0 r n h i 0) = (headAt q k v r n h).total i := by
  pointwise [totals]
  unfold Ideal.hostReduceAdd
  rw [zero_add, places r n h i _ (drop_key r n h i), Finset.sum_map]
  exact Finset.sum_congr rfl fun j _ => weights_apply q k v r n h i j

theorem mixed_apply : mixed q k v (ix6 0 r n i h e)
    = ∑ j, (headAt q k v r n h).V j e * Ideal.div ((headAt q k v r n h).weight i j) ((headAt q k v r n h).total i) := by
  pointwise [mixed, spread]
  exact Finset.sum_congr rfl fun j _ => by rw [weights_apply q k v, totals_apply q k v]; rfl

theorem squeeze_apply (x : FVec Ideal S1x4x32x16x128x1 .f32) :
    shapeCast S1x4x32x16x128 x shapeCasts_S1x4x32x16x128x1_S1x4x32x16x128 (ix5 0 r n h i) = x (ix6 0 r n h i 0) := by
  pointwise []

theorem turn_apply (x : FVec Ideal S1x4x32x16x128 .f32) :
    transpose S1x4x32x128x16 [0, 1, 2, 4, 3] x transposes_S1x4x32x16x128_S1x4x32x128x16_0_1_2_4_3 (ix5 0 r n i h) = x (ix5 0 r n h i) := by
  pointwise []

theorem addLog_apply {S : Shape} (a b : FVec Ideal S .f32) (y : S.Idx) : addf a (Host.log b) y = a y + Ideal.log (b y) := rfl

theorem logs_apply : logs q k (ix5 0 r n i h) = (headAt q k v r n h).logTotal i := by
  unfold logs
  rw [turn_apply, squeeze_apply, addLog_apply, tops_apply q k v, totals_apply q k v]
  rfl

theorem rows_apply (x : FVec Ideal S1x4x32x128x16x64 .f32) (R : Fin 16384) (y : Fin 1024) :
    rows x (ix2 R y) = byRow (fun r n i h e => x (ix6 0 r n i h e)) R y := by
  pointwise [rows]
  unfold byRow
  congr 2
  apply Fin.ext; show R.val % 4096 % 128 = R.val % 128; omega

theorem logRows_apply (x : FVec Ideal S1x4x32x128x16 .f32) (R : Fin 16384) (y : Fin 16) :
    logRows x (ix2 R y) = x (ix5 0 ⟨R.val / 4096, by omega⟩ ⟨R.val % 4096 / 128, by omega⟩ ⟨R.val % 128, by omega⟩ y) := by
  pointwise [logRows]
  congr 2
  apply Fin.ext; show R.val % 4096 % 128 = R.val % 128; omega

theorem padded_apply (x : FVec Ideal S16384x16 .f32) (R : Fin 16384) (y : Fin 128) :
    padded x (ix2 R y) = if hy : y.val < 16 then x (ix2 R ⟨y.val, hy⟩) else 0 := by
  pointwise [padded]
  by_cases hy : y.val < 16
  · rw [dif_pos hy, dif_pos (by omega)]
  · rw [dif_neg hy, dif_neg (by omega)]
    show (((0#32 : BitVec 32).toInt : ℝ) : EReal) = 0
    simp

theorem headAt_eq : (headAt q k v r n h).out = ((argsOf q k v).head r n h).out
    ∧ (headAt q k v r n h).logTotal = ((argsOf q k v).head r n h).logTotal := by
  refine (Head.congr (headAt q k v r n h) ((argsOf q k v).head r n h) rfl rfl ?_ ?_ ?_).2
  · funext i e
    exact congrArg (· * eighth) (blocks_apply r n h i e q)
  · exact fun j hj => funext fun e => keys_apply r n h j e k hj
  · exact fun j hj => funext fun e => keys_apply r n h j e v hj

theorem result_l : padded (logRows (logs q k)) = (argsOf q k v).outL := by
  funext y
  suffices h : ∀ (R : Fin 16384) (x : Fin 128), padded (logRows (logs q k)) (ix2 R x) = (argsOf q k v).outL (ix2 R x) from by
    rw [eq_ix2 y]; exact h _ _
  intro R x
  rw [padded_apply]
  show _ = if hx : x.val < 16 then (argsOf q k v).logRow R ⟨x.val, hx⟩ else 0
  by_cases hx : x.val < 16
  · rw [dif_pos hx, dif_pos hx, logRows_apply, logs_apply q k v, (headAt_eq q k v _ _ _).2]
    rfl
  · rw [dif_neg hx, dif_neg hx]

/-- The weights' quotients summed, where the queries and the keys are real numbers. -/
theorem result_o (hq : ∀ y, Real' (q y)) (hk : ∀ y, Real' (k y)) : rows (mixed q k v) = (argsOf q k v).outO := by
  funext y
  suffices h : ∀ (R : Fin 16384) (x : Fin 1024), rows (mixed q k v) (ix2 R x) = (argsOf q k v).outO (ix2 R x) from by
    rw [eq_ix2 y]; exact h _ _
  intro R x
  rw [rows_apply]
  show byRow _ R x = byRow _ R x
  congr 1
  funext r n i h e
  rw [mixed_apply, ← (headAt_eq q k v r n h).1]
  refine (Head.out_eq (fun i e => ?_) (fun j hj e => ?_) i e).symm
  · exact (show Real' (blocks q (ix6 0 r n i h e)) from by rw [blocks_apply]; exact hq _).mul ⟨1 / 8, rfl⟩
  · show Real' (keys k (ix6 0 r n j h e))
    rw [keys_apply r n h j e k hj]
    exact hk _

end Cert.AttnFwdReferenceIdeal.Attn

end
-- ==== Proof.AttnFwd.Claims.lean ====
module

public import proofs.«01_k».proof.Defs
public import proofs.«01_k».proof.Pre_finite_scores
public import proofs.«01_k».proof.Proof.Gen.AttnFwd
public import proofs.«01_k».proof.Proof.Gen.AttnFwdIdeal.Frame
public import proofs.«01_k».proof.Proof.Attn.Claims
public import proofs.«01_k».proof.Proof.Stream.Finite
public import proofs.«01_k».proof.Proof.AttnFwd.Final
public import proofs.«01_k».proof.Proof.AttnFwd.Reference

@[expose] public section

set_option maxRecDepth 16384

noncomputable section

/-! The claims about the attention of one group. -/

namespace Cert.Proof.AttnFwd

open Cert.AttnFwdIdeal Cert.AttnFwdIdeal.Attn
open Cert.Proof.Stream (Real')
open Cert.Proof.Stream.Finite (both real_of_test)
open Idealize.ShloMosaic Idealize.ShloMosaic.TcCoe Idealize.SL.Sem

theorem facts : Cert.Pre_finite_scores.Facts where
  bcast_S_S1x16384x16x64 := by decide
  reducesTo_S1x16384x16x64_S_d0_1_2_3 := by decide
  h_S_ := by decide

attribute [local instance] facts Cert.Proof.AttnClaims.words

/-- The precondition says that every entry of the queries and the keys is a real number. -/
theorem real_scores (q k v : FVec Ideal S1x16384x16x64 .f32) (h : Cert.Pre_finite_scores.fn q k v = fun _ => 1#1) :
    (∀ y, Real' (q y)) ∧ ∀ y, Real' (k y) := by
  obtain ⟨hq, hk⟩ := both _ _ (congrFun h ix0)
  exact ⟨real_of_test q _ _ _ _ hq, real_of_test k _ _ _ _ hk⟩

theorem frame_pi : Cert.quiescent_AttnFwdIdeal := fun m ρ _ => Cert.AttnFwdIdeal.Gen.frame m ρ

theorem frame_pi_pre : Cert.quiescent_AttnFwdIdeal_pre_finite_scores := fun m ρ _ => Cert.AttnFwdIdeal.Gen.frame m ρ

/-- With its constants read as their words the idealized kernel is the kernel. -/
theorem frame_p : Cert.quiescent_AttnFwd := by
  have same : (∀ (m : (ℓ : Loc nD τ sig) → Buf (Elt Bits) ℓ) (ρ : Dev nD → PrngReg), True →
      θ_run (defs (F := Bits)) (onTc (τ := τ) (main (F := Bits))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0)) = Cert.quiescent_AttnFwd := by sl_kernel_rfl
  exact same ▸ fun m ρ _ => Cert.AttnFwdIdeal.Gen.frame m ρ

theorem frame_ri : Cert.quiescent_AttnFwdReferenceIdeal := fun m ρ _ =>
  (θ_run Cert.AttnFwdReferenceIdeal.defs _ _).mono (fun r h => ⟨fun c => (h c).2.2, sem_eq_zero_of_no_sems (by decide) r.2⟩)
    (Cert.AttnFwdReferenceIdeal.Value.run (F := Ideal) m ρ)

theorem frame_ri_pre : Cert.quiescent_AttnFwdReferenceIdeal_pre_finite_scores := fun m ρ _ => frame_ri m ρ trivial

theorem preserves : Cert.preserves_AttnFwd_AttnFwdIdeal := by
  refine ⟨?_, ?_, ?_, ?_, ?_, ?_, ?_, ?_⟩ <;> exact IdealRules.named_const.statement _ _ _ _ _ rfl

theorem algebraic : Cert.algebraic_AttnFwdIdeal_AttnFwdReferenceIdeal_pre_finite_scores := by
  intro m ρ m' ρ' hpre hagree
  refine ⟨fun c => (argsOf m c).outO, fun c => (argsOf m c).outL,
    (θ_run defs _ _).mono (fun _ h c => ⟨(h c).1.trans (final_o m c), (h c).2.1.trans (final_l m c), (h c).2.2⟩) (Value.run_blocks m ρ), ?_⟩
  refine (θ_run Cert.AttnFwdReferenceIdeal.defs _ _).mono (fun _ h c => ?_) (Cert.AttnFwdReferenceIdeal.Value.run (F := Ideal) m' ρ')
  obtain ⟨h0, h1, h2⟩ := hagree c
  obtain ⟨hq, hk⟩ := real_scores _ _ _ (hpre c)
  refine ⟨(h c).1.trans ((Cert.AttnFwdReferenceIdeal.Attn.res_o m' c).trans ?_),
    (h c).2.1.trans ((Cert.AttnFwdReferenceIdeal.Attn.res_l m' c).trans ?_), (h c).2.2⟩
  · rw [h0, h1, h2]; exact Cert.AttnFwdReferenceIdeal.Attn.result_o _ _ _ hq hk
  · rw [h0, h1]; exact Cert.AttnFwdReferenceIdeal.Attn.result_l _ _ (m (c, Proc.tc.devRef main_arg2))

end Cert.Proof.AttnFwd

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Attn.Claims
public import proofs.«01_k».proof.Proof.Product.Dw
public import proofs.«01_k».proof.Proof.Product.DwPair
public import proofs.«01_k».proof.Proof.Product.Qkv
public import proofs.«01_k».proof.Proof.Product.Gate
public import proofs.«01_k».proof.Proof.Stream.Claims
public import proofs.«01_k».proof.Proof.AttnFwd.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
    Cert.Dw.Gen.facts, Cert.DwIdeal.Gen.facts, Cert.DwReferenceIdeal.Gen.facts,
    Cert.DwPair.Gen.facts, Cert.DwPairIdeal.Gen.facts, Cert.DwPairReferenceIdeal.Gen.facts,
    Cert.Qkv.Gen.facts, Cert.QkvIdeal.Gen.facts, Cert.QkvReferenceIdeal.Gen.facts,
    Cert.Gate.Gen.facts, Cert.GateIdeal.Gen.facts, Cert.GateReferenceIdeal.Gen.facts,
    Cert.Stream.Gen.facts, Cert.StreamIdeal.Gen.facts, Cert.StreamReferenceIdeal.Gen.facts,
    Cert.AttnFwd.Gen.facts, Cert.AttnFwdIdeal.Gen.facts, Cert.AttnFwdReferenceIdeal.Gen.facts, Proof.Stream.Finite.facts, Proof.AttnFwd.facts,
    AttnClaims.frame_p, AttnClaims.frame_pi, AttnClaims.frame_ri,
    Proof.Dw.frame_p, Proof.Dw.frame_pi, Proof.Dw.frame_ri, Proof.DwPair.frame_p, Proof.DwPair.frame_pi, Proof.DwPair.frame_ri,
    Proof.Qkv.frame_p, Proof.Qkv.frame_pi, Proof.Qkv.frame_ri, Proof.Gate.frame_p, Proof.Gate.frame_pi, Proof.Gate.frame_ri,
    Proof.Stream.frame_p, Proof.Stream.frame_pi, Proof.Stream.frame_pi_pre, Proof.Stream.frame_ri, Proof.Stream.frame_ri_pre,
    Proof.AttnFwd.frame_p, Proof.AttnFwd.frame_pi, Proof.AttnFwd.frame_pi_pre, Proof.AttnFwd.frame_ri, Proof.AttnFwd.frame_ri_pre,
    AttnClaims.preserves, AttnClaims.algebraic, trivial, Proof.Dw.algebraic, trivial, Proof.DwPair.algebraic,
    trivial, Proof.Qkv.algebraic, trivial, Proof.Gate.algebraic, trivial, Proof.Stream.algebraic,
    Proof.AttnFwd.preserves, Proof.AttnFwd.algebraic⟩

end Cert.Proof

end
